-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)) (v4 : (c : Dev Cert.Kernel3Ideal.nD) → Buf (Elt Ideal) ((c.tc : Thread Cert.Kernel3Ideal.nD Cert.Kernel3Ideal.τ).loc Cert.Kernel3Ideal.main_v18_4)) (v5 : (c : Dev Cert.Kernel3Ideal.nD) → Buf (Elt Ideal) ((c.tc : Thread Cert.Kernel3Ideal.nD Cert.Kernel3Ideal.τ).loc Cert.Kernel3Ideal.main_v18_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_v18_4) = v4 c
          ∧ r.2.mem ((c.tc : Thread Cert.Kernel3Ideal.nD Cert.Kernel3Ideal.τ).loc Cert.Kernel3Ideal.main_v18_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_v38) = v4 c
          ∧ r.2.mem ((c.tc : Thread Cert.Reference3Ideal.nD Cert.Reference3Ideal.τ).loc Cert.Reference3Ideal.main_v34) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8192x1024 : Shape := ⟨2, ![8192, 1024]⟩
abbrev S4x4x128x128 : Shape := ⟨4, ![4, 4, 128, 128]⟩
abbrev S8192x512 : Shape := ⟨2, ![8192, 512]⟩
abbrev S8192x256 : Shape := ⟨2, ![8192, 256]⟩
abbrev S8192x4608 : Shape := ⟨2, ![8192, 4608]⟩
abbrev S128x2048 : Shape := ⟨2, ![128, 2048]⟩
abbrev S_ : Shape := ⟨0, ![]⟩
abbrev S128x8x256 : Shape := ⟨3, ![128, 8, 256]⟩
abbrev S8x128x256 : Shape := ⟨3, ![8, 128, 256]⟩
abbrev S4x2048x1024 : Shape := ⟨3, ![4, 2048, 1024]⟩
abbrev S4x2048x512 : Shape := ⟨3, ![4, 2048, 512]⟩
abbrev S128x128 : Shape := ⟨2, ![128, 128]⟩
abbrev S128x512 : Shape := ⟨2, ![128, 512]⟩
abbrev S1x1x128x128 : Shape := ⟨4, ![1, 1, 128, 128]⟩
abbrev S1x2048x128 : Shape := ⟨3, ![1, 2048, 128]⟩
abbrev S4x128x128 : Shape := ⟨3, ![4, 128, 128]⟩
abbrev S128x1 : Shape := ⟨2, ![128, 1]⟩
abbrev S128 : Shape := ⟨1, ![128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x128x128 : Shape := ⟨3, ![1, 128, 128]⟩
abbrev S1x640x128 : Shape := ⟨3, ![1, 640, 128]⟩
abbrev S640x128 : Shape := ⟨2, ![640, 128]⟩
abbrev S128x640 : Shape := ⟨2, ![128, 640]⟩

abbrev nBuf : Space → Nat
  | .hbm => 68
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S4x4x128x128, .bf16⟩
  | .hbm, ⟨2, _⟩ => ⟨S8192x1024, .bf16⟩
  | .hbm, ⟨3, _⟩ => ⟨S8192x512, .bf16⟩
  | .hbm, ⟨4, _⟩ => ⟨S8192x256, .f32⟩
  | .hbm, ⟨5, _⟩ => ⟨S8192x4608, .f32⟩
  | .hbm, ⟨6, _⟩ => ⟨S128x2048, .i32⟩
  | .hbm, ⟨7, _⟩ => ⟨S128x2048, .i32⟩
  | .hbm, ⟨8, _⟩ => ⟨S_, .i32⟩
  | .hbm, ⟨9, _⟩ => ⟨S128x2048, .i32⟩
  | .hbm, ⟨10, _⟩ => ⟨S128x2048, .i32⟩
  | .hbm, ⟨11, _⟩ => ⟨S128x2048, .i1⟩
  | .hbm, ⟨12, _⟩ => ⟨S_, .i32⟩
  | .hbm, ⟨13, _⟩ => ⟨S128x2048, .i32⟩
  | .hbm, ⟨14, _⟩ => ⟨S128x2048, .i32⟩
  | .hbm, ⟨15, _⟩ => ⟨S_, .i32⟩
  | .hbm, ⟨16, _⟩ => ⟨S128x2048, .i32⟩
  | .hbm, ⟨17, _⟩ => ⟨S128x2048, .i32⟩
  | .hbm, ⟨18, _⟩ => ⟨S128x2048, .i1⟩
  | .hbm, ⟨19, _⟩ => ⟨S128x2048, .i1⟩
  | .hbm, ⟨20, _⟩ => ⟨S_, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S128x2048, .f32⟩
  | .hbm, ⟨25, _⟩ => ⟨S128x2048, .bf16⟩
  | .hbm, ⟨26, _⟩ => ⟨S128x8x256, .bf16⟩
  | .hbm, ⟨27, _⟩ => ⟨S8x128x256, .bf16⟩
  | .hbm, ⟨28, _⟩ => ⟨S4x2048x1024, .bf16⟩
  | .hbm, ⟨29, _⟩ => ⟨S4x2048x512, .bf16⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .i1⟩
  | .hbm, ⟨53, _⟩ => ⟨S_, .i32⟩
  | .hbm, ⟨54, _⟩ => ⟨S128x128, .i32⟩
  | .hbm, ⟨55, _⟩ => ⟨S128x128, .i1⟩
  | .hbm, ⟨56, _⟩ => ⟨S_, .i32⟩
  | .hbm, ⟨57, _⟩ => ⟨S128x128, .i32⟩
  | .hbm, ⟨58, _⟩ => ⟨S128x128, .i1⟩
  | .hbm, ⟨59, _⟩ => ⟨S128x128, .i1⟩
  | .hbm, ⟨60, _⟩ => ⟨S128x128, .i1⟩
  | .hbm, ⟨61, _⟩ => ⟨S_, .f32⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S128x128, .bf16⟩
  | .hbm, ⟨67, _⟩ => ⟨S8192x1024, .bf16⟩
  | .local _ .vmem, ⟨0, _⟩ => ⟨S128x512, .bf16⟩
  | .local _ .vmem, ⟨1, _⟩ => ⟨S128x512, .bf16⟩
  | .local _ .vmem, ⟨2, _⟩ => ⟨S1x1x128x128, .bf16⟩
  | .local _ .vmem, ⟨3, _⟩ => ⟨S1x1x128x128, .bf16⟩
  | .local _ .vmem, ⟨4, _⟩ => ⟨S1x1x128x128, .bf16⟩
  | .local _ .vmem, ⟨5, _⟩ => ⟨S1x1x128x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S128x128, .f32⟩
  | .local _ .vmem, ⟨15, _⟩ => ⟨S128x128, .f32⟩
  | .local _ .vmem, ⟨16, _⟩ => ⟨S128x512, .f32⟩
  | .local _ .vmem, ⟨17, _⟩ => ⟨S128x512, .f32⟩
  | .local _ .vmem, ⟨18, _⟩ => ⟨S128x128, .bf16⟩
  | .local _ .vmem, ⟨19, _⟩ => ⟨S8x128x256, .bf16⟩
  | .local _ .vmem, ⟨20, _⟩ => ⟨S128x512, .bf16⟩
  | .local _ .vmem, ⟨21, _⟩ => ⟨S128x512, .bf16⟩
  | .local _ .vmem, ⟨22, _⟩ => ⟨S4x128x128, .f32⟩
  | .local _ .vmem, ⟨23, _⟩ => ⟨S4x128x128, .f32⟩
  | .local _ .vmem, ⟨24, _⟩ => ⟨S4x128x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_cst_12 : Ref sig .tc := ⟨.hbm, 62, rfl⟩
abbrev main_call1_v0 : Ref sig .tc := ⟨.hbm, 63, rfl⟩
abbrev main_call1_v1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![4, 2, 16], ![false, false, false]⟩

@[reducible] def k0_t1_loop (i : grid0.Coords) : Scf.Loop 32 :=
  let c0_i32_215 : BitVec 32 := 0#32
  let arg2 : BitVec 32 := BitVec.ofNat 32 (i 2).val
  let c128_i32 : BitVec 32 := 128#32
  let v0 : BitVec 32 := Scalar.muli arg2 c128_i32
  let c128_i32_205 : BitVec 32 := 128#32
  let v662 : BitVec 32 := Scalar.addi v0 c128_i32_205
  let c1_i32_206 : BitVec 32 := 1#32
  let v663 : BitVec 32 := Scalar.subi v662 c1_i32_206
  let c0_i32_207 : BitVec 32 := 0#32
  let v665 : BitVec 1 := Scalar.cmpi .sgt v663 c0_i32_207
  let v666 : BitVec 32 := Scalar.extui v665
  let c0_i32_208 : BitVec 32 := 0#32
  let v667 : BitVec 1 := Scalar.cmpi .slt v663 c0_i32_208
  let v668 : BitVec 32 := Scalar.extui v667
  let v669 : BitVec 32 := Scalar.subi v666 v668
  let c256_i32 : BitVec 32 := 256#32
  let c0_i32_209 : BitVec 32 := 0#32
  let v670 : BitVec 1 := Scalar.cmpi .sgt c256_i32 c0_i32_209
  let v671 : BitVec 32 := Scalar.extui v670
  let c0_i32_210 : BitVec 32 := 0#32
  let v672 : BitVec 1 := Scalar.cmpi .slt c256_i32 c0_i32_210
  let v673 : BitVec 32 := Scalar.extui v672
  let v674 : BitVec 32 := Scalar.subi v671 v673
  let v675 : BitVec 1 := Scalar.cmpi .ne v669 v674
  let v676 : BitVec 32 := Scalar.remsi v663 c256_i32
  let c0_i32_211 : BitVec 32 := 0#32
  let v677 : BitVec 1 := Scalar.cmpi .ne v676 c0_i32_211
  let v678 : BitVec 1 := Scalar.andi v675 v677
  let v664 : BitVec 32 := Scalar.divsi v663 c256_i32
  let c1_i32_212 : BitVec 32 := 1#32
  let v679 : BitVec 32 := Scalar.subi v664 c1_i32_212
  let v680 : BitVec 32 := Scalar.select v678 v679 v664
  let c1_i32_213 : BitVec 32 := 1#32
  let v681 : BitVec 32 := Scalar.addi v680 c1_i32_213
  let v682 : BitVec 32 := Scalar.subi v681 c0_i32_215
  let c1_i32_216 : BitVec 32 := 1#32
  let v684 : BitVec 32 := Scalar.divsi v682 c1_i32_216
  let v685 : BitVec 32 := Scalar.muli v684 c1_i32_216
  let v686 : BitVec 32 := Scalar.addi c0_i32_215 v685
  let c1_i32_217 : BitVec 32 := 1#32
  ⟨c0_i32_215, v686, c1_i32_217⟩
def k0_mult1 (i : grid0.Coords) (k0_t1 : Fin (k0_t1_loop i).trips) : BitVec 32 :=
  let c0_i32_215 : BitVec 32 := 0#32
  let c1_i32_217 : BitVec 32 := 1#32
  let arg18 : BitVec 32 := Scf.iv c0_i32_215 c1_i32_217 k0_t1
  let c256_i32_316 : BitVec 32 := 256#32
  let v926 : BitVec 32 := Scalar.muli arg18 c256_i32_316
  v926
def k0_off1 (i : grid0.Coords) (k0_t1 : Fin (k0_t1_loop i).trips) : Fin 3 → Nat :=
  let c0_317 : Index := 0#32
  let c0_i32_215 : BitVec 32 := 0#32
  let c1_i32_217 : BitVec 32 := 1#32
  let arg18 : BitVec 32 := Scf.iv c0_i32_215 c1_i32_217 k0_t1
  let c256_i32_316 : BitVec 32 := 256#32
  let v926 : BitVec 32 := Scalar.muli arg18 c256_i32_316
  let v927 : BitVec 32 := v926
  let v928 : Index := Scalar.indexCast v927
  let c0_318 : Index := 0#32
  ![0, v928.toNat, 0]
def k0_off2 (i : grid0.Coords) (k0_t1 : Fin (k0_t1_loop i).trips) : Fin 3 → Nat :=
  let c0_i32_215 : BitVec 32 := 0#32
  let c1_i32_217 : BitVec 32 := 1#32
  let arg18 : BitVec 32 := Scf.iv c0_i32_215 c1_i32_217 k0_t1
  let v937 : Index := Scalar.indexCast arg18
  let c0_321 : Index := 0#32
  let c0_322 : Index := 0#32
  ![v937.toNat, 0, 0]
@[reducible] def k0_t2_loop (i : grid0.Coords) : Scf.Loop 32 :=
  let c0_i32_215 : BitVec 32 := 0#32
  let arg2 : BitVec 32 := BitVec.ofNat 32 (i 2).val
  let c128_i32 : BitVec 32 := 128#32
  let v0 : BitVec 32 := Scalar.muli arg2 c128_i32
  let c128_i32_205 : BitVec 32 := 128#32
  let v662 : BitVec 32 := Scalar.addi v0 c128_i32_205
  let c1_i32_206 : BitVec 32 := 1#32
  let v663 : BitVec 32 := Scalar.subi v662 c1_i32_206
  let c0_i32_207 : BitVec 32 := 0#32
  let v665 : BitVec 1 := Scalar.cmpi .sgt v663 c0_i32_207
  let v666 : BitVec 32 := Scalar.extui v665
  let c0_i32_208 : BitVec 32 := 0#32
  let v667 : BitVec 1 := Scalar.cmpi .slt v663 c0_i32_208
  let v668 : BitVec 32 := Scalar.extui v667
  let v669 : BitVec 32 := Scalar.subi v666 v668
  let c256_i32 : BitVec 32 := 256#32
  let c0_i32_209 : BitVec 32 := 0#32
  let v670 : BitVec 1 := Scalar.cmpi .sgt c256_i32 c0_i32_209
  let v671 : BitVec 32 := Scalar.extui v670
  let c0_i32_210 : BitVec 32 := 0#32
  let v672 : BitVec 1 := Scalar.cmpi .slt c256_i32 c0_i32_210
  let v673 : BitVec 32 := Scalar.extui v672
  let v674 : BitVec 32 := Scalar.subi v671 v673
  let v675 : BitVec 1 := Scalar.cmpi .ne v669 v674
  let v676 : BitVec 32 := Scalar.remsi v663 c256_i32
  let c0_i32_211 : BitVec 32 := 0#32
  let v677 : BitVec 1 := Scalar.cmpi .ne v676 c0_i32_211
  let v678 : BitVec 1 := Scalar.andi v675 v677
  let v664 : BitVec 32 := Scalar.divsi v663 c256_i32
  let c1_i32_212 : BitVec 32 := 1#32
  let v679 : BitVec 32 := Scalar.subi v664 c1_i32_212
  let v680 : BitVec 32 := Scalar.select v678 v679 v664
  let c1_i32_213 : BitVec 32 := 1#32
  let v681 : BitVec 32 := Scalar.addi v680 c1_i32_213
  let v682 : BitVec 32 := Scalar.subi v681 c0_i32_215
  let c1_i32_216 : BitVec 32 := 1#32
  let v684 : BitVec 32 := Scalar.divsi v682 c1_i32_216
  let v685 : BitVec 32 := Scalar.muli v684 c1_i32_216
  let v686 : BitVec 32 := Scalar.addi c0_i32_215 v685
  let v683 : BitVec 32 := Scalar.addi c0_i32_215 v682
  let c1_i32_218 : BitVec 32 := 1#32
  ⟨v686, v683, c1_i32_218⟩
def k0_mult2 (i : grid0.Coords) (k0_t2 : Fin (k0_t2_loop i).trips) : BitVec 32 :=
  let c0_i32_215 : BitVec 32 := 0#32
  let arg2 : BitVec 32 := BitVec.ofNat 32 (i 2).val
  let c128_i32 : BitVec 32 := 128#32
  let v0 : BitVec 32 := Scalar.muli arg2 c128_i32
  let c128_i32_205 : BitVec 32 := 128#32
  let v662 : BitVec 32 := Scalar.addi v0 c128_i32_205
  let c1_i32_206 : BitVec 32 := 1#32
  let v663 : BitVec 32 := Scalar.subi v662 c1_i32_206
  let c0_i32_207 : BitVec 32 := 0#32
  let v665 : BitVec 1 := Scalar.cmpi .sgt v663 c0_i32_207
  let v666 : BitVec 32 := Scalar.extui v665
  let c0_i32_208 : BitVec 32 := 0#32
  let v667 : BitVec 1 := Scalar.cmpi .slt v663 c0_i32_208
  let v668 : BitVec 32 := Scalar.extui v667
  let v669 : BitVec 32 := Scalar.subi v666 v668
  let c256_i32 : BitVec 32 := 256#32
  let c0_i32_209 : BitVec 32 := 0#32
  let v670 : BitVec 1 := Scalar.cmpi .sgt c256_i32 c0_i32_209
  let v671 : BitVec 32 := Scalar.extui v670
  let c0_i32_210 : BitVec 32 := 0#32
  let v672 : BitVec 1 := Scalar.cmpi .slt c256_i32 c0_i32_210
  let v673 : BitVec 32 := Scalar.extui v672
  let v674 : BitVec 32 := Scalar.subi v671 v673
  let v675 : BitVec 1 := Scalar.cmpi .ne v669 v674
  let v676 : BitVec 32 := Scalar.remsi v663 c256_i32
  let c0_i32_211 : BitVec 32 := 0#32
  let v677 : BitVec 1 := Scalar.cmpi .ne v676 c0_i32_211
  let v678 : BitVec 1 := Scalar.andi v675 v677
  let v664 : BitVec 32 := Scalar.divsi v663 c256_i32
  let c1_i32_212 : BitVec 32 := 1#32
  let v679 : BitVec 32 := Scalar.subi v664 c1_i32_212
  let v680 : BitVec 32 := Scalar.select v678 v679 v664
  let c1_i32_213 : BitVec 32 := 1#32
  let v681 : BitVec 32 := Scalar.addi v680 c1_i32_213
  let v682 : BitVec 32 := Scalar.subi v681 c0_i32_215
  let c1_i32_216 : BitVec 32 := 1#32
  let v684 : BitVec 32 := Scalar.divsi v682 c1_i32_216
  let v685 : BitVec 32 := Scalar.muli v684 c1_i32_216
  let v686 : BitVec 32 := Scalar.addi c0_i32_215 v685
  let c1_i32_218 : BitVec 32 := 1#32
  let arg18 : BitVec 32 := Scf.iv v686 c1_i32_218 k0_t2
  let c256_i32_316 : BitVec 32 := 256#32
  let v926 : BitVec 32 := Scalar.muli arg18 c256_i32_316
  v926
def k0_off3 (i : grid0.Coords) (k0_t2 : Fin (k0_t2_loop i).trips) : Fin 3 → Nat :=
  let c0_317 : Index := 0#32
  let c0_i32_215 : BitVec 32 := 0#32
  let arg2 : BitVec 32 := BitVec.ofNat 32 (i 2).val
  let c128_i32 : BitVec 32 := 128#32
  let v0 : BitVec 32 := Scalar.muli arg2 c128_i32
  let c128_i32_205 : BitVec 32 := 128#32
  let v662 : BitVec 32 := Scalar.addi v0 c128_i32_205
  let c1_i32_206 : BitVec 32 := 1#32
  let v663 : BitVec 32 := Scalar.subi v662 c1_i32_206
  let c0_i32_207 : BitVec 32 := 0#32
  let v665 : BitVec 1 := Scalar.cmpi .sgt v663 c0_i32_207
  let v666 : BitVec 32 := Scalar.extui v665
  let c0_i32_208 : BitVec 32 := 0#32
  let v667 : BitVec 1 := Scalar.cmpi .slt v663 c0_i32_208
  let v668 : BitVec 32 := Scalar.extui v667
  let v669 : BitVec 32 := Scalar.subi v666 v668
  let c256_i32 : BitVec 32 := 256#32
  let c0_i32_209 : BitVec 32 := 0#32
  let v670 : BitVec 1 := Scalar.cmpi .sgt c256_i32 c0_i32_209
  let v671 : BitVec 32 := Scalar.extui v670
  let c0_i32_210 : BitVec 32 := 0#32
  let v672 : BitVec 1 := Scalar.cmpi .slt c256_i32 c0_i32_210
  let v673 : BitVec 32 := Scalar.extui v672
  let v674 : BitVec 32 := Scalar.subi v671 v673
  let v675 : BitVec 1 := Scalar.cmpi .ne v669 v674
  let v676 : BitVec 32 := Scalar.remsi v663 c256_i32
  let c0_i32_211 : BitVec 32 := 0#32
  let v677 : BitVec 1 := Scalar.cmpi .ne v676 c0_i32_211
  let v678 : BitVec 1 := Scalar.andi v675 v677
  let v664 : BitVec 32 := Scalar.divsi v663 c256_i32
  let c1_i32_212 : BitVec 32 := 1#32
  let v679 : BitVec 32 := Scalar.subi v664 c1_i32_212
  let v680 : BitVec 32 := Scalar.select v678 v679 v664
  let c1_i32_213 : BitVec 32 := 1#32
  let v681 : BitVec 32 := Scalar.addi v680 c1_i32_213
  let v682 : BitVec 32 := Scalar.subi v681 c0_i32_215
  let c1_i32_216 : BitVec 32 := 1#32
  let v684 : BitVec 32 := Scalar.divsi v682 c1_i32_216
  let v685 : BitVec 32 := Scalar.muli v684 c1_i32_216
  let v686 : BitVec 32 := Scalar.addi c0_i32_215 v685
  let c1_i32_218 : BitVec 32 := 1#32
  let arg18 : BitVec 32 := Scf.iv v686 c1_i32_218 k0_t2
  let c256_i32_316 : BitVec 32 := 256#32
  let v926 : BitVec 32 := Scalar.muli arg18 c256_i32_316
  let v927 : BitVec 32 := v926
  let v928 : Index := Scalar.indexCast v927
  let c0_318 : Index := 0#32
  ![0, v928.toNat, 0]
def k0_off4 (i : grid0.Coords) (k0_t2 : Fin (k0_t2_loop i).trips) : Fin 3 → Nat :=
  let c0_i32_215 : BitVec 32 := 0#32
  let arg2 : BitVec 32 := BitVec.ofNat 32 (i 2).val
  let c128_i32 : BitVec 32 := 128#32
  let v0 : BitVec 32 := Scalar.muli arg2 c128_i32
  let c128_i32_205 : BitVec 32 := 128#32
  let v662 : BitVec 32 := Scalar.addi v0 c128_i32_205
  let c1_i32_206 : BitVec 32 := 1#32
  let v663 : BitVec 32 := Scalar.subi v662 c1_i32_206
  let c0_i32_207 : BitVec 32 := 0#32
  let v665 : BitVec 1 := Scalar.cmpi .sgt v663 c0_i32_207
  let v666 : BitVec 32 := Scalar.extui v665
  let c0_i32_208 : BitVec 32 := 0#32
  let v667 : BitVec 1 := Scalar.cmpi .slt v663 c0_i32_208
  let v668 : BitVec 32 := Scalar.extui v667
  let v669 : BitVec 32 := Scalar.subi v666 v668
  let c256_i32 : BitVec 32 := 256#32
  let c0_i32_209 : BitVec 32 := 0#32
  let v670 : BitVec 1 := Scalar.cmpi .sgt c256_i32 c0_i32_209
  let v671 : BitVec 32 := Scalar.extui v670
  let c0_i32_210 : BitVec 32 := 0#32
  let v672 : BitVec 1 := Scalar.cmpi .slt c256_i32 c0_i32_210
  let v673 : BitVec 32 := Scalar.extui v672
  let v674 : BitVec 32 := Scalar.subi v671 v673
  let v675 : BitVec 1 := Scalar.cmpi .ne v669 v674
  let v676 : BitVec 32 := Scalar.remsi v663 c256_i32
  let c0_i32_211 : BitVec 32 := 0#32
  let v677 : BitVec 1 := Scalar.cmpi .ne v676 c0_i32_211
  let v678 : BitVec 1 := Scalar.andi v675 v677
  let v664 : BitVec 32 := Scalar.divsi v663 c256_i32
  let c1_i32_212 : BitVec 32 := 1#32
  let v679 : BitVec 32 := Scalar.subi v664 c1_i32_212
  let v680 : BitVec 32 := Scalar.select v678 v679 v664
  let c1_i32_213 : BitVec 32 := 1#32
  let v681 : BitVec 32 := Scalar.addi v680 c1_i32_213
  let v682 : BitVec 32 := Scalar.subi v681 c0_i32_215
  let c1_i32_216 : BitVec 32 := 1#32
  let v684 : BitVec 32 := Scalar.divsi v682 c1_i32_216
  let v685 : BitVec 32 := Scalar.muli v684 c1_i32_216
  let v686 : BitVec 32 := Scalar.addi c0_i32_215 v685
  let c1_i32_218 : BitVec 32 := 1#32
  let arg18 : BitVec 32 := Scf.iv v686 c1_i32_218 k0_t2
  let v937 : Index := Scalar.indexCast arg18
  let c0_321 : Index := 0#32
  let c0_322 : Index := 0#32
  ![v937.toNat, 0, 0]
def k0_mult3 (i : grid0.Coords) : BitVec 32 :=
  let arg2 : BitVec 32 := BitVec.ofNat 32 (i 2).val
  let c128_i32 : BitVec 32 := 128#32
  let v0 : BitVec 32 := Scalar.muli arg2 c128_i32
  let c512_i32 : BitVec 32 := 512#32
  let v687 : BitVec 32 := Scalar.subi v0 c512_i32
  let c0_i32_219 : BitVec 32 := 0#32
  let v688 : BitVec 32 := Scalar.maxsi v687 c0_i32_219
  v688
def k0_off5 (i : grid0.Coords) : Fin 3 → Nat :=
  let c0_220 : Index := 0#32
  let arg2 : BitVec 32 := BitVec.ofNat 32 (i 2).val
  let c128_i32 : BitVec 32 := 128#32
  let v0 : BitVec 32 := Scalar.muli arg2 c128_i32
  let c512_i32 : BitVec 32 := 512#32
  let v687 : BitVec 32 := Scalar.subi v0 c512_i32
  let c0_i32_219 : BitVec 32 := 0#32
  let v688 : BitVec 32 := Scalar.maxsi v687 c0_i32_219
  let v689 : BitVec 32 := v688
  let v690 : Index := Scalar.indexCast v689
  let c0_221 : Index := 0#32
  ![0, v690.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S8x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S8192x1024 : Shape := ⟨2, ![8192, 1024]⟩
abbrev S4x4x128x128 : Shape := ⟨4, ![4, 4, 128, 128]⟩
abbrev S8192x512 : Shape := ⟨2, ![8192, 512]⟩
abbrev S8192x256 : Shape := ⟨2, ![8192, 256]⟩
abbrev S8192x4608 : Shape := ⟨2, ![8192, 4608]⟩
abbrev S_ : Shape := ⟨0, ![]⟩
abbrev S4x2048x2x4x128 : Shape := ⟨5, ![4, 2048, 2, 4, 128]⟩
abbrev S4x2x2x128x128 : Shape := ⟨5, ![4, 2, 2, 128, 128]⟩
abbrev S4x2x2x127x128 : Shape := ⟨5, ![4, 2, 2, 127, 128]⟩
abbrev S4x1x2x127x128 : Shape := ⟨5, ![4, 1, 2, 127, 128]⟩
abbrev S4x2x127x128 : Shape := ⟨4, ![4, 2, 127, 128]⟩
abbrev S4x2048x4x2x128 : Shape := ⟨5, ![4, 2048, 4, 2, 128]⟩
abbrev S4x2048x1x2x128 : Shape := ⟨5, ![4, 2048, 1, 2, 128]⟩
abbrev S4x2048x2x128 : Shape := ⟨4, ![4, 2048, 2, 128]⟩
abbrev S4x2048x2x2x128 : Shape := ⟨5, ![4, 2048, 2, 2, 128]⟩
abbrev S2048 : Shape := ⟨1, ![2048]⟩
abbrev S127 : Shape := ⟨1, ![127]⟩
abbrev S4x2x127x2048x4 : Shape := ⟨5, ![4, 2, 127, 2048, 4]⟩
abbrev S4x2x4x2048x127 : Shape := ⟨5, ![4, 2, 4, 2048, 127]⟩
abbrev S1x127 : Shape := ⟨2, ![1, 127]⟩
abbrev S2048x1 : Shape := ⟨2, ![2048, 1]⟩
abbrev S2048x127 : Shape := ⟨2, ![2048, 127]⟩
abbrev S4x2x4x2048 : Shape := ⟨4, ![4, 2, 4, 2048]⟩
abbrev S4x2x4x2048x1 : Shape := ⟨5, ![4, 2, 4, 2048, 1]⟩
abbrev S4x2x4x2048x128 : Shape := ⟨5, ![4, 2, 4, 2048, 128]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S4x2x2048x127 : Shape := ⟨4, ![4, 2, 2048, 127]⟩
abbrev S4x2x2048x32 : Shape := ⟨4, ![4, 2, 2048, 32]⟩
abbrev S2048x32 : Shape := ⟨2, ![2048, 32]⟩
abbrev S1x1x2048x32 : Shape := ⟨4, ![1, 1, 2048, 32]⟩
abbrev S4x2x2048x16 : Shape := ⟨4, ![4, 2, 2048, 16]⟩
abbrev S4x2x2048x16x1 : Shape := ⟨5, ![4, 2, 2048, 16, 1]⟩
abbrev S64 : Shape := ⟨1, ![64]⟩
abbrev S1x1x1x1x64 : Shape := ⟨5, ![1, 1, 1, 1, 64]⟩
abbrev S4x2x2048x16x64 : Shape := ⟨5, ![4, 2, 2048, 16, 64]⟩
abbrev S4x2x2048x1024 : Shape := ⟨4, ![4, 2, 2048, 1024]⟩
abbrev S4x2x2048x128 : Shape := ⟨4, ![4, 2, 2048, 128]⟩
abbrev S4x2x2048x1024x1 : Shape := ⟨5, ![4, 2, 2048, 1024, 1]⟩
abbrev S4x2x2048x1024x128 : Shape := ⟨5, ![4, 2, 2048, 1024, 128]⟩
abbrev S1x1x2048x1 : Shape := ⟨4, ![1, 1, 2048, 1]⟩
abbrev S4x2x2048x1024x4 : Shape := ⟨5, ![4, 2, 2048, 1024, 4]⟩
abbrev S4x2x4x2048x1024 : Shape := ⟨5, ![4, 2, 4, 2048, 1024]⟩
abbrev S4x2x1x2048x1024 : Shape := ⟨5, ![4, 2, 1, 2048, 1024]⟩
abbrev S4x2x2048x128x4 : Shape := ⟨5, ![4, 2, 2048, 128, 4]⟩
abbrev S1x2048 : Shape := ⟨2, ![1, 2048]⟩
abbrev S2048x2048 : Shape := ⟨2, ![2048, 2048]⟩
abbrev S4x2x2048x2048x4 : Shape := ⟨5, ![4, 2, 2048, 2048, 4]⟩
abbrev S4x2x4x2048x2048 : Shape := ⟨5, ![4, 2, 4, 2048, 2048]⟩
abbrev S4x2048x2x12 : Shape := ⟨4, ![4, 2048, 2, 12]⟩
abbrev S4x2x12x2048 : Shape := ⟨4, ![4, 2, 12, 2048]⟩

abbrev nBuf : Space → Nat
  | .hbm => 290
  | .vmem => 0
  | .smem => 0
  | _ => 0

abbrev hbmTy0_0 (i : Nat) : BufTy := match i % 128 with
  | 0 => ⟨S8192x1024, .bf16⟩
  | 1 => ⟨S4x4x128x128, .bf16⟩
  | 2 => ⟨S8192x1024, .bf16⟩
  | 3 => ⟨S8192x512, .bf16⟩
  | 4 => ⟨S8192x256, .f32⟩
  | 5 => ⟨S8192x4608, .f32⟩
  | 6 => ⟨S_, .f32⟩
  | 7 => ⟨S_, .f32⟩
  | 8 => ⟨S8192x1024, .f32⟩
  | 9 => ⟨S4x2048x2x4x128, .f32⟩
  | 10 => ⟨S4x4x128x128, .f32⟩
  | 11 => ⟨S4x2x2x128x128, .f32⟩
  | 12 => ⟨S4x2x2x127x128, .f32⟩
  | 13 => ⟨S4x1x2x127x128, .f32⟩
  | 14 => ⟨S4x2x127x128, .f32⟩
  | 15 => ⟨S4x1x2x127x128, .f32⟩
  | 16 => ⟨S4x2x127x128, .f32⟩
  | 17 => ⟨S8192x1024, .f32⟩
  | 18 => ⟨S4x2048x4x2x128, .f32⟩
  | 19 => ⟨S4x2048x1x2x128, .f32⟩
  | 20 => ⟨S4x2048x2x128, .f32⟩
  | 21 => ⟨S4x2048x1x2x128, .f32⟩
  | 22 => ⟨S4x2048x2x128, .f32⟩
  | 23 => ⟨S8192x512, .f32⟩
  | 24 => ⟨S4x2048x2x2x128, .f32⟩
  | 25 => ⟨S4x2048x1x2x128, .f32⟩
  | 26 => ⟨S4x2048x2x128, .f32⟩
  | 27 => ⟨S4x2048x1x2x128, .f32⟩
  | 28 => ⟨S4x2048x2x128, .f32⟩
  | 29 => ⟨S2048, .i32⟩
  | 30 => ⟨S127, .i32⟩
  | 31 => ⟨S_, .i32⟩
  | 32 => ⟨S127, .i32⟩
  | 33 => ⟨S127, .i32⟩
  | 34 => ⟨S_, .i32⟩
  | 35 => ⟨S127, .i32⟩
  | 36 => ⟨S127, .i32⟩
  | 37 => ⟨S_, .i32⟩
  | 38 => ⟨S127, .i32⟩
  | 39 => ⟨S127, .i32⟩
  | 40 => ⟨S4x2x127x2048x4, .f32⟩
  | 41 => ⟨S4x2x4x2048x127, .f32⟩
  | 42 => ⟨S4x2x4x2048x127, .f32⟩
  | 43 => ⟨S4x2x4x2048x127, .f32⟩
  | 44 => ⟨S1x127, .i32⟩
  | 45 => ⟨S2048x1, .i32⟩
  | 46 => ⟨S2048x127, .i32⟩
  | 47 => ⟨S2048x127, .i32⟩
  | 48 => ⟨S2048x127, .i1⟩
  | 49 => ⟨S4x2x4x2048x127, .i1⟩
  | 50 => ⟨S_, .f32⟩
  | 51 => ⟨S4x2x4x2048x127, .f32⟩
  | 52 => ⟨S4x2x4x2048x127, .f32⟩
  | 53 => ⟨S_, .f32⟩
  | 54 => ⟨S4x2x4x2048, .f32⟩
  | 55 => ⟨S4x2x4x2048x1, .f32⟩
  | 56 => ⟨S4x2x4x2048x127, .f32⟩
  | 57 => ⟨S4x2x4x2048x127, .f32⟩
  | 58 => ⟨S4x2x4x2048x127, .f32⟩
  | 59 => ⟨S4x2x4x2048x127, .i1⟩
  | 60 => ⟨S_, .f32⟩
  | 61 => ⟨S4x2x4x2048x127, .f32⟩
  | 62 => ⟨S4x2x4x2048x127, .f32⟩
  | 63 => ⟨S_, .f32⟩
  | 64 => ⟨S4x2x4x2048, .f32⟩
  | 65 => ⟨S4x2x4x2048x1, .f32⟩
  | 66 => ⟨S_, .f32⟩
  | 67 => ⟨S4x2x4x2048x1, .f32⟩
  | 68 => ⟨S4x2x4x2048x1, .f32⟩
  | 69 => ⟨S4x2x4x2048x127, .f32⟩
  | 70 => ⟨S4x2x4x2048x127, .f32⟩
  | 71 => ⟨S4x2x4x2048x128, .f32⟩
  | 72 => ⟨S127, .i32⟩
  | 73 => ⟨S127x1, .i32⟩
  | 74 => ⟨S_, .i32⟩
  | 75 => ⟨S127x1, .i32⟩
  | 76 => ⟨S127x1, .i32⟩
  | 77 => ⟨S32, .i32⟩
  | 78 => ⟨S1x32, .i32⟩
  | 79 => ⟨S_, .i32⟩
  | 80 => ⟨S1x32, .i32⟩
  | 81 => ⟨S1x32, .i32⟩
  | 82 => ⟨S_, .i32⟩
  | 83 => ⟨S1x32, .i32⟩
  | 84 => ⟨S1x32, .i32⟩
  | 85 => ⟨S127x32, .i32⟩
  | 86 => ⟨S127x32, .i32⟩
  | 87 => ⟨S127x32, .i1⟩
  | 88 => ⟨S_, .i32⟩
  | 89 => ⟨S127x1, .i32⟩
  | 90 => ⟨S127x1, .i32⟩
  | 91 => ⟨S127x32, .i32⟩
  | 92 => ⟨S127x32, .i32⟩
  | 93 => ⟨S127x32, .i1⟩
  | 94 => ⟨S127x32, .i1⟩
  | 95 => ⟨S127x32, .f32⟩
  | 96 => ⟨S_, .f32⟩
  | 97 => ⟨S4x2x2048x127, .f32⟩
  | 98 => ⟨S4x2x2048x32, .f32⟩
  | 99 => ⟨S32, .i32⟩
  | 100 => ⟨S1x32, .i32⟩
  | 101 => ⟨S_, .i32⟩
  | 102 => ⟨S2048, .i32⟩
  | 103 => ⟨S2048, .i32⟩
  | 104 => ⟨S2048x1, .i32⟩
  | 105 => ⟨S_, .i32⟩
  | 106 => ⟨S1x32, .i32⟩
  | 107 => ⟨S1x32, .i32⟩
  | 108 => ⟨S2048x1, .i32⟩
  | 109 => ⟨S2048x32, .i32⟩
  | 110 => ⟨S2048x32, .i32⟩
  | 111 => ⟨S2048x32, .i1⟩
  | 112 => ⟨S_, .i32⟩
  | 113 => ⟨S1x32, .i32⟩
  | 114 => ⟨S1x32, .i1⟩
  | 115 => ⟨S2048x32, .i32⟩
  | 116 => ⟨S2048x32, .i32⟩
  | 117 => ⟨S2048x32, .i1⟩
  | 118 => ⟨S2048x32, .i1⟩
  | 119 => ⟨S2048x32, .i1⟩
  | 120 => ⟨S_, .i32⟩
  | 121 => ⟨S2048x1, .i32⟩
  | 122 => ⟨S2048x1, .i32⟩
  | 123 => ⟨S2048x32, .i32⟩
  | 124 => ⟨S2048x32, .i32⟩
  | 125 => ⟨S2048x32, .i1⟩
  | 126 => ⟨S2048x32, .i1⟩
  | 127 => ⟨S_, .f32⟩
  | _ => ⟨S8192x1024, .bf16⟩

abbrev hbmTy0_1 (i : Nat) : BufTy := match i % 128 with
  | 0 => ⟨S2048x32, .f32⟩
  | 1 => ⟨S_, .f32⟩
  | 2 => ⟨S2048x32, .f32⟩
  | 3 => ⟨S2048x32, .f32⟩
  | 4 => ⟨S2048x32, .f32⟩
  | 5 => ⟨S1x1x2048x32, .f32⟩
  | 6 => ⟨S4x2x2048x32, .f32⟩
  | 7 => ⟨S4x2x2048x32, .f32⟩
  | 8 => ⟨S4x2x2048x32, .i1⟩
  | 9 => ⟨S_, .f32⟩
  | 10 => ⟨S4x2x2048x32, .f32⟩
  | 11 => ⟨S4x2x2048x32, .f32⟩
  | 12 => ⟨S4x2x2048x16, .f32⟩
  | 13 => ⟨S4x2x2048x16, .i32⟩
  | 14 => ⟨S_, .f32⟩
  | 15 => ⟨S4x2x2048x16, .f32⟩
  | 16 => ⟨S4x2x2048x16, .i1⟩
  | 17 => ⟨S4x2x2048x16x1, .i32⟩
  | 18 => ⟨S_, .i32⟩
  | 19 => ⟨S4x2x2048x16x1, .i32⟩
  | 20 => ⟨S4x2x2048x16x1, .i32⟩
  | 21 => ⟨S64, .i32⟩
  | 22 => ⟨S1x1x1x1x64, .i32⟩
  | 23 => ⟨S4x2x2048x16x64, .i32⟩
  | 24 => ⟨S4x2x2048x16x64, .i32⟩
  | 25 => ⟨S4x2x2048x16x64, .i32⟩
  | 26 => ⟨S4x2x2048x1024, .i32⟩
  | 27 => ⟨S4x2x2048x128, .f32⟩
  | 28 => ⟨S_, .i32⟩
  | 29 => ⟨S4x2x2048x1024, .i32⟩
  | 30 => ⟨S4x2x2048x1024, .i1⟩
  | 31 => ⟨S_, .i32⟩
  | 32 => ⟨S4x2x2048x1024, .i32⟩
  | 33 => ⟨S4x2x2048x1024, .i32⟩
  | 34 => ⟨S4x2x2048x1024, .i32⟩
  | 35 => ⟨S4x2x2048x1024x1, .i32⟩
  | 36 => ⟨S4x2x2048x1024x128, .f32⟩
  | 37 => ⟨S4x2x2048x128, .f32⟩
  | 38 => ⟨S_, .i32⟩
  | 39 => ⟨S4x2x2048x1024, .i32⟩
  | 40 => ⟨S4x2x2048x1024, .i1⟩
  | 41 => ⟨S_, .i32⟩
  | 42 => ⟨S4x2x2048x1024, .i32⟩
  | 43 => ⟨S4x2x2048x1024, .i32⟩
  | 44 => ⟨S4x2x2048x1024, .i32⟩
  | 45 => ⟨S4x2x2048x1024x1, .i32⟩
  | 46 => ⟨S4x2x2048x1024x128, .f32⟩
  | 47 => ⟨S4x2x2048x16x1, .i1⟩
  | 48 => ⟨S4x2x2048x16x64, .i1⟩
  | 49 => ⟨S4x2x2048x1024, .i1⟩
  | 50 => ⟨S2048x1, .i32⟩
  | 51 => ⟨S1x1x2048x1, .i32⟩
  | 52 => ⟨S4x2x2048x1024, .i32⟩
  | 53 => ⟨S4x2x2048x1024, .i1⟩
  | 54 => ⟨S4x2x2048x1024, .i1⟩
  | 55 => ⟨S4x2x2048x1024x4, .f32⟩
  | 56 => ⟨S4x2x4x2048x1024, .f32⟩
  | 57 => ⟨S4x2x4x2048x1024, .f32⟩
  | 58 => ⟨S4x2x4x2048x1024, .f32⟩
  | 59 => ⟨S4x2x1x2048x1024, .i1⟩
  | 60 => ⟨S4x2x4x2048x1024, .i1⟩
  | 61 => ⟨S_, .f32⟩
  | 62 => ⟨S4x2x4x2048x1024, .f32⟩
  | 63 => ⟨S4x2x4x2048x1024, .f32⟩
  | 64 => ⟨S_, .f32⟩
  | 65 => ⟨S4x2x4x2048, .f32⟩
  | 66 => ⟨S4x2x4x2048x1, .f32⟩
  | 67 => ⟨S4x2x4x2048x1024, .f32⟩
  | 68 => ⟨S4x2x4x2048x1024, .f32⟩
  | 69 => ⟨S4x2x4x2048x1024, .f32⟩
  | 70 => ⟨S4x2x4x2048x1024, .i1⟩
  | 71 => ⟨S_, .f32⟩
  | 72 => ⟨S4x2x4x2048x1024, .f32⟩
  | 73 => ⟨S4x2x4x2048x1024, .f32⟩
  | 74 => ⟨S_, .f32⟩
  | 75 => ⟨S4x2x4x2048, .f32⟩
  | 76 => ⟨S4x2x4x2048x1, .f32⟩
  | 77 => ⟨S_, .f32⟩
  | 78 => ⟨S4x2x4x2048x1, .f32⟩
  | 79 => ⟨S4x2x4x2048x1, .f32⟩
  | 80 => ⟨S4x2x4x2048x1024, .f32⟩
  | 81 => ⟨S4x2x4x2048x1024, .f32⟩
  | 82 => ⟨S4x2x2048x128x4, .f32⟩
  | 83 => ⟨S4x2x4x2048x128, .f32⟩
  | 84 => ⟨S2048x1, .i32⟩
  | 85 => ⟨S1x2048, .i32⟩
  | 86 => ⟨S2048x2048, .i32⟩
  | 87 => ⟨S2048x2048, .i32⟩
  | 88 => ⟨S2048x2048, .i32⟩
  | 89 => ⟨S4x2x2048x2048x4, .f32⟩
  | 90 => ⟨S4x2x4x2048x2048, .f32⟩
  | 91 => ⟨S4x2x4x2048x2048, .f32⟩
  | 92 => ⟨S4x2x4x2048x2048, .f32⟩
  | 93 => ⟨S_, .i32⟩
  | 94 => ⟨S2048x2048, .i32⟩
  | 95 => ⟨S2048x2048, .i1⟩
  | 96 => ⟨S_, .i32⟩
  | 97 => ⟨S2048x2048, .i32⟩
  | 98 => ⟨S2048x2048, .i1⟩
  | 99 => ⟨S2048x2048, .i1⟩
  | 100 => ⟨S4x2x4x2048x2048, .i1⟩
  | 101 => ⟨S_, .f32⟩
  | 102 => ⟨S4x2x4x2048x2048, .f32⟩
  | 103 => ⟨S4x2x4x2048x2048, .f32⟩
  | 104 => ⟨S_, .f32⟩
  | 105 => ⟨S4x2x4x2048, .f32⟩
  | 106 => ⟨S4x2x4x2048x1, .f32⟩
  | 107 => ⟨S4x2x4x2048x2048, .f32⟩
  | 108 => ⟨S4x2x4x2048x2048, .f32⟩
  | 109 => ⟨S4x2x4x2048x2048, .f32⟩
  | 110 => ⟨S4x2x4x2048x2048, .i1⟩
  | 111 => ⟨S_, .f32⟩
  | 112 => ⟨S4x2x4x2048x2048, .f32⟩
  | 113 => ⟨S4x2x4x2048x2048, .f32⟩
  | 114 => ⟨S_, .f32⟩
  | 115 => ⟨S4x2x4x2048, .f32⟩
  | 116 => ⟨S4x2x4x2048x1, .f32⟩
  | 117 => ⟨S_, .f32⟩
  | 118 => ⟨S4x2x4x2048x1, .f32⟩
  | 119 => ⟨S4x2x4x2048x1, .f32⟩
  | 120 => ⟨S4x2x4x2048x2048, .f32⟩
  | 121 => ⟨S4x2x4x2048x2048, .f32⟩
  | 122 => ⟨S4x2x4x2048x128, .f32⟩
  | 123 => ⟨S4x2048x2x128, .f32⟩
  | 124 => ⟨S4x2048x2x12, .f32⟩
  | 125 => ⟨S4x2048x2x12, .f32⟩
  | 126 => ⟨S4x2048x2x12, .f32⟩
  | 127 => ⟨S_, .f32⟩
  | _ => ⟨S8192x1024, .bf16⟩

abbrev hbmTy0_2 (i : Nat) : BufTy := match i % 128 with
  | 0 => ⟨S4x2048x2x12, .f32⟩
  | 1 => ⟨S4x2048x2x12, .f32⟩
  | 2 => ⟨S_, .f32⟩
  | 3 => ⟨S4x2048x2x12, .f32⟩
  | 4 => ⟨S4x2048x2x12, .f32⟩
  | 5 => ⟨S4x2x12x2048, .f32⟩
  | 6 => ⟨S4x2x4x2048, .f32⟩
  | 7 => ⟨S4x2x4x2048x1, .f32⟩
  | 8 => ⟨S4x2x4x2048x128, .f32⟩
  | 9 => ⟨S4x2x4x2048x128, .f32⟩
  | 10 => ⟨S4x2x4x2048, .f32⟩
  | 11 => ⟨S4x2x4x2048x1, .f32⟩
  | 12 => ⟨S4x2x4x2048x128, .f32⟩
  | 13 => ⟨S4x2x4x2048x128, .f32⟩
  | 14 => ⟨S4x2x4x2048x128, .f32⟩
  | 15 => ⟨S4x2x4x2048, .f32⟩
  | 16 => ⟨S4x2x4x2048x1, .f32⟩
  | 17 => ⟨S4x2x4x2048x128, .f32⟩
  | 18 => ⟨S4x2x4x2048x128, .f32⟩
  | 19 => ⟨S4x2x4x2048x128, .f32⟩
  | 20 => ⟨S4x2048x2x4x128, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S8192x1024, .f32⟩
  | 33 => ⟨S8192x1024, .bf16⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_c_0 : Ref sig .tc := ⟨.hbm, 34, rfl⟩
abbrev main_v26 : Ref sig .tc := ⟨.hbm, 35, rfl⟩
abbrev main_v27 : Ref sig .tc := ⟨.hbm, 36, rfl⟩
abbrev main_c_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_8 : Ref sig .tc := ⟨.hbm, 79, rfl⟩
abbrev main_v63 : Ref sig .tc := ⟨.hbm, 80, rfl⟩
abbrev main_v64 : Ref sig .tc := ⟨.hbm, 81, rfl⟩
abbrev main_c_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_12 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_c_14 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_c_15 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_16 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_18 : Ref sig .tc := ⟨.hbm, 137, rfl⟩
abbrev main_v111 : Ref sig .tc := ⟨.hbm, 138, rfl⟩
abbrev main_v112 : Ref sig .tc := ⟨.hbm, 139, rfl⟩
abbrev main_values : Ref sig .tc := ⟨.hbm, 140, rfl⟩
abbrev main_indices : Ref sig .tc := ⟨.hbm, 141, rfl⟩
abbrev main_cst_19 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_c_20 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_c_21 : Ref sig .tc := ⟨.hbm, 156, rfl⟩
abbrev main_v125 : Ref sig .tc := ⟨.hbm, 157, rfl⟩
abbrev main_v126 : Ref sig .tc := ⟨.hbm, 158, rfl⟩
abbrev main_c_22 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_c_23 : Ref sig .tc := ⟨.hbm, 166, rfl⟩
abbrev main_v133 : Ref sig .tc := ⟨.hbm, 167, rfl⟩
abbrev main_v134 : Ref sig .tc := ⟨.hbm, 168, rfl⟩
abbrev main_c_24 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_25 : Ref sig .tc := ⟨.hbm, 189, rfl⟩
abbrev main_v154 : Ref sig .tc := ⟨.hbm, 190, rfl⟩
abbrev main_v155 : Ref sig .tc := ⟨.hbm, 191, rfl⟩
abbrev main_cst_26 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_cst_27 : Ref sig .tc := ⟨.hbm, 199, rfl⟩
abbrev main_v162 : Ref sig .tc := ⟨.hbm, 200, rfl⟩
abbrev main_v163 : Ref sig .tc := ⟨.hbm, 201, rfl⟩
abbrev main_cst_28 : Ref sig .tc := ⟨.hbm, 202, rfl⟩
abbrev main_v164 : Ref sig .tc := ⟨.hbm, 203, rfl⟩
abbrev main_v165 : Ref sig .tc := ⟨.hbm, 204, rfl⟩
abbrev main_cst_29 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_c_30 : Ref sig .tc := ⟨.hbm, 221, rfl⟩
abbrev main_v181 : Ref sig .tc := ⟨.hbm, 222, rfl⟩
abbrev main_v182 : Ref sig .tc := ⟨.hbm, 223, rfl⟩
abbrev main_c_31 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_cst_32 : Ref sig .tc := ⟨.hbm, 229, rfl⟩
abbrev main_v187 : Ref sig .tc := ⟨.hbm, 230, rfl⟩
abbrev main_v188 : Ref sig .tc := ⟨.hbm, 231, rfl⟩
abbrev main_cst_33 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_cst_34 : Ref sig .tc := ⟨.hbm, 239, rfl⟩
abbrev main_v195 : Ref sig .tc := ⟨.hbm, 240, rfl⟩
abbrev main_v196 : Ref sig .tc := ⟨.hbm, 241, rfl⟩
abbrev main_cst_35 : Ref sig .tc := ⟨.hbm, 242, rfl⟩
abbrev main_v197 : Ref sig .tc := ⟨.hbm, 243, rfl⟩
abbrev main_v198 : Ref sig .tc := ⟨.hbm, 244, rfl⟩
abbrev main_cst_36 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_cst_37 : Ref sig .tc := ⟨.hbm, 255, rfl⟩
abbrev main_v208 : Ref sig .tc := ⟨.hbm, 256, rfl⟩
abbrev main_v209 : Ref sig .tc := ⟨.hbm, 257, rfl⟩
abbrev main_cst_38 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_call0_v0 : Ref sig .tc := ⟨.hbm, 279, rfl⟩
abbrev main_call0_v1 : Ref sig .tc := ⟨.hbm, 280, rfl⟩
abbrev main_call0_cst : Ref sig .tc := ⟨.hbm, 281, rfl⟩
abbrev main_call0_v2 : Ref sig .tc := ⟨.hbm, 282, rfl⟩
abbrev main_call0_v3 : Ref sig .tc := ⟨.hbm, 283, rfl⟩
abbrev main_call0_cst_0 : Ref sig .tc := ⟨.hbm, 284, rfl⟩
abbrev main_call0_v4 : Ref sig .tc := ⟨.hbm, 285, rfl⟩
abbrev main_call0_v5 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩

abbrev nD : Nat := 1
abbrev τ : Topo := Topo.v7x

variable {F : FTy → Type} [FloatOps F]
-- ==== Kernel2.lean ====
abbrev S8192x1024 : Shape := ⟨2, ![8192, 1024]⟩
abbrev S4x2048x2048 : Shape := ⟨3, ![4, 2048, 2048]⟩
abbrev S4x2048 : Shape := ⟨2, ![4, 2048]⟩
abbrev S1x2048 : Shape := ⟨2, ![1, 2048]⟩
abbrev S1x2048x2048 : Shape := ⟨3, ![1, 2048, 2048]⟩
abbrev S2048x2048 : Shape := ⟨2, ![2048, 2048]⟩
abbrev S2048 : Shape := ⟨1, ![2048]⟩
abbrev S8192x2048 : Shape := ⟨2, ![8192, 2048]⟩
abbrev S4x1x2048 : Shape := ⟨3, ![4, 1, 2048]⟩
abbrev S256x1024 : Shape := ⟨2, ![256, 1024]⟩
abbrev S256x2048 : Shape := ⟨2, ![256, 2048]⟩
abbrev S1x1x2048 : Shape := ⟨3, ![1, 1, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x2048x2048, .f32⟩
  | .hbm, ⟨3, _⟩ => ⟨S4x2048, .f32⟩
  | .hbm, ⟨4, _⟩ => ⟨S1x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S4x1x2048, .f32⟩
  | .hbm, ⟨12, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S4x2048x2048 : Shape := ⟨3, ![4, 2048, 2048]⟩
abbrev S4x2048 : Shape := ⟨2, ![4, 2048]⟩
abbrev S1x2048 : Shape := ⟨2, ![1, 2048]⟩
abbrev S1x2048x2048 : Shape := ⟨3, ![1, 2048, 2048]⟩
abbrev S4x2048x1024 : Shape := ⟨3, ![4, 2048, 1024]⟩
abbrev S2048x2048 : Shape := ⟨2, ![2048, 2048]⟩
abbrev S_ : Shape := ⟨0, ![]⟩
abbrev S4x2048x1 : Shape := ⟨3, ![4, 2048, 1]⟩
abbrev S2048 : Shape := ⟨1, ![2048]⟩
abbrev S1x1x2048 : Shape := ⟨3, ![1, 1, 2048]⟩
abbrev S4x1x2048 : Shape := ⟨3, ![4, 1, 2048]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x2048x2048, .f32⟩
  | .hbm, ⟨3, _⟩ => ⟨S4x2048, .f32⟩
  | .hbm, ⟨4, _⟩ => ⟨S1x2048, .f32⟩
  | .hbm, ⟨5, _⟩ => ⟨S1x2048x2048, .f32⟩
  | .hbm, ⟨6, _⟩ => ⟨S8192x1024, .f32⟩
  | .hbm, ⟨7, _⟩ => ⟨S4x2048x1024, .f32⟩
  | .hbm, ⟨8, _⟩ => ⟨S8192x1024, .f32⟩
  | .hbm, ⟨9, _⟩ => ⟨S4x2048x1024, .f32⟩
  | .hbm, ⟨10, _⟩ => ⟨S4x2048x2048, .f32⟩
  | .hbm, ⟨11, _⟩ => ⟨S2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x1x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel3.lean ====
abbrev S4x2048x2048 : Shape := ⟨3, ![4, 2048, 2048]⟩
abbrev S4x2048 : Shape := ⟨2, ![4, 2048]⟩
abbrev S1x2048 : Shape := ⟨2, ![1, 2048]⟩
abbrev S1x2048x6680 : Shape := ⟨3, ![1, 2048, 6680]⟩
abbrev S2048x6680 : Shape := ⟨2, ![2048, 6680]⟩
abbrev S2048x2048 : Shape := ⟨2, ![2048, 2048]⟩
abbrev S2048x4096 : Shape := ⟨2, ![2048, 4096]⟩
abbrev S2048x512 : Shape := ⟨2, ![2048, 512]⟩
abbrev S2048x6656 : Shape := ⟨2, ![2048, 6656]⟩
abbrev S2048x24 : Shape := ⟨2, ![2048, 24]⟩
abbrev S2048x3x2x4 : Shape := ⟨4, ![2048, 3, 2, 4]⟩
abbrev S2048x2x3x4 : Shape := ⟨4, ![2048, 2, 3, 4]⟩
abbrev S2048x2x12 : Shape := ⟨3, ![2048, 2, 12]⟩
abbrev S_ : Shape := ⟨0, ![]⟩
abbrev S2048x2x128 : Shape := ⟨3, ![2048, 2, 128]⟩
abbrev S2048x256 : Shape := ⟨2, ![2048, 256]⟩
abbrev S2048 : Shape := ⟨1, ![2048]⟩
abbrev S8192x2048 : Shape := ⟨2, ![8192, 2048]⟩
abbrev S4x1x2048 : Shape := ⟨3, ![4, 1, 2048]⟩
abbrev S8192x1024 : Shape := ⟨2, ![8192, 1024]⟩
abbrev S8192x4608 : Shape := ⟨2, ![8192, 4608]⟩
abbrev S8192x512 : Shape := ⟨2, ![8192, 512]⟩
abbrev S8192x256 : Shape := ⟨2, ![8192, 256]⟩
abbrev S512x2048 : Shape := ⟨2, ![512, 2048]⟩
abbrev S1x1x2048 : Shape := ⟨3, ![1, 1, 2048]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 31
  | .vmem => 23
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S1x2048, .f32⟩
  | .hbm, ⟨4, _⟩ => ⟨S1x2048x6680, .f32⟩
  | .hbm, ⟨5, _⟩ => ⟨S2048x6680, .f32⟩
  | .hbm, ⟨6, _⟩ => ⟨S2048x2048, .f32⟩
  | .hbm, ⟨7, _⟩ => ⟨S2048x4096, .f32⟩
  | .hbm, ⟨8, _⟩ => ⟨S2048x512, .f32⟩
  | .hbm, ⟨9, _⟩ => ⟨S2048x6656, .f32⟩
  | .hbm, ⟨10, _⟩ => ⟨S2048x6656, .bf16⟩
  | .hbm, ⟨11, _⟩ => ⟨S2048x24, .f32⟩
  | .hbm, ⟨12, _⟩ => ⟨S2048x3x2x4, .f32⟩
  | .hbm, ⟨13, _⟩ => ⟨S2048x2x3x4, .f32⟩
  | .hbm, ⟨14, _⟩ => ⟨S2048x2x12, .f32⟩
  | .hbm, ⟨15, _⟩ => ⟨S_, .i32⟩
  | .hbm, ⟨16, _⟩ => ⟨S_, .f32⟩
  | .hbm, ⟨17, _⟩ => ⟨S2048x2x128, .f32⟩
  | .hbm, ⟨18, _⟩ => ⟨S2048x256, .f32⟩
  | .hbm, ⟨19, _⟩ => ⟨S2048x256, .bf16⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S4x1x2048, .f32⟩
  | .hbm, ⟨24, _⟩ => ⟨S4x1x2048, .f32⟩
  | .hbm, ⟨25, _⟩ => ⟨S8192x1024, .bf16⟩
  | .hbm, ⟨26, _⟩ => ⟨S8192x1024, .f32⟩
  | .hbm, ⟨27, _⟩ => ⟨S8192x1024, .bf16⟩
  | .hbm, ⟨28, _⟩ => ⟨S8192x4608, .f32⟩
  | .hbm, ⟨29, _⟩ => ⟨S8192x512, .bf16⟩
  | .hbm, ⟨30, _⟩ => ⟨S8192x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x256, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x256, .f32⟩
  | .local _ .vmem, ⟨21, _⟩ => ⟨S512x256, .f32⟩
  | .local _ .vmem, ⟨22, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let c4_i32 : BitVec 32 := 4#32
  let v11 : BitVec 1 := Scalar.cmpi .slt arg1 c4_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c4_i32_7 : BitVec 32 := 4#32
  let v15 : BitVec 1 := Scalar.cmpi .sge arg1 c4_i32_7
  let v16 : BitVec 32 := Scalar.extui v15
  let c0_i32_8 : BitVec 32 := 0#32
  let v17 : BitVec 1 := Scalar.cmpi .ne v16 c0_i32_8
  v17

def k0_cond5 (i : grid0.Coords) : BitVec 1 :=
  let arg1 : BitVec 32 := BitVec.ofNat 32 (i 1).val
  let c12_i32 : BitVec 32 := 12#32
  let v18 : BitVec 1 := Scalar.cmpi .eq arg1 c12_i32
  let v19 : BitVec 32 := Scalar.extui v18
  let c0_i32_9 : BitVec 32 := 0#32
  let v20 : BitVec 1 := Scalar.cmpi .ne v19 c0_i32_9
  v20

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c8_i32 : BitVec 32 := 8#32
  let v1 : BitVec 32 := Scalar.maxsi c0_i32 v0
  let v2 : BitVec 32 := Scalar.minsi c8_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S4x2048x2048 : Shape := ⟨3, ![4, 2048, 2048]⟩
abbrev S4x2048 : Shape := ⟨2, ![4, 2048]⟩
abbrev S1x2048 : Shape := ⟨2, ![1, 2048]⟩
abbrev S1x2048x6680 : Shape := ⟨3, ![1, 2048, 6680]⟩
abbrev S_ : Shape := ⟨0, ![]⟩
abbrev S4x2048x1 : Shape := ⟨3, ![4, 2048, 1]⟩
abbrev S2048 : Shape := ⟨1, ![2048]⟩
abbrev S1x1x2048 : Shape := ⟨3, ![1, 1, 2048]⟩
abbrev S4x1x2048 : Shape := ⟨3, ![4, 1, 2048]⟩
abbrev S2048x6680 : Shape := ⟨2, ![2048, 6680]⟩
abbrev S4x2048x6680 : Shape := ⟨3, ![4, 2048, 6680]⟩
abbrev S8192x6680 : Shape := ⟨2, ![8192, 6680]⟩
abbrev S8192x1024 : Shape := ⟨2, ![8192, 1024]⟩
abbrev S8192x512 : Shape := ⟨2, ![8192, 512]⟩
abbrev S8192x24 : Shape := ⟨2, ![8192, 24]⟩
abbrev S8192x4096 : Shape := ⟨2, ![8192, 4096]⟩
abbrev S8192x3x2x4 : Shape := ⟨4, ![8192, 3, 2, 4]⟩
abbrev S8192x2x3x4 : Shape := ⟨4, ![8192, 2, 3, 4]⟩
abbrev S8192x2x12 : Shape := ⟨3, ![8192, 2, 12]⟩
abbrev S8192x2x128 : Shape := ⟨3, ![8192, 2, 128]⟩
abbrev S8192x256 : Shape := ⟨2, ![8192, 256]⟩
abbrev S8192x4608 : Shape := ⟨2, ![8192, 4608]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S1x2048, .f32⟩
  | .hbm, ⟨4, _⟩ => ⟨S1x2048x6680, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x2048x2048, .f32⟩
  | .hbm, ⟨27, _⟩ => ⟨S4x2048x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S2048x6680, .f32⟩
  | .hbm, ⟨32, _⟩ => ⟨S4x2048x6680, .f32⟩
  | .hbm, ⟨33, _⟩ => ⟨S8192x6680, .f32⟩
  | .hbm, ⟨34, _⟩ => ⟨S8192x1024, .f32⟩
  | .hbm, ⟨35, _⟩ => ⟨S8192x1024, .f32⟩
  | .hbm, ⟨36, _⟩ => ⟨S8192x512, .f32⟩
  | .hbm, ⟨37, _⟩ => ⟨S8192x24, .f32⟩
  | .hbm, ⟨38, _⟩ => ⟨S8192x4096, .f32⟩
  | .hbm, ⟨39, _⟩ => ⟨S8192x3x2x4, .f32⟩
  | .hbm, ⟨40, _⟩ => ⟨S8192x2x3x4, .f32⟩
  | .hbm, ⟨41, _⟩ => ⟨S8192x2x12, .f32⟩
  | .hbm, ⟨42, _⟩ => ⟨S_, .i32⟩
  | .hbm, ⟨43, _⟩ => ⟨S_, .f32⟩
  | .hbm, ⟨44, _⟩ => ⟨S8192x2x128, .f32⟩
  | .hbm, ⟨45, _⟩ => ⟨S8192x256, .f32⟩
  | .hbm, ⟨46, _⟩ => ⟨S8192x1024, .bf16⟩
  | .hbm, ⟨47, _⟩ => ⟨S8192x1024, .bf16⟩
  | .hbm, ⟨48, _⟩ => ⟨S8192x4608, .f32⟩
  | .hbm, ⟨49, _⟩ => ⟨S8192x512, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Head.lean ====
module

public import proofs.«01_k».proof.Proof.Gen.KernelIdeal.Frame

@[expose] public section

set_option maxRecDepth 16384

noncomputable section

/-! # What one head of the body computes, as functions of vectors

The body writes the same lines for each of its four heads.  Here those lines are stated once, as functions of the
vectors a head reads; `Body.lean` shows that each head of the body is an instance of them. -/

namespace Cert.KernelIdeal.Body

open Idealize.ShloMosaic Idealize.ShloMosaic.TcCoe Idealize.SL.Sem Cert.KernelIdeal.Gen

variable {F : FTy → Type} [FloatOps F] [Named F]

/-- The weights of a head over the compressed keys: the unnormalised exponentials over their sum. -/
def cmpP (q kc : FVec F S128x128 .bf16) (mask : IVec S128x128 1) : FVec F S128x128 .f32 :=
  k0_pay84 (k0_pay82 q kc mask) (k0_pay83 q kc mask)

/-- The compressed branch of a head. -/
def cmpO (q kc vc : FVec F S128x128 .bf16) (mask : IVec S128x128 1) : FVec F S128x128 .f32 :=
  k0_pay85 vc (k0_pay82 q kc mask) (k0_pay83 q kc mask)

/-- The column `j` of a matrix. -/
theorem slc {j : ℕ} (hj : j < 128) : S128x128.Slices ![0, j] S128x1 :=
  ⟨rfl, fun a => by fin_cases a <;> simp <;> omega⟩

/-- A column repeated over all lanes. -/
def bcol (col : FVec F S128x1 .f32) : FVec F S128x128 .f32 :=
  broadcastTo S128x128 (shapeCast S128x1 col shapeCasts_S128x1_S128x1) broadcasts_S128x1_S128x128

/-- One step of the ranking: a block gains one place for block `w` before it. -/
def rankStep (score rank : FVec F S128x128 .f32) (w : BitVec 32) (col : FVec F S128x1 .f32) : FVec F S128x128 .f32 :=
  addf rank (select (cmpf .ogt (bcol col) score) (broadcast S128x128 (Scalar.ofBits .f32 0x3F800000#32))
    (select (cmpf .oeq (bcol col) score)
      (select (cmpi .sgt (iota .tc S128x128 32 [1] iota_S128x128_d1_w32) (broadcast S128x128 w))
        (broadcast S128x128 (Scalar.ofBits .f32 0x3F800000#32)) (broadcast S128x128 (Scalar.ofBits .f32 0x00000000#32)))
      (broadcast S128x128 (Scalar.ofBits .f32 0x00000000#32))))

/-- The rank of each block after the blocks before `n` were compared. -/
def rankTo (score : FVec F S128x128 .f32) : (n : ℕ) → n ≤ 128 → FVec F S128x128 .f32
  | 0, _ => broadcast S128x128 (Scalar.ofBits .f32 0x00000000#32)
  | n + 1, h => rankStep score (rankTo score n (by omega)) (BitVec.ofNat 32 n) (extractStridedSlice S128x1 ![0, n] score (slc (by omega)))

/-- The chosen blocks as a matrix of ones and zeros: allowed and of rank below sixteen. -/
def selOf (allowed : IVec S128x128 1) (rank : FVec F S128x128 .f32) : FVec F S128x128 .bf16 :=
  truncf .bf16 (select (andi (cmpf .olt rank (broadcast S128x128 (Scalar.ofBits .f32 0x41800000#32))) allowed)
    (broadcast S128x128 (Scalar.ofBits .f32 0x3F800000#32)) (broadcast S128x128 (Scalar.ofBits .f32 0x00000000#32))) bitsLt_bf16_f32

/-- The lane numbers. -/
def lane : IVec S128x128 32 := iota .tc S128x128 32 [1] iota_S128x128_d1_w32

/-- The importance of the blocks from the compressed weights of the four heads. -/
def impo (q0 q1 q2 q3 kc ov : FVec F S128x128 .bf16) (mask : IVec S128x128 1) : FVec F S128x128 .f32 :=
  k0_pay88 q3 kc mask (cmpP q0 kc mask) (cmpP q1 kc mask) (k0_pay82 q2 kc mask) (k0_pay83 q2 kc mask) ov

/-- The score of each block: its importance, a bonus for the forced ones, the mask for those not allowed. -/
def scoreOf (qpos : IVec S128x1 32) (imp : FVec F S128x128 .f32) : FVec F S128x128 .f32 :=
  k0_pay91 qpos imp lane (k0_pay89 qpos) 32#32

/-- The chosen blocks from the importance. -/
def selMat (qpos : IVec S128x1 32) (imp : FVec F S128x128 .f32) : FVec F S128x128 .bf16 :=
  selOf (k0_pay90 lane (k0_pay89 qpos) 32#32) (rankTo (scoreOf qpos imp) 32 (by omega))

/-- The three branches weighted by their gates, times `z * sigmoid z`. -/
def outH (ocmp osel owin : FVec F S128x128 .f32) (g0 g1 g2 : FVec F S128x1 .f32) (z : FVec F S128x128 .f32) : FVec F S128x128 .bf16 :=
  k0_pay137 owin (addf (mulf (bcol g0) ocmp) (mulf (bcol g1) osel)) g2 z

end Cert.KernelIdeal.Body
-- ==== Proof.Flash.lean ====
module

public import Idealize.ShloMosaic.PureOps.Ideal.Laws
public import Mathlib.Algebra.BigOperators.Fin

/-!
# Softmax over the extended reals, in one pass and tile by tile

A row of scores is a function `f : ℕ → EReal` of the key's number; a masked key has the score `⊥`. The weight of a score
`x` against a running maximum `m` is `wt x m = exp (x - m)`. The tile-by-tile softmax keeps a running maximum, a running sum
and a running weighted sum, and rescales the two sums whenever the maximum grows; this module proves that the rescaled
sums are the plain ones.
-/

@[expose] public section

namespace Cert.Nsa

open Idealize.ShloMosaic

/-- The weight `exp (x - m)` of a score `x` against a maximum `m`. -/
noncomputable def wt (x m : EReal) : EReal := Ideal.exp (x - m)

/-- A masked score has weight zero, whatever the maximum. -/
theorem wt_bot (m : EReal) : wt ⊥ m = 0 := by
  unfold wt; rw [sub_eq_add_neg, EReal.bot_add]; rfl

/-- A weight is a nonnegative real as long as the score does not exceed the maximum. -/
theorem wt_real {x m : EReal} (h : x ≤ m) : ∃ r : ℝ, 0 ≤ r ∧ wt x m = (r : EReal) := by
  unfold wt
  induction m with
  | bot => rw [le_bot_iff.mp h]; exact ⟨0, le_refl _, rfl⟩
  | top =>
    refine ⟨0, le_refl _, ?_⟩
    rw [EReal.sub_top]; rfl
  | coe m =>
    induction x with
    | bot => exact ⟨0, le_refl _, by rw [sub_eq_add_neg, EReal.bot_add]; rfl⟩
    | top => exact absurd h (by simp)
    | coe x => exact ⟨Real.exp (x - m), (Real.exp_pos _).le, by rw [← EReal.coe_sub]; rfl⟩

/-- Weights against a smaller maximum become weights against a larger one by one multiplication. -/
theorem wt_mul {x a b : EReal} (hxa : x ≤ a) (hab : a ≤ b) : wt a b * wt x a = wt x b := by
  induction x with
  | bot => rw [wt_bot, wt_bot, mul_zero]
  | top =>
    have ha := top_le_iff.mp hxa
    subst ha
    have hb := top_le_iff.mp hab
    subst hb
    have : wt ⊤ ⊤ = 0 := by unfold wt; rw [EReal.sub_top]; rfl
    rw [this, mul_zero]
  | coe x =>
    induction a with
    | bot => exact absurd hxa (by simp)
    | top =>
      have hb := top_le_iff.mp hab
      subst hb
      have h1 : wt (x : EReal) ⊤ = 0 := by unfold wt; rw [EReal.sub_top]; rfl
      rw [h1, mul_zero]
    | coe a =>
      induction b with
      | bot => exact absurd hab (by simp)
      | top =>
        have h1 : ∀ y : EReal, wt y ⊤ = 0 := fun y => by unfold wt; rw [EReal.sub_top]; rfl
        rw [h1, h1, zero_mul]
      | coe b =>
        have h : ∀ y z : ℝ, wt (y : EReal) (z : EReal) = ((Real.exp (y - z) : ℝ) : EReal) := fun y z => by
          unfold wt; rw [← EReal.coe_sub]; rfl
        rw [h, h, h, ← EReal.coe_mul, ← Real.exp_add]
        congr 2; ring

/-- A nonnegative real factor goes into a sum of extended reals. -/
theorem real_mul_sum {ι : Type} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- A sum of nonnegative reals is a nonnegative real. -/
theorem sum_real {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl _, by simp⟩
  | insert a s ha ih =>
    obtain ⟨r, hr, h1⟩ := ih fun i hi => h i (Finset.mem_insert_of_mem hi)
    obtain ⟨q, hq, h2⟩ := h a (Finset.mem_insert_self _ _)
    exact ⟨q + r, add_nonneg hq hr, by rw [Finset.sum_insert ha, h1, h2, EReal.coe_add]⟩

/-- Quotients by a larger-or-equal of a nonnegative real and a positive real: the divisor is a positive real, so the
quotient is a product with a nonnegative real. -/
theorem div_max_real {l c : ℝ} (hc : 0 < c) (x : EReal) :
    Ideal.div x (max (l : EReal) (c : EReal)) = ((1 / max l c : ℝ) : EReal) * x := by
  rw [← EReal.coe_strictMono.monotone.map_max, Ideal.div_coe (ne_of_gt (lt_max_of_lt_right hc)), mul_comm]

/-! ## The plain softmax of one row, and its partial sums -/

/-- The maximum of the first `n` scores (`⊥` for none). -/
noncomputable def sMax (f : ℕ → EReal) (n : ℕ) : EReal := (Finset.range n).sup f

/-- The sum of the weights of the first `n` scores. -/
noncomputable def sSum (f : ℕ → EReal) (n : ℕ) : EReal := ∑ k ∈ Finset.range n, wt (f k) (sMax f n)

/-- The weighted sum of the first `n` values. -/
noncomputable def sAcc (f v : ℕ → EReal) (n : ℕ) : EReal := ∑ k ∈ Finset.range n, wt (f k) (sMax f n) * v k

theorem le_sMax (f : ℕ → EReal) {n k : ℕ} (h : k < n) : f k ≤ sMax f n :=
  Finset.le_sup (f := f) (Finset.mem_range.mpr h)

/-- The maximum over `n + T` scores from the maximum over the first `n` and over the next `T`. -/
theorem sMax_add (f : ℕ → EReal) (n T : ℕ) :
    sMax f (n + T) = max (sMax f n) (Finset.univ.fold max ⊥ fun o : Fin T => f (n + o)) := by
  have h : (Finset.univ.fold max ⊥ fun o : Fin T => f (n + o)) = Finset.univ.sup fun o : Fin T => f (n + o) := rfl
  rw [h]
  refine le_antisymm (Finset.sup_le fun k hk => ?_) (max_le ?_ ?_)
  · by_cases hk' : k < n
    · exact le_max_of_le_left (le_sMax f hk')
    · have hk2 := Finset.mem_range.mp hk
      have h3 := Finset.le_sup (f := fun o : Fin T => f (n + o)) (Finset.mem_univ (⟨k - n, by omega⟩ : Fin T))
      refine le_max_of_le_right (le_trans (le_of_eq ?_) h3)
      show f k = f (n + (k - n))
      congr 1; omega
  · exact Finset.sup_mono (Finset.range_mono (Nat.le_add_right _ _))
  · exact Finset.sup_le fun o _ => le_sMax f (Nat.add_lt_add_left o.2 n)

theorem sMax_mono (f : ℕ → EReal) {n n' : ℕ} (h : n ≤ n') : sMax f n ≤ sMax f n' :=
  Finset.sup_mono (Finset.range_mono h)

/-- One tile of the running sum: the old sum rescaled, plus the tile's weights. -/
theorem sSum_add (f : ℕ → EReal) (n T : ℕ) :
    sSum f (n + T) = wt (sMax f n) (sMax f (n + T)) * sSum f n + ∑ o : Fin T, wt (f (n + o)) (sMax f (n + T)) := by
  obtain ⟨r, hr, h⟩ := wt_real (sMax_mono f (Nat.le_add_right n T))
  unfold sSum
  rw [Finset.sum_range_add, h, real_mul_sum _ _ hr, ← Finset.sum_range (fun o => wt (f (n + o)) (sMax f (n + T)))]
  congr 1
  refine Finset.sum_congr rfl fun k hk => ?_
  rw [← h, wt_mul (le_sMax f (Finset.mem_range.mp hk)) (sMax_mono f (Nat.le_add_right n T))]

/-- One tile of the running weighted sum: the old one rescaled, plus the tile's product. -/
theorem sAcc_add (f v : ℕ → EReal) (n T : ℕ) :
    sAcc f v (n + T)
      = wt (sMax f n) (sMax f (n + T)) * sAcc f v n + ∑ o : Fin T, wt (f (n + o)) (sMax f (n + T)) * v (n + o) := by
  obtain ⟨r, hr, h⟩ := wt_real (sMax_mono f (Nat.le_add_right n T))
  unfold sAcc
  rw [Finset.sum_range_add, h, real_mul_sum _ _ hr,
    ← Finset.sum_range (fun o => wt (f (n + o)) (sMax f (n + T)) * v (n + o))]
  congr 1
  refine Finset.sum_congr rfl fun k hk => ?_
  rw [← h, ← mul_assoc, wt_mul (le_sMax f (Finset.mem_range.mp hk)) (sMax_mono f (Nat.le_add_right n T))]

/-- The sum of the weights is a nonnegative real. -/
theorem sSum_real (f : ℕ → EReal) (n : ℕ) : ∃ r : ℝ, 0 ≤ r ∧ sSum f n = (r : EReal) :=
  sum_real _ _ fun _ hk => wt_real (le_sMax f (Finset.mem_range.mp hk))

/-- Scores that are all masked past `n` do not change the maximum. -/
theorem sMax_ext (f : ℕ → EReal) {n n' : ℕ} (hn : n ≤ n') (h : ∀ k, n ≤ k → k < n' → f k = ⊥) : sMax f n' = sMax f n := by
  refine le_antisymm (Finset.sup_le fun k hk => ?_) (sMax_mono f hn)
  by_cases hk' : k < n
  · exact le_sMax f hk'
  · rw [h k (Nat.le_of_not_lt hk') (Finset.mem_range.mp hk)]; exact bot_le

/-- Scores that are all masked past `n` do not change a sum of weighted terms. -/
theorem sum_ext (f g : ℕ → EReal) {n n' : ℕ} (hn : n ≤ n') (h : ∀ k, n ≤ k → k < n' → g k = 0) :
    ∑ k ∈ Finset.range n', g k = ∑ k ∈ Finset.range n, g k :=
  (Finset.sum_subset (Finset.range_mono hn) fun k hk hk' =>
    h k (Nat.le_of_not_lt fun hl => hk' (Finset.mem_range.mpr hl)) (Finset.mem_range.mp hk)).symm

theorem sSum_ext (f : ℕ → EReal) {n n' : ℕ} (hn : n ≤ n') (h : ∀ k, n ≤ k → k < n' → f k = ⊥) : sSum f n' = sSum f n := by
  unfold sSum
  rw [sMax_ext f hn h, sum_ext f _ hn fun k h1 h2 => by rw [h k h1 h2, wt_bot]]

theorem sAcc_ext (f v : ℕ → EReal) {n n' : ℕ} (hn : n ≤ n') (h : ∀ k, n ≤ k → k < n' → f k = ⊥) :
    sAcc f v n' = sAcc f v n := by
  unfold sAcc
  rw [sMax_ext f hn h, sum_ext f _ hn fun k h1 h2 => by rw [h k h1 h2, wt_bot, zero_mul]]

/-- Dividing the weighted sum is the weighted sum of the divided weights: the softmax normalised after or before its product
with the values. -/
theorem div_sAcc (f v : ℕ → EReal) (n : ℕ) {c : ℝ} (hc : 0 < c) :
    Ideal.div (sAcc f v n) (max (sSum f n) (c : EReal))
      = ∑ k ∈ Finset.range n, Ideal.div (wt (f k) (sMax f n)) (max (sSum f n) (c : EReal)) * v k := by
  obtain ⟨l, hl, h⟩ := sSum_real f n
  rw [h, div_max_real hc]
  unfold sAcc
  rw [real_mul_sum _ _ (by positivity)]
  exact Finset.sum_congr rfl fun k _ => by rw [div_max_real hc, mul_assoc]

/-- A normalised weight is a nonnegative real. -/
theorem div_wt_real (f : ℕ → EReal) {n k : ℕ} (hk : k < n) {c : ℝ} (hc : 0 < c) :
    ∃ r : ℝ, 0 ≤ r ∧ Ideal.div (wt (f k) (sMax f n)) (max (sSum f n) (c : EReal)) = (r : EReal) := by
  obtain ⟨l, hl, h⟩ := sSum_real f n
  obtain ⟨w, hw, h'⟩ := wt_real (le_sMax f hk)
  rw [h, h', div_max_real hc]
  exact ⟨1 / max l c * w, by positivity, by rw [EReal.coe_mul]⟩

/-- A maximum over `Fin n` is the maximum of the first `n` scores. -/
theorem fold_eq_sMax (f : ℕ → EReal) (n : ℕ) : (Finset.univ.fold max ⊥ fun k : Fin n => f k) = sMax f n := by
  have h := sMax_add f 0 n
  rw [Nat.zero_add] at h
  rw [h]
  have h0 : sMax f 0 = ⊥ := rfl
  rw [h0, max_eq_right bot_le]
  simp only [Nat.zero_add]

end Cert.Nsa
-- ==== Proof.Spec.lean ====
module

public import proofs.«01_k».proof.Proof.Flash
public import Mathlib.Data.Fintype.Card

/-!
# The attention of one query, in the plain form both programs are compared with

Keys and blocks are numbered by natural numbers; a masked key has the score `⊥`.
-/

@[expose] public section

noncomputable section

namespace Cert.Nsa

open Idealize.ShloMosaic
open scoped Classical

/-- The smallest sum of weights the programs divide by, as a real number. -/
theorem eps_real : ∃ r : ℝ, 0 < r ∧ Ideal.ofBits .f32 0x0DA24260#32 = (r : EReal) := by
  refine ⟨_, ?_, by simp [Ideal.ofBits, Ideal.ieee]; rfl⟩
  positivity

/-- The smallest sum of weights the programs divide by. -/
def eps : ℝ := eps_real.choose
theorem eps_pos : 0 < eps := eps_real.choose_spec.1
theorem eps_val : Ideal.ofBits .f32 0x0DA24260#32 = (eps : EReal) := eps_real.choose_spec.2

/-- The bonus of the forced blocks, as a real number. -/
theorem bonus_real : ∃ r : ℝ, 0 ≤ r ∧ Ideal.ofBits .f32 0x49742400#32 = (r : EReal) := by
  refine ⟨_, ?_, by simp [Ideal.ofBits, Ideal.ieee]; rfl⟩
  positivity

/-- The scale of the scores. -/
def scale : EReal := (((Real.sqrt 128)⁻¹ : ℝ) : EReal)

/-- The scaled product of a query with a key. -/
def sc (q k : Fin 128 → EReal) : EReal := (∑ d, q d * k d) * scale

/-- The normalised weight of key `k` among the keys before `n`. -/
def P (f : ℕ → EReal) (n k : ℕ) : EReal := Ideal.div (wt (f k) (sMax f n)) (max (sSum f n) (eps : EReal))

/-- The attention over the keys before `n`. -/
def att (f v : ℕ → EReal) (n : ℕ) : EReal := ∑ k ∈ Finset.range n, P f n k * v k

/-- The scores of the compressed keys: those of blocks that end at or before the query. -/
def fC (q : Fin 128 → EReal) (kc : ℕ → Fin 128 → EReal) (t k : ℕ) : EReal :=
  if k < 127 ∧ k * 16 + 31 ≤ t then sc q (kc k) else ⊥

/-- Whether compressed block `n` overlaps selection block `j`. -/
def ov (n j : ℕ) : EReal := if n * 16 < j * 64 + 64 ∧ j * 64 < n * 16 + 32 then 1 else 0

/-- The importance of block `j`: the compressed weights of the four heads over the blocks that overlap it. -/
def imp (q : Fin 4 → Fin 128 → EReal) (kc : ℕ → Fin 128 → EReal) (t j : ℕ) : EReal :=
  ∑ n ∈ Finset.range 127, (∑ r, P (fC (q r) kc t) 127 n) * ov n j

/-- The score of block `j` given its importance. -/
def score (im : ℕ → EReal) (t j : ℕ) : EReal :=
  if j * 64 ≤ t then im j + (if j = 0 ∨ j = t / 64 ∨ j + 1 = t / 64 then Ideal.ofBits .f32 0x49742400#32 else 0) else ⊥

/-- Block `i` comes before block `j`: a larger score, or the same score and a smaller number. -/
def before (s : ℕ → EReal) (i j : ℕ) : Prop := s j < s i ∨ (s i = s j ∧ i < j)

/-- The number of blocks before block `j`. -/
def rank (s : ℕ → EReal) (j : ℕ) : ℕ := ((Finset.range 32).filter fun i => before s i j).card

/-- Block `j` is chosen: allowed, and among the first sixteen. -/
def chosen (s : ℕ → EReal) (t j : ℕ) : Prop := j * 64 ≤ t ∧ j < 32 ∧ rank s j < 16

/-- The scores of the keys of the chosen blocks. -/
def fS (q : Fin 128 → EReal) (ks : ℕ → Fin 128 → EReal) (C : ℕ → Prop) (t k : ℕ) : EReal :=
  if C (k / 64) ∧ k ≤ t then sc q (ks k) else ⊥

/-- The scores of the keys of the sliding window. -/
def fW (q : Fin 128 → EReal) (kw : ℕ → Fin 128 → EReal) (t k : ℕ) : EReal :=
  if k ≤ t ∧ t ≤ k + 512 then sc q (kw k) else ⊥

/-- The logistic function. -/
def sig (x : EReal) : EReal := Ideal.div 1 (1 + Ideal.exp (-x))

/-- One entry of the result: head `h` of the query at position `t`. -/
def out (q : Fin 4 → Fin 128 → EReal) (kc ks kw : ℕ → Fin 128 → EReal) (vc vs vw : ℕ → EReal) (t : ℕ) (h : Fin 4) (g0 g1 g2 z : EReal) : EReal :=
  (sig g0 * att (fC (q h) kc t) vc 127
    + sig g1 * att (fS (q h) ks (chosen (score (imp q kc t) t) t) t) vs 2048
    + sig g2 * att (fW (q h) kw t) vw 2048) * (z * sig z)

/-- A masked key has the normalised weight zero. -/
theorem P_bot (f : ℕ → EReal) (n k : ℕ) (h : f k = ⊥) : P f n k = 0 := by
  unfold P
  obtain ⟨l, hl, e⟩ := sSum_real f n
  rw [h, wt_bot, e, div_max_real eps_pos, mul_zero]

/-- A normalised weight is a nonnegative real number. -/
theorem P_real (f : ℕ → EReal) {n k : ℕ} (hk : k < n) : ∃ r : ℝ, 0 ≤ r ∧ P f n k = (r : EReal) := div_wt_real f hk eps_pos

/-- The attention is the weighted sum over the sum. -/
theorem att_eq_div (f v : ℕ → EReal) (n : ℕ) : Ideal.div (sAcc f v n) (max (sSum f n) (eps : EReal)) = att f v n :=
  div_sAcc f v n eps_pos

theorem P_ext (f : ℕ → EReal) {n n' : ℕ} (hn : n ≤ n') (h : ∀ k, n ≤ k → k < n' → f k = ⊥) (k : ℕ) : P f n' k = P f n k := by
  unfold P; rw [sMax_ext f hn h, sSum_ext f hn h]

/-- Masked keys at the end change nothing. -/
theorem att_ext (f v : ℕ → EReal) {n n' : ℕ} (hn : n ≤ n') (h : ∀ k, n ≤ k → k < n' → f k = ⊥) : att f v n' = att f v n := by
  unfold att
  rw [sum_ext f _ hn fun k h1 h2 => by rw [P_bot _ _ _ (h k h1 h2), zero_mul]]
  exact Finset.sum_congr rfl fun k _ => by rw [P_ext f hn h]

/-- The maximum over a window of keys is the maximum over all keys, when the other keys are masked. -/
theorem sMax_shift (f : ℕ → EReal) (b n N : ℕ) (hN : b + n ≤ N) (h : ∀ k, k < N → (k < b ∨ b + n ≤ k) → f k = ⊥) :
    sMax (fun k => f (b + k)) n = sMax f N := by
  refine le_antisymm (Finset.sup_le fun k hk => ?_) (Finset.sup_le fun k hk => ?_)
  · exact le_sMax f (by have := Finset.mem_range.mp hk; omega)
  · have hk' := Finset.mem_range.mp hk
    by_cases hw : k < b ∨ b + n ≤ k
    · rw [h k hk' hw]; exact bot_le
    · have e : f k = (fun k => f (b + k)) (k - b) := by
        show f k = f (b + (k - b)); congr 1; omega
      rw [e]
      exact le_sMax (fun k => f (b + k)) (by omega)

/-- A sum over a window is the sum over all keys, when the other terms vanish. -/
theorem sum_shift (g : ℕ → EReal) (b n N : ℕ) (hN : b + n ≤ N) (h : ∀ k, k < N → (k < b ∨ b + n ≤ k) → g k = 0) :
    ∑ k ∈ Finset.range n, g (b + k) = ∑ k ∈ Finset.range N, g k := by
  rw [← Finset.sum_subset (s₁ := (Finset.range n).map ⟨fun k => b + k, fun x y e => Nat.add_left_cancel e⟩) (s₂ := Finset.range N)]
  · rw [Finset.sum_map]; rfl
  · intro k hk
    obtain ⟨x, hx, rfl⟩ := Finset.mem_map.mp hk
    have := Finset.mem_range.mp hx
    exact Finset.mem_range.mpr (by show b + x < N; omega)
  · intro k hk hk'
    refine h k (Finset.mem_range.mp hk) ?_
    by_contra hc
    exact hk' (Finset.mem_map.mpr ⟨k - b, Finset.mem_range.mpr (by omega), by show b + (k - b) = k; omega⟩)

/-- The attention over a window of keys is the attention over all keys, when the other keys are masked. -/
theorem att_shift (f v : ℕ → EReal) (b n N : ℕ) (hN : b + n ≤ N) (h : ∀ k, k < N → (k < b ∨ b + n ≤ k) → f k = ⊥) :
    att (fun k => f (b + k)) (fun k => v (b + k)) n = att f v N := by
  have hs : sSum (fun k => f (b + k)) n = sSum f N := by
    unfold sSum
    rw [sMax_shift f b n N hN h]
    exact sum_shift (fun k => wt (f k) (sMax f N)) b n N hN fun k h1 h2 => by rw [h k h1 h2, wt_bot]
  unfold att P
  rw [hs, sMax_shift f b n N hN h]
  exact sum_shift (fun k => Ideal.div (wt (f k) (sMax f N)) (max (sSum f N) (eps : EReal)) * v k) b n N hN fun k h1 h2 => by
    have := P_bot f N k (h k h1 h2)
    unfold P at this
    rw [this, zero_mul]

/-- The importance of a block is a real number. -/
theorem imp_real (q : Fin 4 → Fin 128 → EReal) (kc : ℕ → Fin 128 → EReal) (t j : ℕ) : ∃ r : ℝ, imp q kc t j = (r : EReal) := by
  obtain ⟨r, _, h⟩ := sum_real (Finset.range 127) (fun n => (∑ r, P (fC (q r) kc t) 127 n) * ov n j) fun n hn => by
    obtain ⟨r, hr, h⟩ := sum_real Finset.univ (fun r => P (fC (q r) kc t) 127 n) fun r _ => P_real _ (Finset.mem_range.mp hn)
    simp only [h]
    unfold ov
    split_ifs
    · exact ⟨r, hr, mul_one _⟩
    · exact ⟨0, le_refl _, mul_zero _⟩
  exact ⟨r, h⟩

/-- The score of an allowed block is a real number. -/
theorem score_real {im : ℕ → EReal} (h : ∀ j, ∃ r : ℝ, im j = (r : EReal)) {t j : ℕ} (hj : j * 64 ≤ t) : ∃ r : ℝ, score im t j = (r : EReal) := by
  obtain ⟨r, hr⟩ := h j
  obtain ⟨b, _, hb⟩ := bonus_real
  unfold score
  rw [if_pos hj, hr, hb]
  split_ifs
  · exact ⟨r + b, (EReal.coe_add _ _).symm⟩
  · exact ⟨r, add_zero _⟩

end Cert.Nsa
-- ==== Proof.HeadVal.lean ====
module

public import proofs.«01_k».proof.Proof.Head
public import proofs.«01_k».proof.Proof.Spec
public import Idealize.ShloMosaic.Lib.Pointwise
public import Idealize.ShloMosaic.PureOps.IdealRules

@[expose] public section

set_option maxRecDepth 16384

noncomputable section

/-! # The functions of one head, read at an index -/

namespace Cert.KernelIdeal.Body

open Idealize.ShloMosaic Idealize.ShloMosaic.TcCoe Idealize.SL.Sem Cert.KernelIdeal Cert.KernelIdeal.Gen Cert.Nsa
open scoped Classical

theorem scale_val : (Named.named (F := Ideal) (φ := .f32) κ "scale" 0x3DB504F3#32 : EReal) = scale :=
  IdealRules.named_const.ideal_named_scalar _ _ _ _ rfl
theorem mask_val : (Named.named (F := Ideal) (φ := .f32) κ "mask" 0xF149F2CA#32 : EReal) = ⊥ :=
  IdealRules.named_const.ideal_named_scalar _ _ _ _ rfl
/-- The word the maxima start from is the least value. -/
theorem ninf_val : Ideal.ofBits .f32 0xFF800000#32 = ⊥ := by simp [Ideal.ofBits, Ideal.ieee]

/-- A select on a bit is an `if`. -/
theorem sel_if {α : Type} (b : BitVec 1) (x y : α) : Scalar.select b x y = if b = 1#1 then x else y := by
  unfold Scalar.select; rcases BitVec.eq_zero_or_eq_one b with h | h <;> simp [h]

/-- The weight of a key is set to zero where the key is masked: it is zero there already. -/
theorem sel_wt (b : BitVec 1) (x m : EReal) : Scalar.select b (Ideal.exp (Scalar.select b x ⊥ - m)) 0 = wt (if b = 1#1 then x else ⊥) m := by
  rw [sel_if, sel_if]
  split_ifs with h
  · rfl
  · exact (wt_bot m).symm

/-- A row of masked scores, numbered by natural numbers. -/
def rowS {n : ℕ} (b : Fin n → BitVec 1) (x : Fin n → EReal) (k : ℕ) : EReal :=
  if h : k < n then (if b ⟨k, h⟩ = 1#1 then x ⟨k, h⟩ else ⊥) else ⊥

theorem rowS_fin {n : ℕ} (b : Fin n → BitVec 1) (x : Fin n → EReal) (k : Fin n) : rowS b x k = if b k = 1#1 then x k else ⊥ := by
  unfold rowS; rw [dif_pos k.isLt]

/-- A row of a matrix, numbered by natural numbers. -/
def rowV {n : ℕ} (x : Fin n → EReal) (k : ℕ) : EReal := if h : k < n then x ⟨k, h⟩ else 0

theorem rowV_fin {n : ℕ} (x : Fin n → EReal) (k : Fin n) : rowV x k = x k := by
  unfold rowV; rw [dif_pos k.isLt]

theorem fold_rowS {n : ℕ} (b : Fin n → BitVec 1) (x : Fin n → EReal) :
    (Finset.univ.fold max ⊥ fun k => Scalar.select (b k) (x k) ⊥) = sMax (rowS b x) n := by
  rw [← fold_eq_sMax]
  congr 1; funext k
  rw [sel_if, rowS_fin]

theorem sum_rowS {n : ℕ} (b : Fin n → BitVec 1) (x : Fin n → EReal) (m : EReal) :
    (∑ k, Scalar.select (b k) (Ideal.exp (Scalar.select (b k) (x k) ⊥ - m)) 0) = ∑ k ∈ Finset.range n, wt (rowS b x k) m := by
  rw [Finset.sum_range]
  exact Finset.sum_congr rfl fun k _ => by rw [sel_wt, rowS_fin]

/-- The masked softmax of a row, as the programs write it. -/
theorem soft_row {n : ℕ} (b : Fin n → BitVec 1) (x : Fin n → EReal) (k : Fin n) :
    Ideal.div (Scalar.select (b k) (Ideal.exp (Scalar.select (b k) (x k) ⊥ - Finset.univ.fold max ⊥ fun k => Scalar.select (b k) (x k) ⊥)) 0)
      (max (∑ k, Scalar.select (b k) (Ideal.exp (Scalar.select (b k) (x k) ⊥ - Finset.univ.fold max ⊥ fun k => Scalar.select (b k) (x k) ⊥)) 0) (eps : EReal))
      = P (rowS b x) n k := by
  rw [fold_rowS, sum_rowS, sel_wt, ← rowS_fin b x k]
  rfl

theorem cmpP_at (q kc : FVec Ideal S128x128 .bf16) (mask : IVec S128x128 1) (t k : Fin 128) :
    cmpP q kc mask (ix2 t k) = P (rowS (fun k => mask (ix2 t k)) fun k => sc (fun d => q (ix2 t d)) fun d => kc (ix2 k d)) 128 k := by
  pointwise [cmpP, k0_pay84, k0_pay82, k0_pay83, scale_val, mask_val, ninf_val, eps_val]
  exact soft_row (fun k => mask (ix2 t k)) (fun k => sc (fun d => q (ix2 t d)) fun d => kc (ix2 k d)) k

theorem cmpO_at (q kc vc : FVec Ideal S128x128 .bf16) (mask : IVec S128x128 1) (t k : Fin 128) :
    cmpO q kc vc mask (ix2 t k) = ∑ n : Fin 128, cmpP q kc mask (ix2 t n) * vc (ix2 n k) := by
  pointwise [cmpP, cmpO, k0_pay85]

theorem outH_at (ocmp osel owin : FVec Ideal S128x128 .f32) (g0 g1 g2 : FVec Ideal S128x1 .f32) (z : FVec Ideal S128x128 .f32) (t d : Fin 128) :
    outH ocmp osel owin g0 g1 g2 z (ix2 t d)
      = (g0 (ix2 t 0) * ocmp (ix2 t d) + g1 (ix2 t 0) * osel (ix2 t d) + g2 (ix2 t 0) * owin (ix2 t d)) * (z (ix2 t d) * Nsa.sig (z (ix2 t d))) := by
  pointwise [outH, k0_pay137, bcol]
  unfold Nsa.sig
  rw [zero_sub]

theorem impo_at (q0 q1 q2 q3 kc ov : FVec Ideal S128x128 .bf16) (mask : IVec S128x128 1) (t s : Fin 128)
    (hr : ∀ x, ∃ r : ℝ, cmpP q0 kc mask (ix2 t x) + cmpP q1 kc mask (ix2 t x) + cmpP q2 kc mask (ix2 t x) + cmpP q3 kc mask (ix2 t x) = (r : EReal)) :
    impo q0 q1 q2 q3 kc ov mask (ix2 t s)
      = ∑ n : Fin 128, (cmpP q0 kc mask (ix2 t n) + cmpP q1 kc mask (ix2 t n) + cmpP q2 kc mask (ix2 t n) + cmpP q3 kc mask (ix2 t n)) * ov (ix2 n s) := by
  have h86 : k0_pay86 q3 kc mask = cmpP q3 kc mask := rfl
  have h84 : k0_pay84 (k0_pay82 q2 kc mask) (k0_pay83 q2 kc mask) = cmpP q2 kc mask := rfl
  unfold impo k0_pay88
  rw [h86, h84]
  pointwise []
  refine (congrArg (_ + ·) (Finset.sum_eq_zero fun n _ => ?_)).trans (add_zero _)
  obtain ⟨r, h⟩ := hr n
  rw [h, ← EReal.coe_sub, sub_self]
  exact zero_mul _

theorem gates_at (g : Vec Ideal S128x128 .f32) (t s : Fin 128) : k0_pay124 g (ix2 t s) = Nsa.sig (g (ix2 t s)) := by
  pointwise [k0_pay124]
  unfold Nsa.sig
  rw [zero_sub]

theorem sel_at (acc l : Vec Ideal S1x128x128 .f32) (t s : Fin 128) :
    k0_pay138 acc l (ix2 t s) = Ideal.div (acc (ix3 0 t s)) (max (l (ix3 0 t s)) (eps : EReal)) := by
  pointwise [k0_pay138, eps_val]

theorem win_at (q : Vec Ideal S128x128 .bf16) (kw vw : FVec Ideal S640x128 .bf16) (mask : IVec S128x640 1) (t s : Fin 128) :
    k0_pay134 q kw vw mask (ix2 t s)
      = att (rowS (fun k => mask (ix2 t k)) fun k => sc (fun d => q (ix2 t d)) fun d => kw (ix2 k d)) (rowV fun k => vw (ix2 k s)) 640 := by
  pointwise [k0_pay134, scale_val, mask_val, ninf_val, eps_val]
  unfold att
  rw [Finset.sum_range]
  refine Finset.sum_congr rfl fun k _ => ?_
  rw [rowV_fin]
  exact congrArg (· * _) (soft_row (fun k => mask (ix2 t k)) (fun k => sc (fun d => q (ix2 t d)) fun d => kw (ix2 k d)) k)

theorem trip_s_at (q : Vec Ideal S128x128 .bf16) (kw : FVec Ideal S256x128 .bf16) (mask : IVec S128x256 1) (t : Fin 128) (s : Fin 256) :
    k0_pay21 q kw mask (ix2 t s) = if mask (ix2 t s) = 1#1 then sc (fun d => q (ix2 t d)) (fun d => kw (ix2 s d)) else ⊥ := by
  pointwise [k0_pay21, scale_val, mask_val]
  rw [sel_if]
  rfl

theorem trip_max_at (s : FVec Ideal S128x256 .f32) (m : Vec Ideal S1x128x128 .f32) (t l : Fin 128) :
    k0_pay28 s (k0_pay22 m) (ix3 0 t l) = max (m (ix3 0 t l)) (Finset.univ.fold max ⊥ fun k => s (ix2 t k)) := by
  pointwise [k0_pay28, k0_pay22, k0_pay23, ninf_val]

theorem trip_sum_at (mask : IVec S128x256 1) (s : FVec Ideal S128x256 .f32) (m l' : Vec Ideal S1x128x128 .f32) (t l : Fin 128) (M : EReal)
    (hm : ∀ l, m (ix3 0 t l) = M) (hs : ∀ k, mask (ix2 t k) ≠ 1#1 → s (ix2 t k) = ⊥) :
    k0_pay26 mask s (k0_pay22 m) l' (ix3 0 t l)
      = wt M (max M (Finset.univ.fold max ⊥ fun k => s (ix2 t k))) * l' (ix3 0 t l)
        + ∑ k, wt (s (ix2 t k)) (max M (Finset.univ.fold max ⊥ fun k => s (ix2 t k))) := by
  have hw : ∀ (k : Fin 256) (m : EReal), Scalar.select (mask (ix2 t k)) (Ideal.exp (s (ix2 t k) - m)) 0 = wt (s (ix2 t k)) m := fun k m => by
    rw [sel_if]
    split_ifs with h
    · rfl
    · rw [hs k h, wt_bot]
  pointwise [k0_pay26, k0_pay25, k0_pay24, k0_pay22, k0_pay23, ninf_val, hm]
  simp only [hw]
  rw [Fin.sum_univ_two_halves 128 128 rfl]
  rfl

theorem trip_acc_at (v : FVec Ideal S256x128 .bf16) (mask : IVec S128x256 1) (s : FVec Ideal S128x256 .f32) (m l' : Vec Ideal S1x128x128 .f32) (t l : Fin 128) (M : EReal)
    (hm : ∀ l, m (ix3 0 t l) = M) (hs : ∀ k, mask (ix2 t k) ≠ 1#1 → s (ix2 t k) = ⊥) :
    k0_pay27 v mask s (k0_pay22 m) l' (ix3 0 t l)
      = wt M (max M (Finset.univ.fold max ⊥ fun k => s (ix2 t k))) * l' (ix3 0 t l)
        + ∑ k, wt (s (ix2 t k)) (max M (Finset.univ.fold max ⊥ fun k => s (ix2 t k))) * v (ix2 k l) := by
  have hw : ∀ (k : Fin 256) (m c : EReal), Scalar.select (mask (ix2 t k)) (Ideal.exp (s (ix2 t k) - m) * c) 0 = wt (s (ix2 t k)) m * c := fun k m c => by
    rw [sel_if]
    split_ifs with h
    · rfl
    · rw [hs k h, wt_bot, zero_mul]
  pointwise [k0_pay27, k0_pay25, k0_pay24, k0_pay22, k0_pay23, ninf_val, hm]
  simp only [hw]
  rw [Fin.sum_univ_two_halves 128 128 rfl]
  rfl

end Cert.KernelIdeal.Body
-- ==== Proof.Masks.lean ====
module

public import proofs.«01_k».proof.Proof.HeadVal
public import Idealize.ShloMosaic.Lib.WordCmp

@[expose] public section

set_option maxRecDepth 16384

noncomputable section

/-! # The masks and offsets of the body, in plain arithmetic -/

namespace Cert.KernelIdeal.Body

open Idealize.ShloMosaic Idealize.ShloMosaic.TcCoe Idealize.SL.Sem Cert.KernelIdeal Cert.KernelIdeal.Gen Cert.Nsa
open Idealize.ShloMosaic.WordCmp
open scoped Classical

/-- The position of row `t` of the block of queries at grid point `i`. -/
def pos (i : grid0.Coords) (t : Fin 128) : ℕ := 128 * (i 2).val + t.val

theorem i2_lt (i : grid0.Coords) : (i 2).val < 16 := (i 2).isLt
theorem pos_lt (i : grid0.Coords) (t : Fin 128) : pos i t < 2048 := by
  have := i2_lt i; have := t.isLt; unfold pos; omega

theorem add_w (a b : ℕ) : Scalar.addi (BitVec.ofNat 32 a) (BitVec.ofNat 32 b) = BitVec.ofNat 32 (a + b) := (BitVec.ofNat_add a b).symm
theorem mul_w (a b : ℕ) : Scalar.muli (BitVec.ofNat 32 a) (BitVec.ofNat 32 b) = BitVec.ofNat 32 (a * b) := (BitVec.ofNat_mul a b).symm
theorem add_w' (a b : ℕ) : IntOp.addi (BitVec.ofNat 32 a) (BitVec.ofNat 32 b) = BitVec.ofNat 32 (a + b) := (BitVec.ofNat_add a b).symm
theorem mul_w' (a b : ℕ) : IntOp.muli (BitVec.ofNat 32 a) (BitVec.ofNat 32 b) = BitVec.ofNat 32 (a * b) := (BitVec.ofNat_mul a b).symm

theorem t1_trips : ∀ i : grid0.Coords, (k0_t1_loop i).trips = (i 2).val / 2 + 1 := by decide +kernel
theorem t2_trips : ∀ i : grid0.Coords, (k0_t2_loop i).trips = 0 := by decide +kernel
theorem off1_eq : ∀ (i : grid0.Coords) (k : Fin (k0_t1_loop i).trips), k0_off1 i k = ![0, 256 * k.val, 0] := by decide +kernel
theorem off2_eq : ∀ (i : grid0.Coords) (k : Fin (k0_t1_loop i).trips), k0_off2 i k = ![k.val, 0, 0] := by decide +kernel
theorem off5_eq : ∀ i : grid0.Coords, k0_off5 i = ![0, 128 * (i 2).val - 512, 0] := by decide +kernel
theorem v688_eq : ∀ i : grid0.Coords, kernelRun0_A.sl.v688 i = BitVec.ofNat 32 (128 * (i 2).val - 512) := by decide +kernel

/-- The positions of the queries, as words. -/
theorem qpos_at (i : grid0.Coords) (t : Fin 128) : k0_pay73 i (ix2 t 0) = BitVec.ofNat 32 (pos i t) := by
  pointwise [k0_pay73]
  rw [mul_w, add_w']
  unfold pos; rw [Nat.mul_comm]

/-- The mask of the compressed keys. -/
theorem cmask_at (i : grid0.Coords) (t k : Fin 128) : k0_pay76 i (ix2 t k) = 1#1 ↔ k.val < 127 ∧ k.val * 16 + 31 ≤ pos i t := by
  have := pos_lt i t
  have h := qpos_at i t
  pointwise [k0_pay76]
  rw [h, mul_w', add_w']
  word_cmp

/-- The blocks that start at or before the query. -/
theorem allowed_at (i : grid0.Coords) (t k : Fin 128) : k0_pay90 lane (k0_pay89 (k0_pay73 i)) 32#32 (ix2 t k) = 1#1 ↔ k.val * 64 ≤ pos i t ∧ k.val < 32 := by
  have := pos_lt i t
  have h := qpos_at i t
  pointwise [k0_pay90, k0_pay89, lane]
  rw [h, mul_w']
  word_cmp

/-- The difference of two small words is the difference of the numbers. -/
theorem sub_toInt {a b : ℕ} (ha : a < 4096) (hb : b < 4096) : (IntOp.subi (BitVec.ofNat 32 a) (BitVec.ofNat 32 b)).toInt = (a : ℤ) - b := by
  show (BitVec.ofNat 32 a - BitVec.ofNat 32 b).toInt = _
  rw [BitVec.toInt_sub, toInt_ofNat_of_lt (by omega), toInt_ofNat_of_lt (by omega)]
  simp only [Int.bmod_def]
  omega

/-- The mask of a window that starts at key `b`. -/
theorem wmask_word (p : IVec S128x1 32) (t : Fin 128) (k : Fin 640) (b n : ℕ) (hb : b < 2048) (hn : n < 2048) (h : p (ix2 t 0) = BitVec.ofNat 32 n) :
    k0_pay123 p (BitVec.ofNat 32 b) (ix2 t k) = 1#1 ↔ b + k.val ≤ n ∧ n ≤ b + k.val + 512 := by
  have hk := k.isLt
  pointwise [k0_pay123]
  rw [h, add_w', cmpi_sge_eq, cmpi_sle_eq, sub_toInt (by omega) (by omega)]
  simp only [andi_ofBool, ofBool_eq_one_iff, Bool.and_eq_true, decide_eq_true_eq]
  rw [show (0#32).toInt = 0 from rfl, show (512#32).toInt = 512 from rfl]
  omega

/-- The mask of the sliding window. -/
theorem wmask_at (i : grid0.Coords) (t : Fin 128) (k : Fin 640) :
    k0_pay123 (k0_pay73 i) (kernelRun0_A.sl.v688 i) (ix2 t k) = 1#1
      ↔ (128 * (i 2).val - 512) + k.val ≤ pos i t ∧ pos i t ≤ (128 * (i 2).val - 512) + k.val + 512 := by
  have := i2_lt i
  rw [v688_eq]
  exact wmask_word _ t k _ _ (by omega) (pos_lt i t) (qpos_at i t)

/-- The quotient of a position by 64, as the body computes it. -/
def fdiv (w : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem fdiv_eq : ∀ n : Fin 2048, fdiv (BitVec.ofNat 32 n.val) = BitVec.ofNat 32 (n.val / 64) := by decide +kernel

/-- The forced blocks: the first, the block of the query and the one before it. -/
theorem forced_word : ∀ k m : Fin 32,
    (IntOp.ori (IntOp.ori (IntOp.cmpi .eq (BitVec.ofNat 32 k.val) 0#32) (IntOp.cmpi .eq (BitVec.ofNat 32 k.val) (BitVec.ofNat 32 m.val)))
      (IntOp.cmpi .eq (BitVec.ofNat 32 k.val) (IntOp.subi (BitVec.ofNat 32 m.val) 1#32)) = 1#1)
      ↔ k.val = 0 ∨ k.val = m.val ∨ k.val + 1 = m.val := by decide +kernel

/-- The score of a block: its importance, a bonus for the forced blocks, the mask for the blocks not allowed. -/
theorem score_at (i : grid0.Coords) (im : FVec Ideal S128x128 .f32) (t k : Fin 128) (f : ℕ → EReal) (hf : im (ix2 t k) = f k.val) (hk : k.val < 32) :
    scoreOf (k0_pay73 i) im (ix2 t k) = score f (pos i t) k.val := by
  have hp := pos_lt i t
  have h := qpos_at i t
  have ha := allowed_at i t k
  unfold scoreOf
  revert ha
  pointwise [k0_pay91, mask_val, lane]
  intro ha
  rw [h]
  show Scalar.select _ (_ + Scalar.select (IntOp.ori (IntOp.ori (IntOp.cmpi .eq (BitVec.ofNat 32 k.val) 0#32)
    (IntOp.cmpi .eq (BitVec.ofNat 32 k.val) (fdiv (BitVec.ofNat 32 (pos i t)))))
    (IntOp.cmpi .eq (BitVec.ofNat 32 k.val) (IntOp.subi (fdiv (BitVec.ofNat 32 (pos i t))) 1#32))) _ _) _ = _
  have hd := fdiv_eq ⟨pos i t, hp⟩
  have hw := forced_word ⟨k.val, hk⟩ ⟨pos i t / 64, by omega⟩
  simp only at hd hw
  rw [hd, sel_if, sel_if, hf]
  unfold score
  simp only [hw, ha, hk, and_true]

/-- One step of the ranking adds one where block `n` comes before block `k`. -/
theorem rankStep_at (s r : FVec Ideal S128x128 .f32) (col : FVec Ideal S128x1 .f32) (n : ℕ) (hn : n < 128) (t k : Fin 128)
    (hc : col (ix2 t 0) = s (ix2 t ⟨n, hn⟩)) :
    rankStep s r (BitVec.ofNat 32 n) col (ix2 t k)
      = r (ix2 t k) + if s (ix2 t k) < s (ix2 t ⟨n, hn⟩) ∨ (s (ix2 t ⟨n, hn⟩) = s (ix2 t k) ∧ n < k.val) then 1 else 0 := by
  pointwise [rankStep, bcol, lane]
  rw [hc, sel_if]
  have hk := k.isLt
  have hw : IntOp.cmpi .sgt (BitVec.ofNat 32 k.val) (BitVec.ofNat 32 n) = 1#1 ↔ n < k.val := by word_cmp
  simp only [hw]
  congr 1
  by_cases h1 : s (ix2 t k) < s (ix2 t ⟨n, hn⟩)
  · simp [h1]
  · by_cases h2 : s (ix2 t ⟨n, hn⟩) = s (ix2 t k)
    · simp [h1, h2]
    · simp [h1, h2]

/-- After `n` steps the rank of a block counts the blocks before `n` that come before it. -/
theorem rankTo_at (s : FVec Ideal S128x128 .f32) (t k : Fin 128) (s' : ℕ → EReal) (hs : ∀ j : Fin 128, j.val < 32 → s (ix2 t j) = s' j.val)
    (hk : k.val < 32) : ∀ (n : ℕ) (hn : n ≤ 32),
    rankTo s n (by omega) (ix2 t k) = (((((Finset.range n).filter fun i => before s' i k.val).card : ℕ) : ℝ) : EReal)
  | 0, _ => by pointwise [rankTo]; simp
  | n + 1, hn => by
    have ih := rankTo_at s t k s' hs hk n (by omega)
    have hc : extractStridedSlice S128x1 ![0, n] s (slc (by omega)) (ix2 t 0) = s (ix2 t ⟨n, by omega⟩) := by
      unfold extractStridedSlice
      congr 1
      funext a
      fin_cases a
      · exact Fin.ext (Nat.zero_add _)
      · rfl
    rw [rankTo, rankStep_at s _ _ n (by omega) t k hc, ih, hs k hk, hs ⟨n, by omega⟩ (by show n < 32; omega)]
    rw [Finset.range_add_one, Finset.filter_insert]
    by_cases hb : before s' n k.val
    · have hb' := hb
      unfold before at hb'
      rw [if_pos hb', if_pos hb, Finset.card_insert_of_notMem (by simp), Nat.cast_add, Nat.cast_one]
      rfl
    · have hb' := hb
      unfold before at hb'
      rw [if_neg hb', if_neg hb, add_zero]

theorem sixteen_val : Ideal.ofBits .f32 0x41800000#32 = ((16 : ℝ) : EReal) := by
  simp [Ideal.ofBits, Ideal.ieee]; rw [← EReal.coe_mul]; norm_num

theorem half_val : Ideal.ofBits .f32 0x3F000000#32 = ((1 / 2 : ℝ) : EReal) := by
  simp [Ideal.ofBits, Ideal.ieee]; rw [← EReal.coe_mul]; norm_num

/-- The matrix of the chosen blocks. -/
theorem selMat_at (i : grid0.Coords) (im : FVec Ideal S128x128 .f32) (t : Fin 128) (f : ℕ → EReal)
    (hf : ∀ j : Fin 128, j.val < 32 → im (ix2 t j) = f j.val) (k : Fin 128) :
    selMat (k0_pay73 i) im (ix2 t k) = if chosen (score f (pos i t)) (pos i t) k.val then 1 else 0 := by
  have ha := allowed_at i t k
  have hr := fun hk => rankTo_at (scoreOf (k0_pay73 i) im) t k (score f (pos i t))
    (fun j hj => score_at i im t j f (hf j hj) hj) hk 32 (le_refl _)
  unfold selMat chosen
  generalize rankTo (scoreOf (k0_pay73 i) im) 32 (by omega) = R at hr
  generalize k0_pay90 lane (k0_pay89 (k0_pay73 i)) 32#32 = A at ha
  pointwise [selOf]
  rw [sel_if, sixteen_val]
  by_cases hk : k.val < 32
  · have hl : R (ix2 t k) < ((16 : ℝ) : EReal) ↔ rank (score f (pos i t)) k.val < 16 := by
      rw [hr hk, EReal.coe_lt_coe_iff]
      unfold rank
      exact_mod_cast Iff.rfl
    rcases BitVec.eq_zero_or_eq_one (A (ix2 t k)) with h | h
    · have hn : ¬(k.val * 64 ≤ pos i t ∧ k.val < 32) := by rw [← ha, h]; decide
      rw [h, if_neg (by cases decide (R (ix2 t k) < ((16 : ℝ) : EReal)) <;> decide), if_neg (fun h => hn ⟨h.1, h.2.1⟩)]
    · have hy := ha.mp h
      rw [h]
      by_cases hc : rank (score f (pos i t)) k.val < 16
      · rw [decide_eq_true (hl.mpr hc), if_pos (by decide), if_pos ⟨hy.1, hy.2, hc⟩]
      · rw [decide_eq_false (fun h => hc (hl.mp h)), if_neg (by decide), if_neg (fun h => hc h.2.2)]
  · have h : A (ix2 t k) = 0#1 := by
      rcases BitVec.eq_zero_or_eq_one (A (ix2 t k)) with h | h
      · exact h
      · exact absurd (ha.mp h).2 hk
    rw [h, if_neg (by cases decide (R (ix2 t k) < ((16 : ℝ) : EReal)) <;> decide), if_neg (fun h => hk h.2.1)]

/-- The mask of a trip: key `256 * k + j` is causal and its block is chosen. -/
theorem tmask_at (i : grid0.Coords) (k : Fin (k0_t1_loop i).trips) (sel : FVec Ideal S128x128 .bf16) (e : Vec Ideal S1x128x256 .bf16)
    (C : ℕ → Prop) (t : Fin 128) (hs : ∀ n : Fin 128, sel (ix2 t n) = if C n.val then 1 else 0)
    (he : ∀ (n : Fin 128) (j : Fin 256), e (ix3 0 n j) = if n.val = (256 * k.val + j.val) / 64 then 1 else 0) (j : Fin 256) :
    k0_pay3 i (k0_pay73 i) sel 0#32 1#32 k e (ix2 t j) = 1#1 ↔ C ((256 * k.val + j.val) / 64) ∧ 256 * k.val + j.val ≤ pos i t := by
  have hk : k.val < 8 := lt_of_lt_of_le k.isLt (k0_t1_abs i).2.1
  have hj := j.isLt
  have hp := pos_lt i t
  have h := qpos_at i t
  have hiv : Scalar.muli (Scf.iv 0#32 1#32 k) 256#32 = BitVec.ofNat 32 (256 * k.val) := by
    show (0#32 + BitVec.ofNat 32 k.val * 1#32) * 256#32 = _
    rw [BitVec.zero_add, BitVec.mul_one, Nat.mul_comm]
    exact (BitVec.ofNat_mul k.val 256).symm
  have hsum : (∑ n : Fin 128, sel (ix2 t n) * e (ix3 0 n j)) = if C ((256 * k.val + j.val) / 64) then 1 else 0 := by
    rw [Finset.sum_eq_single ⟨(256 * k.val + j.val) / 64, by omega⟩]
    · rw [hs, he, if_pos rfl, mul_one]
    · intro n _ hn
      rw [he, if_neg (fun h => hn (Fin.ext h)), mul_zero]
    · intro h; exact absurd (Finset.mem_univ _) h
  pointwise [k0_pay3]
  rw [hsum, hiv, h, half_val, add_w', cmpi_sle_ofNat (by omega) (by omega)]
  by_cases hC : C ((256 * k.val + j.val) / 64)
  · have h1 : ((1 / 2 : ℝ) : EReal) < 1 := by rw [← EReal.coe_one, EReal.coe_lt_coe_iff]; norm_num
    rw [if_pos hC, decide_eq_true h1, andi_ofBool, ofBool_eq_one_iff]
    simp [hC]
  · have h0 : ¬ ((1 / 2 : ℝ) : EReal) < 0 := by rw [← EReal.coe_zero, EReal.coe_lt_coe_iff]; norm_num
    rw [if_neg hC, decide_eq_false h0, andi_ofBool, ofBool_eq_one_iff]
    simp [hC]

end Cert.KernelIdeal.Body
-- ==== Proof.Loop.lean ====
module

public import proofs.«01_k».proof.Proof.Gen.KernelIdeal.Frame

@[expose] public section

set_option maxRecDepth 16384

noncomputable section

namespace Cert.KernelIdeal.Body

open Idealize.ShloMosaic Idealize.ShloMosaic.TcCoe Idealize.SL.Sem Cert.KernelIdeal.Gen

variable {F : FTy → Type} [FloatOps F] [Named F]

/-- The rectangle of the scratch memrefs that belongs to head 0. -/
abbrev h0 : Rect S4x128x128 := Rect.unit ![0, 0, 0] S1x128x128.size (by decide)
/-- The rectangle of the scratch memrefs that belongs to head 1. -/
abbrev h1 : Rect S4x128x128 := Rect.unit ![1, 0, 0] S1x128x128.size (by decide)
/-- The rectangle of the scratch memrefs that belongs to head 2. -/
abbrev h2 : Rect S4x128x128 := Rect.unit ![2, 0, 0] S1x128x128.size (by decide)
/-- The rectangle of the scratch memrefs that belongs to head 3. -/
abbrev h3 : Rect S4x128x128 := Rect.unit ![3, 0, 0] S1x128x128.size (by decide)

variable (𝒱 : Variants) (c : Dev nD) (bd : Option 𝒱.V) (i : grid0.Coords) (arg3 : Memref sig .tc .vmem S128x512 .bf16) (harg3 : arg3.IsWhole) (arg4 : Memref sig .tc .vmem S1x1x128x128 .bf16) (harg4 : arg4.IsWhole) (arg5 : Memref sig .tc .vmem S1x1x128x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S128x128 .f32) (harg10 : arg10.IsWhole) (arg11 : Memref sig .tc .vmem S128x512 .f32) (harg11 : arg11.IsWhole) (arg12 : Memref sig .tc .vmem S128x128 .bf16) (harg12 : arg12.IsWhole) (arg13 : Memref sig .tc .vmem S8x128x256 .bf16) (harg13 : arg13.IsWhole) (arg14 : Memref sig .tc .vmem S128x512 .bf16) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x128x128 .f32) (harg17 : arg17.IsWhole)
variable (v0 : BitVec 32) (v3 : IVec S128x1 32) (v4 v5 v6 v7 : Vec F S128x128 .bf16) (v649 : FVec F S128x128 .bf16) (v654 : FVec F S4x128x128 .f32)
variable (X6 : BufTy.Contents (Elt F) arg6.view.ty) (X7 : BufTy.Contents (Elt F) arg7.view.ty) (X13 : BufTy.Contents (Elt F) arg13.view.ty)

/-- The key tile a trip of the loop reads. -/
abbrev tK (k : Fin (k0_t1_loop i).trips) : FVec F S256x128 .bf16 :=
  k0_pay1 (arg6.view.readAt (Elt F) (Rect.unit (s := S1x2048x128) (k0_off1 i k) S1x256x128.size (k0_off1_inb i k)) X6)

/-- The value tile a trip of the loop reads. -/
abbrev tV (k : Fin (k0_t1_loop i).trips) : FVec F S256x128 .bf16 :=
  k0_pay2 (arg7.view.readAt (Elt F) (Rect.unit (s := S1x2048x128) (k0_off1 i k) S1x256x128.size (k0_off1_inb i k)) X7)

/-- The mask of a trip: the selected and causal keys of its tile. -/
abbrev tM (k : Fin (k0_t1_loop i).trips) : IVec S128x256 1 :=
  k0_pay3 i v3 v649 0#32 1#32 k (arg13.view.readAt (Elt F) (Rect.unit (s := S8x128x256) (k0_off2 i k) S1x128x256.size (k0_off2_inb i k)) X13)

/-- What a trip stores in the running maxima, one block for each head (the last store first). -/
theorem trip_max (k : Fin (k0_t1_loop i).trips) (f15 : BufTy.Contents (Elt F) arg15.view.ty) (f16 : BufTy.Contents (Elt F) arg16.view.ty) (f17 : BufTy.Contents (Elt F) arg17.view.ty) :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 v4 v5 v6 v7 v649 v654 X6 X7 X13 k f15 f16 f17).1
      = [⟨h3, k0_pay28 (k0_pay21 v7 (tK i arg6 X6 k) (tM i arg13 v3 v649 X13 k)) (k0_pay22 (arg15.view.readAt (Elt F) h3 f15))⟩,
         ⟨h2, k0_pay28 (k0_pay21 v6 (tK i arg6 X6 k) (tM i arg13 v3 v649 X13 k)) (k0_pay22 (arg15.view.readAt (Elt F) h2 f15))⟩,
         ⟨h1, k0_pay28 (k0_pay21 v5 (tK i arg6 X6 k) (tM i arg13 v3 v649 X13 k)) (k0_pay22 (arg15.view.readAt (Elt F) h1 f15))⟩,
         ⟨h0, k0_pay28 (k0_pay21 v4 (tK i arg6 X6 k) (tM i arg13 v3 v649 X13 k)) (k0_pay22 (arg15.view.readAt (Elt F) h0 f15))⟩] := by
  unfold tripL_k0_t1 trip_k0_t1
  rfl

/-- What a trip stores in the running sums. -/
theorem trip_sum (k : Fin (k0_t1_loop i).trips) (f15 : BufTy.Contents (Elt F) arg15.view.ty) (f16 : BufTy.Contents (Elt F) arg16.view.ty) (f17 : BufTy.Contents (Elt F) arg17.view.ty) :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 v4 v5 v6 v7 v649 v654 X6 X7 X13 k f15 f16 f17).2.1
      = [⟨h3, k0_pay26 (tM i arg13 v3 v649 X13 k) (k0_pay21 v7 (tK i arg6 X6 k) (tM i arg13 v3 v649 X13 k)) (k0_pay22 (arg15.view.readAt (Elt F) h3 f15)) (arg16.view.readAt (Elt F) h3 f16)⟩,
         ⟨h2, k0_pay26 (tM i arg13 v3 v649 X13 k) (k0_pay21 v6 (tK i arg6 X6 k) (tM i arg13 v3 v649 X13 k)) (k0_pay22 (arg15.view.readAt (Elt F) h2 f15)) (arg16.view.readAt (Elt F) h2 f16)⟩,
         ⟨h1, k0_pay26 (tM i arg13 v3 v649 X13 k) (k0_pay21 v5 (tK i arg6 X6 k) (tM i arg13 v3 v649 X13 k)) (k0_pay22 (arg15.view.readAt (Elt F) h1 f15)) (arg16.view.readAt (Elt F) h1 f16)⟩,
         ⟨h0, k0_pay26 (tM i arg13 v3 v649 X13 k) (k0_pay21 v4 (tK i arg6 X6 k) (tM i arg13 v3 v649 X13 k)) (k0_pay22 (arg15.view.readAt (Elt F) h0 f15)) (arg16.view.readAt (Elt F) h0 f16)⟩] := by
  unfold tripL_k0_t1 trip_k0_t1
  rfl

/-- What a trip stores in the running weighted values. -/
theorem trip_acc (k : Fin (k0_t1_loop i).trips) (f15 : BufTy.Contents (Elt F) arg15.view.ty) (f16 : BufTy.Contents (Elt F) arg16.view.ty) (f17 : BufTy.Contents (Elt F) arg17.view.ty) :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 v4 v5 v6 v7 v649 v654 X6 X7 X13 k f15 f16 f17).2.2
      = [⟨h3, k0_pay27 (tV i arg7 X7 k) (tM i arg13 v3 v649 X13 k) (k0_pay21 v7 (tK i arg6 X6 k) (tM i arg13 v3 v649 X13 k)) (k0_pay22 (arg15.view.readAt (Elt F) h3 f15)) (arg17.view.readAt (Elt F) h3 f17)⟩,
         ⟨h2, k0_pay27 (tV i arg7 X7 k) (tM i arg13 v3 v649 X13 k) (k0_pay21 v6 (tK i arg6 X6 k) (tM i arg13 v3 v649 X13 k)) (k0_pay22 (arg15.view.readAt (Elt F) h2 f15)) (arg17.view.readAt (Elt F) h2 f17)⟩,
         ⟨h1, k0_pay27 (tV i arg7 X7 k) (tM i arg13 v3 v649 X13 k) (k0_pay21 v5 (tK i arg6 X6 k) (tM i arg13 v3 v649 X13 k)) (k0_pay22 (arg15.view.readAt (Elt F) h1 f15)) (arg17.view.readAt (Elt F) h1 f17)⟩,
         ⟨h0, k0_pay27 (tV i arg7 X7 k) (tM i arg13 v3 v649 X13 k) (k0_pay21 v4 (tK i arg6 X6 k) (tM i arg13 v3 v649 X13 k)) (k0_pay22 (arg15.view.readAt (Elt F) h0 f15)) (arg17.view.readAt (Elt F) h0 f17)⟩] := by
  unfold tripL_k0_t1 trip_k0_t1
  rfl

end Cert.KernelIdeal.Body
-- ==== Proof.LoopVal.lean ====
module

public import proofs.«01_k».proof.Proof.Masks
public import proofs.«01_k».proof.Proof.Loop
public import Idealize.ShloMosaic.Lib.WritesUnit

@[expose] public section

set_option maxRecDepth 16384

noncomputable section

/-! # The loop over the key tiles: running maxima, sums and weighted values -/

namespace Cert.KernelIdeal.Body

open Idealize.ShloMosaic Idealize.ShloMosaic.TcCoe Idealize.SL.Sem Cert.KernelIdeal Cert.KernelIdeal.Gen Cert.Nsa

/-- The rectangle of the scratch memrefs that belongs to head `h`. -/
abbrev hr (h : Fin 4) : Rect S4x128x128 := Rect.unit ![h.val, 0, 0] S1x128x128.size (by revert h; decide)

/-- A load of head `h`, read at an index. -/
theorem readAt_hr (v : View sig .tc .vmem S4x128x128 .f32) (f : BufTy.Contents (Elt Ideal) v.ty) (h : Fin 4) (t l : Fin 128) :
    v.readAt (Elt Ideal) (hr h).toLoadRect f (ix3 0 t l) = v.read (Elt Ideal) f (ix3 h t l) := by
  rw [View.readAt_apply]
  congr 1
  funext a
  apply Fin.ext
  fin_cases a
  · show h.val + 1 * 0 = h.val; omega
  · show 0 + 1 * t.val = t.val; omega
  · show 0 + 1 * l.val = l.val; omega

/-- The stores of a trip, one for each head: what a read of head `h` finds. -/
theorem read_four (v : View sig .tc .vmem S4x128x128 .f32) (f : BufTy.Contents (Elt Ideal) v.ty) (W : Fin 4 → S1x128x128.Idx → Elt Ideal .f32)
    (L : List (View.Piece (Elt Ideal) S4x128x128 .f32)) (h : Fin 4) (t l : Fin 128) :
    v.read (Elt Ideal) (v.writes (Elt Ideal) f (⟨hr 3, W 3⟩ :: ⟨hr 2, W 2⟩ :: ⟨hr 1, W 1⟩ :: ⟨hr 0, W 0⟩ :: L)) (ix3 h t l) = W h (ix3 0 t l) := by
  have hm : ∀ (h : Fin 4) (L : List (View.Piece (Elt Ideal) S4x128x128 .f32)),
      v.read (Elt Ideal) (v.writes (Elt Ideal) f (⟨hr h, W h⟩ :: L)) (ix3 h t l) = W h (ix3 0 t l) := fun h L =>
    View.read_writes_cons_unit_of_mem v f _ (W h) L _ (ix3 0 t l) rfl fun a => by
      fin_cases a
      · show h.val = h.val + 0; omega
      · show t.val = 0 + t.val; omega
      · show l.val = 0 + l.val; omega
  have hn : ∀ (h h' : Fin 4) (L : List (View.Piece (Elt Ideal) S4x128x128 .f32)), h ≠ h' →
      v.read (Elt Ideal) (v.writes (Elt Ideal) f (⟨hr h', W h'⟩ :: L)) (ix3 h t l) = v.read (Elt Ideal) (v.writes (Elt Ideal) f L) (ix3 h t l) := fun h h' L hne =>
    View.read_writes_cons_unit_of_not_mem v f _ (W h') L _ rfl 0 (by
      show h.val < h'.val ∨ h'.val + 1 ≤ h.val
      have : h.val ≠ h'.val := fun e => hne (Fin.ext e)
      omega)
  fin_cases h
  · rw [hn _ _ _ (by decide), hn _ _ _ (by decide), hn _ _ _ (by decide)]; exact hm 0 _
  · rw [hn _ _ _ (by decide), hn _ _ _ (by decide)]; exact hm 1 _
  · rw [hn _ _ _ (by decide)]; exact hm 2 _
  · exact hm 3 _

variable (𝒱 : Variants) (c : Dev nD) (bd : Option 𝒱.V) (i : grid0.Coords) (arg3 : Memref sig .tc .vmem S128x512 .bf16) (harg3 : arg3.IsWhole) (arg4 : Memref sig .tc .vmem S1x1x128x128 .bf16) (harg4 : arg4.IsWhole) (arg5 : Memref sig .tc .vmem S1x1x128x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S128x128 .f32) (harg10 : arg10.IsWhole) (arg11 : Memref sig .tc .vmem S128x512 .f32) (harg11 : arg11.IsWhole) (arg12 : Memref sig .tc .vmem S128x128 .bf16) (harg12 : arg12.IsWhole) (arg13 : Memref sig .tc .vmem S8x128x256 .bf16) (harg13 : arg13.IsWhole) (arg14 : Memref sig .tc .vmem S128x512 .bf16) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x128x128 .f32) (harg17 : arg17.IsWhole)
variable (v0 : BitVec 32) (v3 : IVec S128x1 32) (Q : Fin 4 → Vec Ideal S128x128 .bf16) (v649 : FVec Ideal S128x128 .bf16) (v654 : FVec Ideal S4x128x128 .f32)
variable (X6 : BufTy.Contents (Elt Ideal) arg6.view.ty) (X7 : BufTy.Contents (Elt Ideal) arg7.view.ty) (X13 : BufTy.Contents (Elt Ideal) arg13.view.ty)
variable (G15 : BufTy.Contents (Elt Ideal) arg15.view.ty) (G16 : BufTy.Contents (Elt Ideal) arg16.view.ty) (G17 : BufTy.Contents (Elt Ideal) arg17.view.ty)

/-- After `n` trips the scratch memrefs hold the maximum, the sum of weights and the weighted values over the first `256 * n` keys. -/
theorem loop_val (f : Fin 4 → Fin 128 → ℕ → EReal) (v : Fin 128 → ℕ → EReal)
    (hS : ∀ (k : Fin (k0_t1_loop i).trips) (h : Fin 4) (t : Fin 128) (j : Fin 256),
      k0_pay21 (Q h) (tK (F := Ideal) i arg6 X6 k) (tM (F := Ideal) i arg13 v3 v649 X13 k) (ix2 t j) = f h t (256 * k.val + j.val))
    (hV : ∀ (k : Fin (k0_t1_loop i).trips) (j : Fin 256) (l : Fin 128), tV (F := Ideal) i arg7 X7 k (ix2 j l) = v l (256 * k.val + j.val))
    (h15 : ∀ (h : Fin 4) (t l : Fin 128), arg15.view.read (Elt Ideal) G15 (ix3 h t l) = ⊥)
    (h16 : ∀ (h : Fin 4) (t l : Fin 128), arg16.view.read (Elt Ideal) G16 (ix3 h t l) = 0)
    (h17 : ∀ (h : Fin 4) (t l : Fin 128), arg17.view.read (Elt Ideal) G17 (ix3 h t l) = 0) :
    ∀ n : ℕ, n ≤ (k0_t1_loop i).trips → ∀ (h : Fin 4) (t l : Fin 128),
      arg15.view.read (Elt Ideal) (arg15.view.writes (Elt Ideal) G15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 (Q 0) (Q 1) (Q 2) (Q 3) v649 v654 X6 X7 X13 G15 G16 G17 n).1) (ix3 h t l) = sMax (f h t) (256 * n)
      ∧ arg16.view.read (Elt Ideal) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 (Q 0) (Q 1) (Q 2) (Q 3) v649 v654 X6 X7 X13 G15 G16 G17 n).2.1) (ix3 h t l) = sSum (f h t) (256 * n)
      ∧ arg17.view.read (Elt Ideal) (arg17.view.writes (Elt Ideal) G17 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 (Q 0) (Q 1) (Q 2) (Q 3) v649 v654 X6 X7 X13 G15 G16 G17 n).2.2) (ix3 h t l) = sAcc (f h t) (v l) (256 * n) := by
  intro n
  induction n with
  | zero => exact fun _ h t l => ⟨h15 h t l, h16 h t l, h17 h t l⟩
  | succ n ih =>
    intro hn h t l
    have ih := ih (by omega)
    have hk : n < (k0_t1_loop i).trips := hn
    rw [show n + 1 = (⟨n, hk⟩ : Fin (k0_t1_loop i).trips).val + 1 from rfl, pb_k0_t1_succ]
    simp only
    generalize (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 (Q 0) (Q 1) (Q 2) (Q 3) v649 v654 X6 X7 X13 G15 G16 G17 n) = PB at ih ⊢
    have m15 : ∀ t l, arg15.view.readAt (Elt Ideal) (hr h).toLoadRect (arg15.view.writes (Elt Ideal) G15 PB.1) (ix3 0 t l) = sMax (f h t) (256 * n) :=
      fun t l => (readAt_hr _ _ h t l).trans (ih h t l).1
    have m16 : arg16.view.readAt (Elt Ideal) (hr h).toLoadRect (arg16.view.writes (Elt Ideal) G16 PB.2.1) (ix3 0 t l) = sSum (f h t) (256 * n) :=
      (readAt_hr _ _ h t l).trans (ih h t l).2.1
    have m17 : arg17.view.readAt (Elt Ideal) (hr h).toLoadRect (arg17.view.writes (Elt Ideal) G17 PB.2.2) (ix3 0 t l) = sAcc (f h t) (v l) (256 * n) :=
      (readAt_hr _ _ h t l).trans (ih h t l).2.2
    have hs : ∀ k, tM (F := Ideal) i arg13 v3 v649 X13 ⟨n, hk⟩ (ix2 t k) ≠ 1#1
        → k0_pay21 (Q h) (tK (F := Ideal) i arg6 X6 ⟨n, hk⟩) (tM (F := Ideal) i arg13 v3 v649 X13 ⟨n, hk⟩) (ix2 t k) = ⊥ := fun k h => by
      rw [trip_s_at, if_neg h]
    have e1 := trip_max (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 (Q 0) (Q 1) (Q 2) (Q 3) v649 v654 X6 X7 X13 ⟨n, hk⟩ (arg15.view.writes (Elt Ideal) G15 PB.1) (arg16.view.writes (Elt Ideal) G16 PB.2.1) (arg17.view.writes (Elt Ideal) G17 PB.2.2)
    have e2 := trip_sum (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 (Q 0) (Q 1) (Q 2) (Q 3) v649 v654 X6 X7 X13 ⟨n, hk⟩ (arg15.view.writes (Elt Ideal) G15 PB.1) (arg16.view.writes (Elt Ideal) G16 PB.2.1) (arg17.view.writes (Elt Ideal) G17 PB.2.2)
    have e3 := trip_acc (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v0 v3 (Q 0) (Q 1) (Q 2) (Q 3) v649 v654 X6 X7 X13 ⟨n, hk⟩ (arg15.view.writes (Elt Ideal) G15 PB.1) (arg16.view.writes (Elt Ideal) G16 PB.2.1) (arg17.view.writes (Elt Ideal) G17 PB.2.2)
    simp only at e1 e2 e3
    rw [e1, e2, e3, Nat.mul_add, Nat.mul_one, sMax_add, sSum_add, sAcc_add, sMax_add]
    have hS' := hS ⟨n, hk⟩ h t
    simp only at hS'
    refine ⟨?_, ?_, ?_⟩
    · refine (read_four arg15.view G15 (fun h => k0_pay28 (k0_pay21 (Q h) (tK (F := Ideal) i arg6 X6 ⟨n, hk⟩) (tM (F := Ideal) i arg13 v3 v649 X13 ⟨n, hk⟩))
        (k0_pay22 (arg15.view.readAt (Elt Ideal) (hr h).toLoadRect (arg15.view.writes (Elt Ideal) G15 PB.1)))) PB.1 h t l).trans ?_
      refine (trip_max_at _ _ t l).trans ?_
      rw [m15 t l]
      simp only [hS']
    · refine (read_four arg16.view G16 (fun h => k0_pay26 (tM (F := Ideal) i arg13 v3 v649 X13 ⟨n, hk⟩) (k0_pay21 (Q h) (tK (F := Ideal) i arg6 X6 ⟨n, hk⟩) (tM (F := Ideal) i arg13 v3 v649 X13 ⟨n, hk⟩))
        (k0_pay22 (arg15.view.readAt (Elt Ideal) (hr h).toLoadRect (arg15.view.writes (Elt Ideal) G15 PB.1)))
        (arg16.view.readAt (Elt Ideal) (hr h).toLoadRect (arg16.view.writes (Elt Ideal) G16 PB.2.1))) PB.2.1 h t l).trans ?_
      refine (trip_sum_at _ _ _ _ t l _ (m15 t) hs).trans ?_
      rw [m16]
      simp only [hS']
    · refine (read_four arg17.view G17 (fun h => k0_pay27 (tV (F := Ideal) i arg7 X7 ⟨n, hk⟩) (tM (F := Ideal) i arg13 v3 v649 X13 ⟨n, hk⟩) (k0_pay21 (Q h) (tK (F := Ideal) i arg6 X6 ⟨n, hk⟩) (tM (F := Ideal) i arg13 v3 v649 X13 ⟨n, hk⟩))
        (k0_pay22 (arg15.view.readAt (Elt Ideal) (hr h).toLoadRect (arg15.view.writes (Elt Ideal) G15 PB.1)))
        (arg17.view.readAt (Elt Ideal) (hr h).toLoadRect (arg17.view.writes (Elt Ideal) G17 PB.2.2))) PB.2.2 h t l).trans ?_
      refine (trip_acc_at _ _ _ _ _ t l _ (m15 t) hs).trans ?_
      rw [m17]
      simp only [hS', hV ⟨n, hk⟩]

end Cert.KernelIdeal.Body
-- ==== Proof.Result.lean ====
module

public import proofs.«01_k».proof.Proof.Spec

/-!
# The result of the layer, entry by entry, from the six argument arrays
-/

@[expose] public section

noncomputable section

namespace Cert.Nsa

open Idealize.ShloMosaic
open scoped Classical

/-- Rows of a matrix, numbered by natural numbers. -/
def kN {n : ℕ} (x : Fin n → Fin 128 → EReal) (k : ℕ) (d : Fin 128) : EReal := if h : k < n then x ⟨k, h⟩ d else 0

theorem kN_fin {n : ℕ} (x : Fin n → Fin 128 → EReal) (k : Fin n) : kN x k = x k := by
  funext d; unfold kN; rw [dif_pos k.isLt]

theorem kN_lt {n : ℕ} (x : Fin n → Fin 128 → EReal) {k : ℕ} (h : k < n) : kN x k = x ⟨k, h⟩ := kN_fin x ⟨k, h⟩

/-- The attention depends on the first keys alone. -/
theorem att_congr {f f' v v' : ℕ → EReal} {n : ℕ} (hf : ∀ k, k < n → f k = f' k) (hv : ∀ k, k < n → v k = v' k) : att f v n = att f' v' n := by
  have hm : sMax f n = sMax f' n := Finset.sup_congr rfl fun k hk => hf k (Finset.mem_range.mp hk)
  have hs : sSum f n = sSum f' n := by
    unfold sSum
    exact Finset.sum_congr rfl fun k hk => by rw [hm, hf k (Finset.mem_range.mp hk)]
  unfold att P
  exact Finset.sum_congr rfl fun k hk => by rw [hm, hs, hf k (Finset.mem_range.mp hk), hv k (Finset.mem_range.mp hk)]

section
variable (q : Fin 8192 → Fin 1024 → EReal) (kc : Fin 4 → Fin 4 → Fin 128 → Fin 128 → EReal) (kv : Fin 8192 → Fin 1024 → EReal)
  (win : Fin 8192 → Fin 512 → EReal) (gate : Fin 8192 → Fin 256 → EReal) (rest : Fin 8192 → Fin 4608 → EReal)

/-- The row of position `n` of batch `b`. -/
def rowOf (b : Fin 4) (n : Fin 2048) : Fin 8192 := ⟨2048 * b.val + n.val, by omega⟩
/-- The column of lane `d` of head `h` of group `g`. -/
def colOf (g : Fin 2) (h : Fin 4) (d : Fin 128) : Fin 1024 := ⟨512 * g.val + (128 * h.val + d.val), by omega⟩

/-- Rows of a slot of the key and value array. -/
def kvRows (b : Fin 4) (g : Fin 2) (s : ℕ) (hs : s ≤ 6) : ℕ → Fin 128 → EReal :=
  kN fun (n : Fin 2048) d => kv (rowOf b n) ⟨128 * (s + g.val) + d.val, by omega⟩
/-- Rows of a slot of the window's key and value array. -/
def winRows (b : Fin 4) (g : Fin 2) (s : ℕ) (hs : s ≤ 2) : ℕ → Fin 128 → EReal :=
  kN fun (n : Fin 2048) d => win (rowOf b n) ⟨128 * (s + g.val) + d.val, by omega⟩
/-- Rows of a slot of the compressed array. -/
def cmpRows (b : Fin 4) (g : Fin 2) (s : ℕ) (hs : s ≤ 2) : ℕ → Fin 128 → EReal :=
  kN fun (n : Fin 128) d => kc b ⟨s + g.val, by omega⟩ n d

/-- One entry of the result: batch `b`, position `t`, group `g`, head `h`, lane `d`. -/
def res (b : Fin 4) (t : Fin 2048) (g : Fin 2) (h : Fin 4) (d : Fin 128) : EReal :=
  out (fun h d => q (rowOf b t) (colOf g h d)) (cmpRows kc b g 0 (by omega)) (kvRows kv b g 4 (by omega)) (winRows win b g 0 (by omega))
    (fun n => cmpRows kc b g 2 (by omega) n d) (fun n => kvRows kv b g 6 (by omega) n d) (fun n => winRows win b g 2 (by omega) n d) t.val h
    (gate (rowOf b t) ⟨128 * g.val + h.val, by omega⟩) (gate (rowOf b t) ⟨128 * g.val + (4 + h.val), by omega⟩)
    (gate (rowOf b t) ⟨128 * g.val + (8 + h.val), by omega⟩) (rest (rowOf b t) ⟨(colOf g h d).val, by have := (colOf g h d).isLt; omega⟩)

/-- The whole result, by row and column. -/
def resAt (r : Fin 8192) (k : Fin 1024) : EReal :=
  res q kc kv win gate rest ⟨r.val / 2048, by omega⟩ ⟨r.val % 2048, by omega⟩ ⟨k.val / 512, by omega⟩ ⟨k.val % 512 / 128, by omega⟩ ⟨k.val % 128, by omega⟩

theorem resAt_eq (b : Fin 4) (t : Fin 2048) (g : Fin 2) (h : Fin 4) (d : Fin 128) :
    resAt q kc kv win gate rest (rowOf b t) (colOf g h d) = res q kc kv win gate rest b t g h d := by
  unfold resAt rowOf colOf
  congr 1 <;> apply Fin.ext
  · show (2048 * b.val + t.val) / 2048 = b.val; omega
  · show (2048 * b.val + t.val) % 2048 = t.val; omega
  · show (512 * g.val + (128 * h.val + d.val)) / 512 = g.val; omega
  · show (512 * g.val + (128 * h.val + d.val)) % 512 / 128 = h.val; omega
  · show (512 * g.val + (128 * h.val + d.val)) % 128 = d.val; omega

end

end Cert.Nsa
-- ==== Proof.Body.lean ====
module

public import proofs.«01_k».proof.Proof.Head
public import proofs.«01_k».proof.Proof.Loop

@[expose] public section

set_option maxRecDepth 16384

noncomputable section

/-! # The pieces the body stores, each an instance of the functions of one head -/

namespace Cert.KernelIdeal.Body

open Idealize.ShloMosaic Idealize.ShloMosaic.TcCoe Idealize.SL.Sem Cert.KernelIdeal.Gen

variable {F : FTy → Type} [FloatOps F] [Named F]

/-- The columns of head 0. -/
abbrev cl0 : Rect S128x512 := Rect.unit ![0, 0] S128x128.size (by decide)
/-- The columns of head 1. -/
abbrev cl1 : Rect S128x512 := Rect.unit ![0, 128] S128x128.size (by decide)
/-- The columns of head 2. -/
abbrev cl2 : Rect S128x512 := Rect.unit ![0, 256] S128x128.size (by decide)
/-- The columns of head 3. -/
abbrev cl3 : Rect S128x512 := Rect.unit ![0, 384] S128x128.size (by decide)

variable (c : Dev nD) (i : grid0.Coords) (arg3 : Memref sig .tc .vmem S128x512 .bf16) (harg3 : arg3.IsWhole) (arg4 : Memref sig .tc .vmem S1x1x128x128 .bf16) (harg4 : arg4.IsWhole) (arg5 : Memref sig .tc .vmem S1x1x128x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S128x128 .f32) (harg10 : arg10.IsWhole) (arg11 : Memref sig .tc .vmem S128x512 .f32) (harg11 : arg11.IsWhole) (arg12 : Memref sig .tc .vmem S128x128 .bf16) (harg12 : arg12.IsWhole) (arg13 : Memref sig .tc .vmem S8x128x256 .bf16) (harg13 : arg13.IsWhole) (arg14 : Memref sig .tc .vmem S128x512 .bf16) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x128x128 .f32) (harg17 : arg17.IsWhole)
variable (x0 : Vec F S128x512 .bf16) (x1 : Vec F S1x1x128x128 .bf16) (x2 : Vec F S1x1x128x128 .bf16) (x3 : Vec F S1x2048x128 .bf16) (x4 : Vec F S1x2048x128 .bf16) (x5 : Vec F S1x2048x128 .bf16) (x6 : Vec F S1x2048x128 .bf16) (x7 : Vec F S128x128 .f32) (x8 : Vec F S128x512 .f32) (x9 : Vec F S128x128 .bf16) (x10 : Vec F S8x128x256 .bf16)

/-- The queries of the head at columns `r`. -/
abbrev qv (r : Rect S128x512) : r.shape.Idx → Elt F .bf16 := arg3.view.readAt (Elt F) r.toLoadRect (harg3.unread x0)
/-- The gate projection of the head at columns `r`. -/
abbrev zv (r : Rect S128x512) : r.shape.Idx → Elt F .f32 := arg11.view.readAt (Elt F) r.toLoadRect (harg11.unread x8)
/-- The compressed keys. -/
abbrev kcv : FVec F S128x128 .bf16 := k0_pay74 (arg4.view.readAt (Elt F) (Rect.unit (s := S1x1x128x128) ![0, 0, 0, 0] S1x1x128x128.size inb_S1x1x128x128_S1x1x128x128_0_0_0_0).toLoadRect (harg4.unread x1))
/-- The compressed values. -/
abbrev vcv : FVec F S128x128 .bf16 := k0_pay75 (arg5.view.readAt (Elt F) (Rect.unit (s := S1x1x128x128) ![0, 0, 0, 0] S1x1x128x128.size inb_S1x1x128x128_S1x1x128x128_0_0_0_0).toLoadRect (harg5.unread x2))
/-- The window's keys. -/
abbrev kwv : FVec F S640x128 .bf16 := k0_pay121 (arg8.view.readAt (Elt F) (Rect.unit (s := S1x2048x128) (k0_off5 i) S1x640x128.size (k0_off5_inb i)).toLoadRect (harg8.unread x5))
/-- The window's values. -/
abbrev vwv : FVec F S640x128 .bf16 := k0_pay122 (arg9.view.readAt (Elt F) (Rect.unit (s := S1x2048x128) (k0_off5 i) S1x640x128.size (k0_off5_inb i)).toLoadRect (harg9.unread x6))
/-- The window's mask. -/
abbrev wmask : IVec S128x640 1 := k0_pay123 (k0_pay73 i) (kernelRun0_A.sl.v688 i)
/-- The gates. -/
abbrev gv : FVec F S128x128 .f32 := k0_pay124 (arg10.view.readAt (Elt F) (Rect.unit (s := S128x128) ![0, 0] S128x128.size inb_S128x128_S128x128_0_0).toLoadRect (harg10.unread x7))
/-- The overlap matrix. -/
abbrev ovv : FVec F S128x128 .bf16 := arg12.view.readAt (Elt F) (Rect.unit (s := S128x128) ![0, 0] S128x128.size inb_S128x128_S128x128_0_0).toLoadRect (harg12.unread x9)
/-- The chosen blocks. -/
abbrev selv : FVec F S128x128 .bf16 :=
  selMat (k0_pay73 i) (impo (qv arg3 harg3 x0 cl0) (qv arg3 harg3 x0 cl1) (qv arg3 harg3 x0 cl2) (qv arg3 harg3 x0 cl3) (kcv arg4 harg4 x1) (ovv arg12 harg12 x9) (k0_pay76 i))

/-- The chosen blocks are those of the body. -/
theorem sel_eq : kernelRun0_A.sl.r_20 (F := F) c i arg3 harg3 arg4 harg4 arg12 harg12 x0 x1 x9 = selv i arg3 harg3 arg4 harg4 arg12 harg12 x0 x1 x9 := by
  rfl

/-- The running maxima, sums and weighted values after the loop: the pieces its trips store. -/
def p1 (n : ℕ) : List (View.Piece (Elt F) S4x128x128 .f32) × List (View.Piece (Elt F) S4x128x128 .f32) × List (View.Piece (Elt F) S4x128x128 .f32) :=
  pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.v0 i) (k0_pay73 i) (qv arg3 harg3 x0 cl0) (qv arg3 harg3 x0 cl1) (qv arg3 harg3 x0 cl2) (qv arg3 harg3 x0 cl3) (selv i arg3 harg3 arg4 harg4 arg12 harg12 x0 x1 x9) k0_pay116 (harg6.unread x3) (harg7.unread x4) (harg13.unread x10) (arg15.view.writes (Elt F) arg15.view.junk kernelRun0_A.sl.HS0_1) (arg16.view.writes (Elt F) arg16.view.junk kernelRun0_A.sl.HS1_1) (arg17.view.writes (Elt F) arg17.view.junk kernelRun0_A.sl.HS2_1) n

/-- The pieces of the loop's remainder, which makes no trip. -/
def p2 (n : ℕ) : List (View.Piece (Elt F) S4x128x128 .f32) × List (View.Piece (Elt F) S4x128x128 .f32) × List (View.Piece (Elt F) S4x128x128 .f32) :=
  pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.v0 i) (k0_pay73 i) (qv arg3 harg3 x0 cl0) (qv arg3 harg3 x0 cl1) (qv arg3 harg3 x0 cl2) (qv arg3 harg3 x0 cl3) (selv i arg3 harg3 arg4 harg4 arg12 harg12 x0 x1 x9) k0_pay116 (kernelRun0_A.sl.v686 i) (harg6.unread x3) (harg7.unread x4) (harg13.unread x10) (arg15.view.writes (Elt F) arg15.view.junk ((p1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t1_loop i).trips).1 ++ kernelRun0_A.sl.HS0_1)) (arg16.view.writes (Elt F) arg16.view.junk ((p1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t1_loop i).trips).2.1 ++ kernelRun0_A.sl.HS1_1)) (arg17.view.writes (Elt F) arg17.view.junk ((p1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t1_loop i).trips).2.2 ++ kernelRun0_A.sl.HS2_1)) n

/-- The pieces of the running sums at the end. -/
def l16 : List (View.Piece (Elt F) S4x128x128 .f32) :=
  (p2 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t2_loop i).trips).2.1 ++ ((p1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t1_loop i).trips).2.1 ++ kernelRun0_A.sl.HS1_1)

/-- The pieces of the running weighted values at the end. -/
def l17 : List (View.Piece (Elt F) S4x128x128 .f32) :=
  (p2 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t2_loop i).trips).2.2 ++ ((p1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t1_loop i).trips).2.2 ++ kernelRun0_A.sl.HS2_1)

/-- What the body stores for head 0. -/
abbrev pc0 : FVec F S128x128 .bf16 :=
  outH (cmpO (qv arg3 harg3 x0 cl0) (kcv arg4 harg4 x1) (vcv arg5 harg5 x2) (k0_pay76 i))
    (k0_pay138 (arg17.view.readCov (l17 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) h0.toLoadRect) (arg16.view.readCov (l16 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) h0.toLoadRect))
    (k0_pay134 (qv arg3 harg3 x0 cl0) (kwv i arg8 harg8 x5) (vwv i arg9 harg9 x6) (wmask i))
    (extractStridedSlice S128x1 ![0, 0] (gv arg10 harg10 x7) slices_S128x128_o0_0_S128x1) (extractStridedSlice S128x1 ![0, 4] (gv arg10 harg10 x7) slices_S128x128_o0_4_S128x1) (extractStridedSlice S128x1 ![0, 8] (gv arg10 harg10 x7) slices_S128x128_o0_8_S128x1)
    (zv arg11 harg11 x8 cl0)

/-- What the body stores for head 1. -/
abbrev pc1 : FVec F S128x128 .bf16 :=
  outH (cmpO (qv arg3 harg3 x0 cl1) (kcv arg4 harg4 x1) (vcv arg5 harg5 x2) (k0_pay76 i))
    (k0_pay138 (arg17.view.readCov (l17 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) h1.toLoadRect) (arg16.view.readCov (l16 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) h1.toLoadRect))
    (k0_pay134 (qv arg3 harg3 x0 cl1) (kwv i arg8 harg8 x5) (vwv i arg9 harg9 x6) (wmask i))
    (extractStridedSlice S128x1 ![0, 1] (gv arg10 harg10 x7) slices_S128x128_o0_1_S128x1) (extractStridedSlice S128x1 ![0, 5] (gv arg10 harg10 x7) slices_S128x128_o0_5_S128x1) (extractStridedSlice S128x1 ![0, 9] (gv arg10 harg10 x7) slices_S128x128_o0_9_S128x1)
    (zv arg11 harg11 x8 cl1)

/-- What the body stores for head 2. -/
abbrev pc2 : FVec F S128x128 .bf16 :=
  outH (cmpO (qv arg3 harg3 x0 cl2) (kcv arg4 harg4 x1) (vcv arg5 harg5 x2) (k0_pay76 i))
    (k0_pay138 (arg17.view.readCov (l17 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) h2.toLoadRect) (arg16.view.readCov (l16 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) h2.toLoadRect))
    (k0_pay134 (qv arg3 harg3 x0 cl2) (kwv i arg8 harg8 x5) (vwv i arg9 harg9 x6) (wmask i))
    (extractStridedSlice S128x1 ![0, 2] (gv arg10 harg10 x7) slices_S128x128_o0_2_S128x1) (extractStridedSlice S128x1 ![0, 6] (gv arg10 harg10 x7) slices_S128x128_o0_6_S128x1) (extractStridedSlice S128x1 ![0, 10] (gv arg10 harg10 x7) slices_S128x128_o0_10_S128x1)
    (zv arg11 harg11 x8 cl2)

/-- What the body stores for head 3. -/
abbrev pc3 : FVec F S128x128 .bf16 :=
  outH (cmpO (qv arg3 harg3 x0 cl3) (kcv arg4 harg4 x1) (vcv arg5 harg5 x2) (k0_pay76 i))
    (k0_pay138 (arg17.view.readCov (l17 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) h3.toLoadRect) (arg16.view.readCov (l16 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) h3.toLoadRect))
    (k0_pay134 (qv arg3 harg3 x0 cl3) (kwv i arg8 harg8 x5) (vwv i arg9 harg9 x6) (wmask i))
    (extractStridedSlice S128x1 ![0, 3] (gv arg10 harg10 x7) slices_S128x128_o0_3_S128x1) (extractStridedSlice S128x1 ![0, 7] (gv arg10 harg10 x7) slices_S128x128_o0_7_S128x1) (extractStridedSlice S128x1 ![0, 11] (gv arg10 harg10 x7) slices_S128x128_o0_11_S128x1)
    (zv arg11 harg11 x8 cl3)

/-- The stores of the body, the last one first: one block of columns for each head. -/
theorem run_pieces : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).1 = [⟨cl3, pc3 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10⟩, ⟨cl2, pc2 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10⟩, ⟨cl1, pc1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10⟩, ⟨cl0, pc0 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10⟩] := by
  rfl

end Cert.KernelIdeal.Body
-- ==== Proof.BodyVal.lean ====
module

public import proofs.«01_k».proof.Proof.LoopVal
public import proofs.«01_k».proof.Proof.Result
public import proofs.«01_k».proof.Proof.Body

@[expose] public section

set_option maxRecDepth 16384

noncomputable section

/-! # What the body stores, as the attention of one query -/

namespace Cert.KernelIdeal.Body

open Idealize.ShloMosaic Idealize.ShloMosaic.TcCoe Idealize.SL.Sem Cert.KernelIdeal Cert.KernelIdeal.Gen Cert.Nsa
open scoped Classical

/-- A load of a whole operand, read at an index. -/
theorem rd_unit {s : Shape} {e : EltTy} (m : Memref sig .tc .vmem s e) (hm : m.IsWhole) (x : s.Idx → Elt Ideal e)
    {off size : Fin s.rank → ℕ} (inb : ∀ a, off a + size a ≤ s.size a) (j : (Rect.unit off size inb).shape.Idx) (y : s.Idx)
    (h : ∀ a, (y a).val = off a + (j a).val) :
    m.view.readAt (Elt Ideal) (Rect.unit off size inb).toLoadRect (hm.unread x) j = x y := by
  rw [View.readAt_apply, hm.read_unread]
  congr 1
  funext a
  apply Fin.ext
  show off a + 1 * (j a).val = (y a).val
  rw [h a, Nat.one_mul]

/-- The same with the offsets given by an equation. -/
theorem rd_unit' {s : Shape} {e : EltTy} (m : Memref sig .tc .vmem s e) (hm : m.IsWhole) (x : s.Idx → Elt Ideal e)
    {off off' size : Fin s.rank → ℕ} (inb : ∀ a, off a + size a ≤ s.size a) (ho : off = off') (j : (Rect.unit off size inb).shape.Idx) (y : s.Idx)
    (h : ∀ a, (y a).val = off' a + (j a).val) :
    m.view.readAt (Elt Ideal) (Rect.unit off size inb).toLoadRect (hm.unread x) j = x y := by
  subst ho
  exact rd_unit m hm x inb j y h

/-- The columns of head `h`. -/
abbrev clr (h : Fin 4) : Rect S128x512 := Rect.unit ![0, 128 * h.val] S128x128.size (by revert h; decide)

/-- The column of head `h` and lane `d`. -/
def hc (h : Fin 4) (d : Fin 128) : Fin 512 := ⟨128 * h.val + d.val, by omega⟩

/-- The scores of the compressed keys, as the body writes them. -/
theorem rowC (i : grid0.Coords) (t : Fin 128) (q : Fin 128 → EReal) (kc : Fin 128 → Fin 128 → EReal) :
    rowS (fun k => k0_pay76 i (ix2 t k)) (fun k => sc q (kc k)) = fC q (kN kc) (pos i t) := by
  funext k
  unfold rowS fC
  by_cases h : k < 128
  · rw [dif_pos h, kN_lt kc h]
    have hm := cmask_at i t ⟨k, h⟩
    simp only at hm
    simp only [hm]
  · rw [dif_neg h, if_neg (fun h' => h (by omega))]

theorem fC_ext (q : Fin 128 → EReal) (kc : ℕ → Fin 128 → EReal) (t : ℕ) : ∀ k, 127 ≤ k → k < 128 → fC q kc t k = ⊥ :=
  fun k h _ => if_neg fun h' => by omega

variable (c : Dev nD) (i : grid0.Coords) (arg3 : Memref sig .tc .vmem S128x512 .bf16) (harg3 : arg3.IsWhole) (arg4 : Memref sig .tc .vmem S1x1x128x128 .bf16) (harg4 : arg4.IsWhole) (arg5 : Memref sig .tc .vmem S1x1x128x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S128x128 .f32) (harg10 : arg10.IsWhole) (arg11 : Memref sig .tc .vmem S128x512 .f32) (harg11 : arg11.IsWhole) (arg12 : Memref sig .tc .vmem S128x128 .bf16) (harg12 : arg12.IsWhole) (arg13 : Memref sig .tc .vmem S8x128x256 .bf16) (harg13 : arg13.IsWhole) (arg14 : Memref sig .tc .vmem S128x512 .bf16) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x128x128 .f32) (harg17 : arg17.IsWhole)
variable (x0 : Vec Ideal S128x512 .bf16) (x1 : Vec Ideal S1x1x128x128 .bf16) (x2 : Vec Ideal S1x1x128x128 .bf16) (x3 : Vec Ideal S1x2048x128 .bf16) (x4 : Vec Ideal S1x2048x128 .bf16) (x5 : Vec Ideal S1x2048x128 .bf16) (x6 : Vec Ideal S1x2048x128 .bf16) (x7 : Vec Ideal S128x128 .f32) (x8 : Vec Ideal S128x512 .f32) (x9 : Vec Ideal S128x128 .bf16) (x10 : Vec Ideal S8x128x256 .bf16)

/-- The query of head `h` at row `t`. -/
def xq (t : Fin 128) (h : Fin 4) (d : Fin 128) : EReal := x0 (ix2 t (hc h d))
/-- The compressed keys (or values). -/
def xc (x1 : Vec Ideal S1x1x128x128 .bf16) : ℕ → Fin 128 → EReal := kN fun n d => x1 (ix4 0 0 n d)
/-- Keys (or values) by position. -/
def xk (x3 : Vec Ideal S1x2048x128 .bf16) : ℕ → Fin 128 → EReal := kN fun n d => x3 (ix3 0 n d)

theorem qv_at (h : Fin 4) (t d : Fin 128) : qv (F := Ideal) arg3 harg3 x0 (clr h) (ix2 t d) = xq x0 t h d :=
  rd_unit arg3 harg3 x0 _ _ (ix2 t (hc h d)) fun a => by
    fin_cases a
    · show t.val = 0 + t.val; omega
    · rfl

theorem zv_at (h : Fin 4) (t d : Fin 128) : zv (F := Ideal) arg11 harg11 x8 (clr h) (ix2 t d) = x8 (ix2 t (hc h d)) :=
  rd_unit arg11 harg11 x8 _ _ (ix2 t (hc h d)) fun a => by
    fin_cases a
    · show t.val = 0 + t.val; omega
    · rfl

theorem kcv_at (n d : Fin 128) : kcv (F := Ideal) arg4 harg4 x1 (ix2 n d) = x1 (ix4 0 0 n d) := by
  pointwise [kcv, k0_pay74]
  exact rd_unit arg4 harg4 x1 _ _ _ fun a => by fin_cases a <;> exact (Nat.zero_add _).symm

theorem vcv_at (n d : Fin 128) : vcv (F := Ideal) arg5 harg5 x2 (ix2 n d) = x2 (ix4 0 0 n d) := by
  pointwise [vcv, k0_pay75]
  exact rd_unit arg5 harg5 x2 _ _ _ fun a => by fin_cases a <;> exact (Nat.zero_add _).symm

theorem ovv_at (n d : Fin 128) : ovv (F := Ideal) arg12 harg12 x9 (ix2 n d) = x9 (ix2 n d) :=
  rd_unit arg12 harg12 x9 _ _ _ fun a => by fin_cases a <;> exact (Nat.zero_add _).symm

theorem gv_at (t d : Fin 128) : gv (F := Ideal) arg10 harg10 x7 (ix2 t d) = Nsa.sig (x7 (ix2 t d)) := by
  refine (gates_at _ t d).trans ?_
  rw [rd_unit arg10 harg10 x7 _ _ (ix2 t d) fun a => by fin_cases a <;> exact (Nat.zero_add _).symm]

theorem kwv_at (j : Fin 640) (d : Fin 128) : kwv (F := Ideal) i arg8 harg8 x5 (ix2 j d) = xk x5 (128 * (i 2).val - 512 + j.val) d := by
  have hi := i2_lt i
  have hj := j.isLt
  have e : k0_pay121 (F := Ideal) (arg8.view.readAt (Elt Ideal) (Rect.unit (s := S1x2048x128) (k0_off5 i) S1x640x128.size (k0_off5_inb i)).toLoadRect (harg8.unread x5)) (ix2 j d) = arg8.view.readAt (Elt Ideal) (Rect.unit (s := S1x2048x128) (k0_off5 i) S1x640x128.size (k0_off5_inb i)).toLoadRect (harg8.unread x5) (ix3 0 j d) := by
    generalize arg8.view.readAt (Elt Ideal) (Rect.unit (s := S1x2048x128) (k0_off5 i) S1x640x128.size (k0_off5_inb i)).toLoadRect (harg8.unread x5) = w
    pointwise [k0_pay121]
  refine e.trans ?_
  unfold xk
  rw [kN_lt _ (show 128 * (i 2).val - 512 + j.val < 2048 by omega)]
  exact rd_unit' arg8 harg8 x5 _ (off5_eq i) _ _ fun a => by
    fin_cases a
    · exact (Nat.zero_add _).symm
    · rfl
    · exact (Nat.zero_add _).symm

theorem vwv_at (j : Fin 640) (d : Fin 128) : vwv (F := Ideal) i arg9 harg9 x6 (ix2 j d) = xk x6 (128 * (i 2).val - 512 + j.val) d := by
  have hi := i2_lt i
  have hj := j.isLt
  have e : k0_pay122 (F := Ideal) (arg9.view.readAt (Elt Ideal) (Rect.unit (s := S1x2048x128) (k0_off5 i) S1x640x128.size (k0_off5_inb i)).toLoadRect (harg9.unread x6)) (ix2 j d) = arg9.view.readAt (Elt Ideal) (Rect.unit (s := S1x2048x128) (k0_off5 i) S1x640x128.size (k0_off5_inb i)).toLoadRect (harg9.unread x6) (ix3 0 j d) := by
    generalize arg9.view.readAt (Elt Ideal) (Rect.unit (s := S1x2048x128) (k0_off5 i) S1x640x128.size (k0_off5_inb i)).toLoadRect (harg9.unread x6) = w
    pointwise [k0_pay122]
  refine e.trans ?_
  unfold xk
  rw [kN_lt _ (show 128 * (i 2).val - 512 + j.val < 2048 by omega)]
  exact rd_unit' arg9 harg9 x6 _ (off5_eq i) _ _ fun a => by
    fin_cases a
    · exact (Nat.zero_add _).symm
    · rfl
    · exact (Nat.zero_add _).symm

theorem k_lt (k : Fin (k0_t1_loop i).trips) : k.val < 8 := lt_of_lt_of_le k.isLt (k0_t1_abs i).2.1

theorem tK_at (k : Fin (k0_t1_loop i).trips) (j : Fin 256) (d : Fin 128) : tK (F := Ideal) i arg6 (harg6.unread x3) k (ix2 j d) = xk x3 (256 * k.val + j.val) d := by
  have hk := k_lt i k
  have hj := j.isLt
  have e : k0_pay1 (F := Ideal) (arg6.view.readAt (Elt Ideal) (Rect.unit (s := S1x2048x128) (k0_off1 i k) S1x256x128.size (k0_off1_inb i k)).toLoadRect (harg6.unread x3)) (ix2 j d) = arg6.view.readAt (Elt Ideal) (Rect.unit (s := S1x2048x128) (k0_off1 i k) S1x256x128.size (k0_off1_inb i k)).toLoadRect (harg6.unread x3) (ix3 0 j d) := by
    generalize arg6.view.readAt (Elt Ideal) (Rect.unit (s := S1x2048x128) (k0_off1 i k) S1x256x128.size (k0_off1_inb i k)).toLoadRect (harg6.unread x3) = w
    pointwise [k0_pay1]
  refine e.trans ?_
  unfold xk
  rw [kN_lt _ (show 256 * k.val + j.val < 2048 by omega)]
  exact rd_unit' arg6 harg6 x3 _ (off1_eq i k) _ _ fun a => by
    fin_cases a
    · exact (Nat.zero_add _).symm
    · rfl
    · exact (Nat.zero_add _).symm

theorem tV_at (k : Fin (k0_t1_loop i).trips) (j : Fin 256) (d : Fin 128) : tV (F := Ideal) i arg7 (harg7.unread x4) k (ix2 j d) = xk x4 (256 * k.val + j.val) d := by
  have hk := k_lt i k
  have hj := j.isLt
  have e : k0_pay2 (F := Ideal) (arg7.view.readAt (Elt Ideal) (Rect.unit (s := S1x2048x128) (k0_off1 i k) S1x256x128.size (k0_off1_inb i k)).toLoadRect (harg7.unread x4)) (ix2 j d) = arg7.view.readAt (Elt Ideal) (Rect.unit (s := S1x2048x128) (k0_off1 i k) S1x256x128.size (k0_off1_inb i k)).toLoadRect (harg7.unread x4) (ix3 0 j d) := by
    generalize arg7.view.readAt (Elt Ideal) (Rect.unit (s := S1x2048x128) (k0_off1 i k) S1x256x128.size (k0_off1_inb i k)).toLoadRect (harg7.unread x4) = w
    pointwise [k0_pay2]
  refine e.trans ?_
  unfold xk
  rw [kN_lt _ (show 256 * k.val + j.val < 2048 by omega)]
  exact rd_unit' arg7 harg7 x4 _ (off1_eq i k) _ _ fun a => by
    fin_cases a
    · exact (Nat.zero_add _).symm
    · rfl
    · exact (Nat.zero_add _).symm

/-- The compressed weights of a head. -/
theorem cmp_at (h : Fin 4) (t n : Fin 128) :
    cmpP (qv (F := Ideal) arg3 harg3 x0 (clr h)) (kcv arg4 harg4 x1) (k0_pay76 i) (ix2 t n) = P (fC (xq x0 t h) (xc x1) (pos i t)) 127 n := by
  rw [cmpP_at]
  have e1 : (fun d => qv (F := Ideal) arg3 harg3 x0 (clr h) (ix2 t d)) = xq x0 t h := funext fun d => qv_at arg3 harg3 x0 h t d
  have e2 : ∀ k : Fin 128, (fun d => kcv (F := Ideal) arg4 harg4 x1 (ix2 k d)) = fun d => x1 (ix4 0 0 k d) := fun k => funext fun d => kcv_at arg4 harg4 x1 k d
  simp only [e1, e2]
  rw [rowC i t (xq x0 t h) (fun n d => x1 (ix4 0 0 n d))]
  exact P_ext _ (by omega) (fC_ext _ _ _) _

/-- The compressed branch of a head. -/
theorem cmpO_val (h : Fin 4) (t d : Fin 128) :
    cmpO (qv (F := Ideal) arg3 harg3 x0 (clr h)) (kcv arg4 harg4 x1) (vcv arg5 harg5 x2) (k0_pay76 i) (ix2 t d)
      = att (fC (xq x0 t h) (xc x1) (pos i t)) (fun n => xc x2 n d) 127 := by
  rw [cmpO_at, ← att_ext _ _ (show 127 ≤ 128 by omega) (fC_ext _ _ _)]
  unfold att
  rw [Finset.sum_range]
  refine Finset.sum_congr rfl fun n _ => ?_
  rw [cmp_at, vcv_at, P_ext _ (show 127 ≤ 128 by omega) (fC_ext _ _ _)]
  exact congrArg (P (fC (xq x0 t h) (xc x1) (pos i t)) 127 n * ·) (congrFun (kN_fin (fun n d => x2 (ix4 0 0 n d)) n) d).symm

/-- The window branch of a head. -/
theorem win_val (h : Fin 4) (t d : Fin 128) :
    k0_pay134 (qv (F := Ideal) arg3 harg3 x0 (clr h)) (kwv i arg8 harg8 x5) (vwv i arg9 harg9 x6) (wmask i) (ix2 t d)
      = att (fW (xq x0 t h) (xk x5) (pos i t)) (fun n => xk x6 n d) 2048 := by
  have hi := i2_lt i
  have ht := t.isLt
  rw [win_at, ← att_shift (fW (xq x0 t h) (xk x5) (pos i t)) (fun n => xk x6 n d) (128 * (i 2).val - 512) 640 2048 (by omega) (fun k hk hk' => if_neg fun hc => by
    have : pos i t = 128 * (i 2).val + t.val := rfl
    omega)]
  refine att_congr (fun k hk => ?_) (fun k hk => ?_)
  · have e1 : (fun d => qv (F := Ideal) arg3 harg3 x0 (clr h) (ix2 t d)) = xq x0 t h := funext fun d => qv_at arg3 harg3 x0 h t d
    have e2 : (fun d => kwv (F := Ideal) i arg8 harg8 x5 (ix2 ⟨k, hk⟩ d)) = xk x5 (128 * (i 2).val - 512 + k) := funext fun d => kwv_at i arg8 harg8 x5 ⟨k, hk⟩ d
    unfold rowS fW
    rw [dif_pos hk]
    simp only [e1, e2]
    have hm := wmask_at i t ⟨k, hk⟩
    simp only at hm
    simp only [hm]
  · unfold rowV
    rw [dif_pos hk]
    exact vwv_at i arg9 harg9 x6 ⟨k, hk⟩ d

/-- The chosen blocks of a query. -/
def xC (t : Fin 128) : ℕ → Prop := chosen (score (imp (xq x0 t) (xc x1) (pos i t)) (pos i t)) (pos i t)

/-- The matrix of the chosen blocks. -/
theorem selv_at (hov : ∀ n j : Fin 128, n.val < 127 → j.val < 32 → x9 (ix2 n j) = ov n.val j.val) (t k : Fin 128) :
    selv (F := Ideal) i arg3 harg3 arg4 harg4 arg12 harg12 x0 x1 x9 (ix2 t k) = if xC i x0 x1 t k.val then 1 else 0 := by
  refine selMat_at i _ t (imp (xq x0 t) (xc x1) (pos i t)) (fun j hj => ?_) k
  have hp : ∀ (h : Fin 4) (n : Fin 128), ∃ r : ℝ, 0 ≤ r ∧ P (fC (xq x0 t h) (xc x1) (pos i t)) 127 n = (r : EReal) := fun h n => by
    rw [← P_ext _ (show 127 ≤ 128 by omega) (fC_ext _ _ _)]
    exact P_real _ n.isLt
  have hs : ∀ n : Fin 128, cmpP (qv (F := Ideal) arg3 harg3 x0 cl0) (kcv arg4 harg4 x1) (k0_pay76 i) (ix2 t n) + cmpP (qv (F := Ideal) arg3 harg3 x0 cl1) (kcv arg4 harg4 x1) (k0_pay76 i) (ix2 t n)
      + cmpP (qv (F := Ideal) arg3 harg3 x0 cl2) (kcv arg4 harg4 x1) (k0_pay76 i) (ix2 t n) + cmpP (qv (F := Ideal) arg3 harg3 x0 cl3) (kcv arg4 harg4 x1) (k0_pay76 i) (ix2 t n)
      = ∑ h, P (fC (xq x0 t h) (xc x1) (pos i t)) 127 n := fun n => by
    rw [Fin.sum_univ_four]
    exact congrArg₂ (· + ·) (congrArg₂ (· + ·) (congrArg₂ (· + ·) (cmp_at i arg3 harg3 arg4 harg4 x0 x1 0 t n) (cmp_at i arg3 harg3 arg4 harg4 x0 x1 1 t n))
      (cmp_at i arg3 harg3 arg4 harg4 x0 x1 2 t n)) (cmp_at i arg3 harg3 arg4 harg4 x0 x1 3 t n)
  rw [impo_at _ _ _ _ _ _ _ t j (fun n => by
    rw [hs]
    obtain ⟨r, _, h⟩ := sum_real Finset.univ (fun h => P (fC (xq x0 t h) (xc x1) (pos i t)) 127 n) fun h _ => hp h n
    exact ⟨r, h⟩)]
  simp only [hs, ovv_at]
  unfold imp
  rw [Fin.sum_univ_castSucc, Finset.sum_range]
  refine (congrArg₂ (· + ·) (Finset.sum_congr rfl fun n _ => ?_) ?_).trans (add_zero _)
  · rw [hov (Fin.castSucc n) j n.isLt hj]; rfl
  · have hz : (∑ h, P (fC (xq x0 t h) (xc x1) (pos i t)) 127 (Fin.last 127).val) = 0 :=
      Finset.sum_eq_zero fun h _ => P_bot _ _ _ (fC_ext _ _ _ _ (by decide) (by decide))
    rw [hz, zero_mul]

/-- The scores of the selected branch. -/
theorem trip_val (hov : ∀ n j : Fin 128, n.val < 127 → j.val < 32 → x9 (ix2 n j) = ov n.val j.val)
    (he : ∀ (k : Fin 8) (n : Fin 128) (j : Fin 256), x10 (ix3 k n j) = if n.val = (256 * k.val + j.val) / 64 then 1 else 0)
    (k : Fin (k0_t1_loop i).trips) (h : Fin 4) (t : Fin 128) (j : Fin 256) :
    k0_pay21 (qv (F := Ideal) arg3 harg3 x0 (clr h)) (tK i arg6 (harg6.unread x3) k)
        (tM i arg13 (k0_pay73 i) (selv i arg3 harg3 arg4 harg4 arg12 harg12 x0 x1 x9) (harg13.unread x10) k) (ix2 t j)
      = fS (xq x0 t h) (xk x3) (xC i x0 x1 t) (pos i t) (256 * k.val + j.val) := by
  rw [trip_s_at]
  have e1 : (fun d => qv (F := Ideal) arg3 harg3 x0 (clr h) (ix2 t d)) = xq x0 t h := funext fun d => qv_at arg3 harg3 x0 h t d
  have e2 : (fun d => tK (F := Ideal) i arg6 (harg6.unread x3) k (ix2 j d)) = xk x3 (256 * k.val + j.val) := funext fun d => tK_at i arg6 harg6 x3 k j d
  have hm := tmask_at i k (selv (F := Ideal) i arg3 harg3 arg4 harg4 arg12 harg12 x0 x1 x9)
    (arg13.view.readAt (Elt Ideal) (Rect.unit (s := S8x128x256) (k0_off2 i k) S1x128x256.size (k0_off2_inb i k)) (harg13.unread x10)) (xC i x0 x1 t) t
    (fun n => selv_at i arg3 harg3 arg4 harg4 arg12 harg12 x0 x1 x9 hov t n) (fun n j => by
      rw [← he ⟨k.val, k_lt i k⟩ n j]
      exact rd_unit' arg13 harg13 x10 _ (off2_eq i k) _ _ fun a => by
        fin_cases a
        · rfl
        · exact (Nat.zero_add _).symm
        · exact (Nat.zero_add _).symm) j
  rw [e1, e2]
  unfold fS
  simp only [hm]

theorem hs0_eq : (kernelRun0_A.sl.HS0_1 (F := Ideal)) = [⟨Rect.unit (s := S4x128x128) ![0, 0, 0] S4x128x128.size (by decide), k0_pay115 (F := Ideal)⟩] := rfl
theorem hs1_eq : (kernelRun0_A.sl.HS1_1 (F := Ideal)) = [⟨Rect.unit (s := S4x128x128) ![0, 0, 0] S4x128x128.size (by decide), k0_pay117 (F := Ideal) k0_pay116⟩] := rfl
theorem hs2_eq : (kernelRun0_A.sl.HS2_1 (F := Ideal)) = [⟨Rect.unit (s := S4x128x128) ![0, 0, 0] S4x128x128.size (by decide), k0_pay118 (F := Ideal)⟩] := rfl

/-- A memref filled by one store, read at an index. -/
theorem read_fill (v : View sig .tc .vmem S4x128x128 .f32) (f : BufTy.Contents (Elt Ideal) v.ty) (w : S4x128x128.Idx → Elt Ideal .f32) (y : S4x128x128.Idx) :
    v.read (Elt Ideal) (v.writes (Elt Ideal) f [⟨Rect.unit (s := S4x128x128) ![0, 0, 0] S4x128x128.size (by decide), w⟩]) y = w y :=
  View.read_writes_cons_unit_of_mem v f _ w [] y y rfl fun a => by fin_cases a <;> exact (Nat.zero_add _).symm

/-- The selected branch of a head. -/
theorem sel_val (hov : ∀ n j : Fin 128, n.val < 127 → j.val < 32 → x9 (ix2 n j) = ov n.val j.val)
    (he : ∀ (k : Fin 8) (n : Fin 128) (j : Fin 256), x10 (ix3 k n j) = if n.val = (256 * k.val + j.val) / 64 then 1 else 0)
    (h : Fin 4) (t d : Fin 128) :
    k0_pay138 (F := Ideal) (arg17.view.readCov (l17 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) (hr h).toLoadRect) (arg16.view.readCov (l16 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) (hr h).toLoadRect) (ix2 t d)
      = att (fS (xq x0 t h) (xk x3) (xC i x0 x1 t) (pos i t)) (fun n => xk x4 n d) 2048 := by
  have hi := i2_lt i
  have ht := t.isLt
  have hT := t1_trips i
  have hv := loop_val Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.v0 i) (k0_pay73 i) (fun h => qv (F := Ideal) arg3 harg3 x0 (clr h))
    (selv (F := Ideal) i arg3 harg3 arg4 harg4 arg12 harg12 x0 x1 x9) k0_pay116 (harg6.unread x3) (harg7.unread x4) (harg13.unread x10)
    (arg15.view.writes (Elt Ideal) arg15.view.junk kernelRun0_A.sl.HS0_1) (arg16.view.writes (Elt Ideal) arg16.view.junk kernelRun0_A.sl.HS1_1) (arg17.view.writes (Elt Ideal) arg17.view.junk kernelRun0_A.sl.HS2_1)
    (fun h t => fS (xq x0 t h) (xk x3) (xC i x0 x1 t) (pos i t)) (fun d n => xk x4 n d)
    (fun k h t j => trip_val i arg3 harg3 arg4 harg4 arg6 harg6 arg12 harg12 arg13 harg13 x0 x1 x3 x9 x10 hov he k h t j)
    (fun k j l => tV_at i arg7 harg7 x4 k j l)
    (fun h t l => by rw [hs0_eq, read_fill]; pointwise [k0_pay115, mask_val])
    (fun h t l => by rw [hs1_eq, read_fill]; pointwise [k0_pay117, k0_pay116])
    (fun h t l => by rw [hs2_eq, read_fill]; pointwise [k0_pay118])
    (k0_t1_loop i).trips (le_refl _) h t d
  have e2 : ∀ n, n = 0 → (p2 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 n) = ([], [], []) := fun n hn => by subst hn; rfl
  have e16 : l16 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 = (p1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t1_loop i).trips).2.1 ++ kernelRun0_A.sl.HS1_1 := by
    unfold l16; rw [e2 _ (t2_trips i)]; rfl
  have e17 : l17 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 = (p1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 (k0_t1_loop i).trips).2.2 ++ kernelRun0_A.sl.HS2_1 := by
    unfold l17; rw [e2 _ (t2_trips i)]; rfl
  have r16 : arg16.view.readCov (l16 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) (hr h).toLoadRect (ix3 0 t d) = sSum (fS (xq x0 t h) (xk x3) (xC i x0 x1 t) (pos i t)) (256 * (k0_t1_loop i).trips) := by
    rw [e16]
    unfold View.readCov
    rw [View.writes_append]
    exact (readAt_hr _ _ h t d).trans hv.2.1
  have r17 : arg17.view.readCov (l17 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) (hr h).toLoadRect (ix3 0 t d) = sAcc (fS (xq x0 t h) (xk x3) (xC i x0 x1 t) (pos i t)) (fun n => xk x4 n d) (256 * (k0_t1_loop i).trips) := by
    rw [e17]
    unfold View.readCov
    rw [View.writes_append]
    exact (readAt_hr _ _ h t d).trans hv.2.2
  refine (sel_at _ _ t d).trans ?_
  rw [r16, r17, att_eq_div]
  refine (att_ext _ _ (by rw [hT]; omega) fun k hk _ => if_neg fun hc => ?_).symm
  have : pos i t = 128 * (i 2).val + t.val := rfl
  rw [hT] at hk
  omega

/-- One entry of what the body stores for head `h`. -/
theorem head_val (hov : ∀ n j : Fin 128, n.val < 127 → j.val < 32 → x9 (ix2 n j) = ov n.val j.val)
    (he : ∀ (k : Fin 8) (n : Fin 128) (j : Fin 256), x10 (ix3 k n j) = if n.val = (256 * k.val + j.val) / 64 then 1 else 0)
    (h : Fin 4) (g0 g1 g2 : FVec Ideal S128x1 .f32) (t d : Fin 128)
    (hg0 : g0 (ix2 t 0) = Nsa.sig (x7 (ix2 t ⟨h.val, by omega⟩))) (hg1 : g1 (ix2 t 0) = Nsa.sig (x7 (ix2 t ⟨4 + h.val, by omega⟩)))
    (hg2 : g2 (ix2 t 0) = Nsa.sig (x7 (ix2 t ⟨8 + h.val, by omega⟩))) :
    outH (cmpO (qv (F := Ideal) arg3 harg3 x0 (clr h)) (kcv arg4 harg4 x1) (vcv arg5 harg5 x2) (k0_pay76 i))
      (k0_pay138 (arg17.view.readCov (l17 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) (hr h).toLoadRect) (arg16.view.readCov (l16 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10) (hr h).toLoadRect))
      (k0_pay134 (qv arg3 harg3 x0 (clr h)) (kwv i arg8 harg8 x5) (vwv i arg9 harg9 x6) (wmask i)) g0 g1 g2 (zv arg11 harg11 x8 (clr h)) (ix2 t d)
      = out (xq x0 t) (xc x1) (xk x3) (xk x5) (fun n => xc x2 n d) (fun n => xk x4 n d) (fun n => xk x6 n d) (pos i t) h
          (x7 (ix2 t ⟨h.val, by omega⟩)) (x7 (ix2 t ⟨4 + h.val, by omega⟩)) (x7 (ix2 t ⟨8 + h.val, by omega⟩)) (x8 (ix2 t (hc h d))) := by
  rw [outH_at, hg0, hg1, hg2, cmpO_val, win_val, zv_at,
    sel_val c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x9 x10 hov he h t d]
  rfl

end Cert.KernelIdeal.Body
-- ==== Proof.KernelIn.lean ====
module

public import proofs.«01_k».proof.Proof.BodyVal
public import proofs.«01_k».proof.Proof.Gen.KernelIdeal.Value
public import Idealize.ShloMosaic.Lib.Pipeline.ValueKit

@[expose] public section

set_option maxRecDepth 16384

noncomputable section

/-! # What each operand's block holds at a grid point, as entries of the argument arrays -/

namespace Cert.KernelIdeal.Body

open Idealize.ShloMosaic Idealize.ShloMosaic.TcCoe Idealize.SL.Sem Cert.KernelIdeal Cert.KernelIdeal.Gen Cert.Nsa
open Idealize.ShloMosaic.Pipeline (Dat)
open Idealize.ShloMosaic.WordCmp
open scoped Classical

variable (m : (ℓ : Loc nD τ sig) → Buf (Elt Ideal) ℓ)

theorem i0_lt (i : grid0.Coords) : (i 0).val < 4 := (i 0).isLt
theorem i1_lt (i : grid0.Coords) : (i 1).val < 2 := (i 1).isLt

/-- The row of the arrays which query `a` of the block at a grid point is. -/
def row (i : grid0.Coords) (a : Fin 128) : Fin 8192 :=
  ⟨2048 * (i 0).val + (128 * (i 2).val + a.val), by have := i0_lt i; have := i2_lt i; have := a.isLt; omega⟩

/-- The column of the query array which column `b` of the block at a grid point is. -/
def colq (i : grid0.Coords) (b : Fin 512) : Fin 1024 := ⟨512 * (i 1).val + b.val, by have := i1_lt i; have := b.isLt; omega⟩

/-- The blocks the windows on the flat arrays read. -/
theorem idx : ∀ t : Fin cfg0.N,
    win0_0.index t = ![16 * (grid0.coords t 0).val + (grid0.coords t 2).val, (grid0.coords t 1).val]
    ∧ win0_1.index t = ![(grid0.coords t 0).val, (grid0.coords t 1).val, 0, 0]
    ∧ win0_2.index t = ![(grid0.coords t 0).val, 2 + (grid0.coords t 1).val, 0, 0]
    ∧ win0_3.index t = ![(grid0.coords t 0).val, 0, 4 + (grid0.coords t 1).val]
    ∧ win0_4.index t = ![(grid0.coords t 0).val, 0, 6 + (grid0.coords t 1).val]
    ∧ win0_5.index t = ![(grid0.coords t 0).val, 0, (grid0.coords t 1).val]
    ∧ win0_6.index t = ![(grid0.coords t 0).val, 0, 2 + (grid0.coords t 1).val]
    ∧ win0_7.index t = ![16 * (grid0.coords t 0).val + (grid0.coords t 2).val, (grid0.coords t 1).val]
    ∧ win0_8.index t = ![16 * (grid0.coords t 0).val + (grid0.coords t 2).val, (grid0.coords t 1).val]
    ∧ win0_9.index t = ![0, 0]
    ∧ win0_10.index t = ![0, 0, 0]
    ∧ win0_11.index t = ![16 * (grid0.coords t 0).val + (grid0.coords t 2).val, (grid0.coords t 1).val] :=
  (by decide +kernel : ∀ t : Fin grid0.N, _)

theorem in0 (c : Dev nD) (t : Fin cfg0.N) (a : Fin 128) (b : Fin 512) :
    (iblk m c 0 t : S128x512.Idx → EReal) (ix2 a b) = (m ((c : Thread nD τ).loc main_arg0) : S8192x1024.Idx → EReal) (ix2 (row (grid0.coords t) a) (colq (grid0.coords t) b)) := by
  obtain ⟨e, -⟩ := idx t
  unfold row colq
  blk_point [iblk, V, e]

/-- The batch and group of a grid point. -/
def bat (i : grid0.Coords) : Fin 4 := ⟨(i 0).val, i0_lt i⟩
def slot (i : grid0.Coords) (s : ℕ) (h : s ≤ 2) : Fin 4 := ⟨s + (i 1).val, by have := i1_lt i; omega⟩
/-- The row of the key and value arrays which row `n` of the batch at a grid point is. -/
def rowk (i : grid0.Coords) (n : Fin 2048) : Fin 8192 := ⟨2048 * (i 0).val + n.val, by have := i0_lt i; have := n.isLt; omega⟩
/-- Their column `d` in slot `s` of the group at a grid point. -/
def colk (i : grid0.Coords) (s : ℕ) (h : s ≤ 6) (d : Fin 128) : Fin 1024 := ⟨128 * (s + (i 1).val) + d.val, by have := i1_lt i; have := d.isLt; omega⟩
def colw (i : grid0.Coords) (s : ℕ) (h : s ≤ 2) (d : Fin 128) : Fin 512 := ⟨128 * (s + (i 1).val) + d.val, by have := i1_lt i; have := d.isLt; omega⟩
def colg (i : grid0.Coords) (d : Fin 128) : Fin 256 := ⟨128 * (i 1).val + d.val, by have := i1_lt i; have := d.isLt; omega⟩

theorem in1 (c : Dev nD) (t : Fin cfg0.N) (a b : Fin 128) :
    (iblk m c 1 t : S1x1x128x128.Idx → EReal) (ix4 0 0 a b) = (m ((c : Thread nD τ).loc main_arg1) : S4x4x128x128.Idx → EReal) (ix4 (bat (grid0.coords t)) (slot (grid0.coords t) 0 (by omega)) a b) := by
  obtain ⟨-, e, -⟩ := idx t
  unfold bat slot
  blk_point [iblk, V, e]

theorem in2 (c : Dev nD) (t : Fin cfg0.N) (a b : Fin 128) :
    (iblk m c 2 t : S1x1x128x128.Idx → EReal) (ix4 0 0 a b) = (m ((c : Thread nD τ).loc main_arg1) : S4x4x128x128.Idx → EReal) (ix4 (bat (grid0.coords t)) (slot (grid0.coords t) 2 (by omega)) a b) := by
  obtain ⟨-, -, e, -⟩ := idx t
  unfold bat slot
  blk_point [iblk, V, e]

/-- The key and value array, as the host lays it out for the kernel. -/
theorem v15_at (c : Dev nD) (b : Fin 4) (n : Fin 2048) (k : Fin 1024) :
    (V m c main_v15 : S4x2048x1024.Idx → EReal) (ix3 b n k) = (m ((c : Thread nD τ).loc main_arg2) : S8192x1024.Idx → EReal) (ix2 ⟨2048 * b.val + n.val, by omega⟩ k) := by
  simp only [V, hostOps0, hostOps0_1, hostOps0_2, hostOps0_3, hostOps0_4, List.flatten_cons, List.flatten_nil, List.append_nil, List.cons_append, List.nil_append, StableHlo.after_cons, StableHlo.after_nil]
  after_results_simp
  pointwise
  exact congrArg (fun r => (m ((c : Thread nD τ).loc main_arg2) : S8192x1024.Idx → EReal) (ix2 r k)) (Fin.ext (by show b.val * 2048 + n.val = 2048 * b.val + n.val; omega))

theorem v16_at (c : Dev nD) (b : Fin 4) (n : Fin 2048) (k : Fin 512) :
    (V m c main_v16 : S4x2048x512.Idx → EReal) (ix3 b n k) = (m ((c : Thread nD τ).loc main_arg3) : S8192x512.Idx → EReal) (ix2 ⟨2048 * b.val + n.val, by omega⟩ k) := by
  simp only [V, hostOps0, hostOps0_1, hostOps0_2, hostOps0_3, hostOps0_4, List.flatten_cons, List.flatten_nil, List.append_nil, List.cons_append, List.nil_append, StableHlo.after_cons, StableHlo.after_nil]
  after_results_simp
  pointwise
  exact congrArg (fun r => (m ((c : Thread nD τ).loc main_arg3) : S8192x512.Idx → EReal) (ix2 r k)) (Fin.ext (by show b.val * 2048 + n.val = 2048 * b.val + n.val; omega))

/-- The overlaps the host computes. -/
theorem v41_at (c : Dev nD) (n j : Fin 128) (hn : n.val < 127) (hj : j.val < 32) :
    (V m c main_v41 : S128x128.Idx → EReal) (ix2 n j) = ov n.val j.val := by
  simp only [V, hostOps0, hostOps0_1, hostOps0_2, hostOps0_3, hostOps0_4, List.flatten_cons, List.flatten_nil, List.append_nil, List.cons_append, List.nil_append, StableHlo.after_cons, StableHlo.after_nil]
  after_results_simp
  simp -implicitDefEqProofs only [StableHlo.TRef.toBuf, StableHlo.TRef.ofBuf, cast_cast, cast_eq]
  pointwise
  have := n.isLt
  have := j.isLt
  rw [sel_if]
  unfold ov
  refine if_congr ?_ rfl rfl
  simp only [mul_w', add_w']
  have : (n.val * 16 < j.val * 64 + 64 ∧ j.val * 64 < n.val * 16 + 32) ↔ ((n.val * 16 < j.val * 64 + 64 ∧ j.val * 64 < n.val * 16 + 32) ∧ (n.val < 127 ∧ j.val < 32)) := ⟨fun h => ⟨h, hn, hj⟩, fun h => h.1⟩
  rw [this]
  word_cmp

/-- The expansion the host computes: which of the keys of a trip lie in which block. -/
theorem v14_at (c : Dev nD) (k : Fin 8) (n : Fin 128) (j : Fin 256) :
    (V m c main_v14 : S8x128x256.Idx → EReal) (ix3 k n j) = if n.val = (256 * k.val + j.val) / 64 then (1 : EReal) else (0 : EReal) := by
  simp only [V, hostOps0, hostOps0_1, hostOps0_2, hostOps0_3, hostOps0_4, List.flatten_cons, List.flatten_nil, List.append_nil, List.cons_append, List.nil_append, StableHlo.after_cons, StableHlo.after_nil]
  after_results_simp
  simp -implicitDefEqProofs only [StableHlo.TRef.toBuf, StableHlo.TRef.ofBuf, cast_cast, cast_eq]
  pointwise
  have := n.isLt
  have := j.isLt
  have := k.isLt
  rw [sel_if]
  refine if_congr ?_ rfl rfl
  simp only [mul_w', add_w']
  have : n.val = (256 * k.val + j.val) / 64 ↔ (n.val * 64 ≤ k.val * 256 + j.val ∧ k.val * 256 + j.val < n.val * 64 + 64) := by omega
  rw [this]
  word_cmp

theorem in3 (c : Dev nD) (t : Fin cfg0.N) (a : Fin 2048) (b : Fin 128) :
    (iblk m c 3 t : S1x2048x128.Idx → EReal) (ix3 0 a b) = (m ((c : Thread nD τ).loc main_arg2) : S8192x1024.Idx → EReal) (ix2 (rowk (grid0.coords t) a) (colk (grid0.coords t) 4 (by omega) b)) := by
  obtain ⟨-, -, -, e, -⟩ := idx t
  have hi := i0_lt (grid0.coords t)
  have hg := i1_lt (grid0.coords t)
  refine Eq.trans ?_ ((v15_at m c ⟨(grid0.coords t 0).val, i0_lt _⟩ a ⟨128 * (4 + (grid0.coords t 1).val) + b.val, by omega⟩).trans ?_)
  · generalize hw : V m c main_v15 = w
    show V m c main_v15 _ = _
    rw [hw]
    congr 1
    blk_ext [e]
  · rfl

theorem in4 (c : Dev nD) (t : Fin cfg0.N) (a : Fin 2048) (b : Fin 128) :
    (iblk m c 4 t : S1x2048x128.Idx → EReal) (ix3 0 a b) = (m ((c : Thread nD τ).loc main_arg2) : S8192x1024.Idx → EReal) (ix2 (rowk (grid0.coords t) a) (colk (grid0.coords t) 6 (by omega) b)) := by
  obtain ⟨-, -, -, -, e, -⟩ := idx t
  have hi := i0_lt (grid0.coords t)
  have hg := i1_lt (grid0.coords t)
  refine Eq.trans ?_ ((v15_at m c ⟨(grid0.coords t 0).val, i0_lt _⟩ a ⟨128 * (6 + (grid0.coords t 1).val) + b.val, by omega⟩).trans ?_)
  · generalize hw : V m c main_v15 = w
    show V m c main_v15 _ = _
    rw [hw]
    congr 1
    blk_ext [e]
  · rfl

theorem in5 (c : Dev nD) (t : Fin cfg0.N) (a : Fin 2048) (b : Fin 128) :
    (iblk m c 5 t : S1x2048x128.Idx → EReal) (ix3 0 a b) = (m ((c : Thread nD τ).loc main_arg3) : S8192x512.Idx → EReal) (ix2 (rowk (grid0.coords t) a) (colw (grid0.coords t) 0 (by omega) b)) := by
  obtain ⟨-, -, -, -, -, e, -⟩ := idx t
  have hi := i0_lt (grid0.coords t)
  have hg := i1_lt (grid0.coords t)
  refine Eq.trans ?_ ((v16_at m c ⟨(grid0.coords t 0).val, i0_lt _⟩ a ⟨128 * (0 + (grid0.coords t 1).val) + b.val, by omega⟩).trans ?_)
  · generalize hw : V m c main_v16 = w
    show V m c main_v16 _ = _
    rw [hw]
    congr 1
    blk_ext [e]
  · rfl

theorem in6 (c : Dev nD) (t : Fin cfg0.N) (a : Fin 2048) (b : Fin 128) :
    (iblk m c 6 t : S1x2048x128.Idx → EReal) (ix3 0 a b) = (m ((c : Thread nD τ).loc main_arg3) : S8192x512.Idx → EReal) (ix2 (rowk (grid0.coords t) a) (colw (grid0.coords t) 2 (by omega) b)) := by
  obtain ⟨-, -, -, -, -, -, e, -⟩ := idx t
  have hi := i0_lt (grid0.coords t)
  have hg := i1_lt (grid0.coords t)
  refine Eq.trans ?_ ((v16_at m c ⟨(grid0.coords t 0).val, i0_lt _⟩ a ⟨128 * (2 + (grid0.coords t 1).val) + b.val, by omega⟩).trans ?_)
  · generalize hw : V m c main_v16 = w
    show V m c main_v16 _ = _
    rw [hw]
    congr 1
    blk_ext [e]
  · rfl

theorem in7 (c : Dev nD) (t : Fin cfg0.N) (a b : Fin 128) :
    (iblk m c 7 t : S128x128.Idx → EReal) (ix2 a b) = (m ((c : Thread nD τ).loc main_arg4) : S8192x256.Idx → EReal) (ix2 (row (grid0.coords t) a) (colg (grid0.coords t) b)) := by
  obtain ⟨-, -, -, -, -, -, -, e, -⟩ := idx t
  unfold row colg
  blk_point [iblk, V, e]

theorem in8 (c : Dev nD) (t : Fin cfg0.N) (a : Fin 128) (b : Fin 512) :
    (iblk m c 8 t : S128x512.Idx → EReal) (ix2 a b) = (m ((c : Thread nD τ).loc main_arg5) : S8192x4608.Idx → EReal) (ix2 (row (grid0.coords t) a) ⟨(colq (grid0.coords t) b).val, by have := (colq (grid0.coords t) b).isLt; omega⟩) := by
  obtain ⟨-, -, -, -, -, -, -, -, e, -⟩ := idx t
  unfold row colq
  blk_point [iblk, V, e]

/-- The overlaps the host computes. -/
theorem in9 (c : Dev nD) (t : Fin cfg0.N) (n j : Fin 128) (hn : n.val < 127) (hj : j.val < 32) :
    (iblk m c 9 t : S128x128.Idx → EReal) (ix2 n j) = ov n.val j.val := by
  obtain ⟨-, -, -, -, -, -, -, -, -, e, -⟩ := idx t
  refine Eq.trans ?_ (v41_at m c n j hn hj)
  generalize hw : V m c main_v41 = w
  show V m c main_v41 _ = _
  rw [hw]
  congr 1
  blk_ext [e]

/-- The expansion the host computes: which of the keys of a trip lie in which block. -/
theorem in10 (c : Dev nD) (t : Fin cfg0.N) (k : Fin 8) (n : Fin 128) (j : Fin 256) :
    (iblk m c 10 t : S8x128x256.Idx → EReal) (ix3 k n j) = if n.val = (256 * k.val + j.val) / 64 then (1 : EReal) else (0 : EReal) := by
  obtain ⟨-, -, -, -, -, -, -, -, -, -, e, -⟩ := idx t
  refine Eq.trans ?_ (v14_at m c k n j)
  generalize hw : V m c main_v14 = w
  show V m c main_v14 _ = _
  rw [hw]
  congr 1
  blk_ext [e]

end Cert.KernelIdeal.Body
-- ==== Proof.KernelVal.lean ====
module

public import proofs.«01_k».proof.Proof.KernelIn

@[expose] public section

set_option maxRecDepth 16384

noncomputable section

/-! # The kernel's result array, entry by entry -/

namespace Cert.KernelIdeal.Body

open Idealize.ShloMosaic Idealize.ShloMosaic.TcCoe Idealize.SL.Sem Cert.KernelIdeal Cert.KernelIdeal.Gen Cert.Nsa
open Idealize.ShloMosaic.Pipeline (Dat)
open scoped Classical

variable (m : (ℓ : Loc nD τ sig) → Buf (Elt Ideal) ℓ)

/-- The argument arrays, by their coordinates. -/
def a0 (c : Dev nD) (r : Fin 8192) (k : Fin 1024) : EReal := (m ((c : Thread nD τ).loc main_arg0) : S8192x1024.Idx → EReal) (ix2 r k)
def a1 (c : Dev nD) (b s : Fin 4) (n d : Fin 128) : EReal := (m ((c : Thread nD τ).loc main_arg1) : S4x4x128x128.Idx → EReal) (ix4 b s n d)
def a2 (c : Dev nD) (r : Fin 8192) (k : Fin 1024) : EReal := (m ((c : Thread nD τ).loc main_arg2) : S8192x1024.Idx → EReal) (ix2 r k)
def a3 (c : Dev nD) (r : Fin 8192) (k : Fin 512) : EReal := (m ((c : Thread nD τ).loc main_arg3) : S8192x512.Idx → EReal) (ix2 r k)
def a4 (c : Dev nD) (r : Fin 8192) (k : Fin 256) : EReal := (m ((c : Thread nD τ).loc main_arg4) : S8192x256.Idx → EReal) (ix2 r k)
def a5 (c : Dev nD) (r : Fin 8192) (k : Fin 4608) : EReal := (m ((c : Thread nD τ).loc main_arg5) : S8192x4608.Idx → EReal) (ix2 r k)

/-- The result array of the kernel's program as a function of its argument arrays. -/
def resK (c : Dev nD) (r : Fin 8192) (k : Fin 1024) : EReal := resAt (a0 m c) (a1 m c) (a2 m c) (a3 m c) (a4 m c) (a5 m c) r k

/-- The attention over the blocks of a grid point is the entry of the result it stands for. -/
theorem block_out (c : Dev nD) (t : Fin cfg0.N) (h : Fin 4) (a d : Fin 128) :
    out (xq (iblk m c 0 t) a) (xc (iblk m c 1 t)) (xk (iblk m c 3 t)) (xk (iblk m c 5 t)) (fun n => xc (iblk m c 2 t) n d) (fun n => xk (iblk m c 4 t) n d)
        (fun n => xk (iblk m c 6 t) n d) (pos (grid0.coords t) a) h ((iblk m c 7 t : S128x128.Idx → EReal) (ix2 a ⟨h.val, by omega⟩)) ((iblk m c 7 t : S128x128.Idx → EReal) (ix2 a ⟨4 + h.val, by omega⟩))
        ((iblk m c 7 t : S128x128.Idx → EReal) (ix2 a ⟨8 + h.val, by omega⟩)) ((iblk m c 8 t : S128x512.Idx → EReal) (ix2 a (hc h d)))
      = resK m c (row (grid0.coords t) a) (colq (grid0.coords t) (hc h d)) := by
  have hi := i2_lt (grid0.coords t)
  refine Eq.trans ?_ (resAt_eq _ _ _ _ _ _ (bat (grid0.coords t)) ⟨128 * (grid0.coords t 2).val + a.val, by have := a.isLt; omega⟩ ⟨(grid0.coords t 1).val, i1_lt _⟩ h d).symm
  unfold res
  have e0 : xq (iblk m c 0 t) a = fun h d => a0 m c (rowOf (bat (grid0.coords t)) ⟨128 * (grid0.coords t 2).val + a.val, by have := a.isLt; omega⟩) (colOf ⟨(grid0.coords t 1).val, i1_lt _⟩ h d) :=
    funext fun h => funext fun d => in0 m c t a (hc h d)
  have e1 : xc (iblk m c 1 t) = cmpRows (a1 m c) (bat (grid0.coords t)) ⟨(grid0.coords t 1).val, i1_lt _⟩ 0 (by omega) := congrArg kN (funext fun n => funext fun d => in1 m c t n d)
  have e2 : xc (iblk m c 2 t) = cmpRows (a1 m c) (bat (grid0.coords t)) ⟨(grid0.coords t 1).val, i1_lt _⟩ 2 (by omega) := congrArg kN (funext fun n => funext fun d => in2 m c t n d)
  have e3 : xk (iblk m c 3 t) = kvRows (a2 m c) (bat (grid0.coords t)) ⟨(grid0.coords t 1).val, i1_lt _⟩ 4 (by omega) := congrArg kN (funext fun n => funext fun d => in3 m c t n d)
  have e4 : xk (iblk m c 4 t) = kvRows (a2 m c) (bat (grid0.coords t)) ⟨(grid0.coords t 1).val, i1_lt _⟩ 6 (by omega) := congrArg kN (funext fun n => funext fun d => in4 m c t n d)
  have e5 : xk (iblk m c 5 t) = winRows (a3 m c) (bat (grid0.coords t)) ⟨(grid0.coords t 1).val, i1_lt _⟩ 0 (by omega) := congrArg kN (funext fun n => funext fun d => in5 m c t n d)
  have e6 : xk (iblk m c 6 t) = winRows (a3 m c) (bat (grid0.coords t)) ⟨(grid0.coords t 1).val, i1_lt _⟩ 2 (by omega) := congrArg kN (funext fun n => funext fun d => in6 m c t n d)
  rw [e0, e1, e2, e3, e4, e5, e6, in7, in7, in7, in8]
  rfl

/-- A column of the gates, read. -/
theorem gcol (v : FVec Ideal S128x128 .f32) (j : Fin 128) (hs) (a : Fin 128) :
    extractStridedSlice S128x1 ![0, j.val] v hs (ix2 a 0) = v (ix2 a j) := by
  unfold extractStridedSlice
  congr 1
  funext b
  fin_cases b
  · exact Fin.ext (Nat.zero_add _)
  · rfl

/-- What the body stores for head 0, entry by entry. -/
theorem piece0 (c : Dev nD) (t : Fin cfg0.N) (a d : Fin 128) :
    (pc0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) : S128x128.Idx → EReal) (ix2 a d) = resK m c (row (grid0.coords t) a) (colq (grid0.coords t) (hc 0 d)) :=
  (head_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (fun n j hn hj => in9 m c t n j hn hj) (fun k n j => in10 m c t k n j) 0 _ _ _ a d
    ((gcol _ 0 _ _).trans (gv_at _ _ _ a 0)) ((gcol _ 4 _ _).trans (gv_at _ _ _ a 4)) ((gcol _ 8 _ _).trans (gv_at _ _ _ a 8))).trans (block_out m c t 0 a d)

/-- What the body stores for head 1, entry by entry. -/
theorem piece1 (c : Dev nD) (t : Fin cfg0.N) (a d : Fin 128) :
    (pc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) : S128x128.Idx → EReal) (ix2 a d) = resK m c (row (grid0.coords t) a) (colq (grid0.coords t) (hc 1 d)) :=
  (head_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (fun n j hn hj => in9 m c t n j hn hj) (fun k n j => in10 m c t k n j) 1 _ _ _ a d
    ((gcol _ 1 _ _).trans (gv_at _ _ _ a 1)) ((gcol _ 5 _ _).trans (gv_at _ _ _ a 5)) ((gcol _ 9 _ _).trans (gv_at _ _ _ a 9))).trans (block_out m c t 1 a d)

/-- What the body stores for head 2, entry by entry. -/
theorem piece2 (c : Dev nD) (t : Fin cfg0.N) (a d : Fin 128) :
    (pc2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) : S128x128.Idx → EReal) (ix2 a d) = resK m c (row (grid0.coords t) a) (colq (grid0.coords t) (hc 2 d)) :=
  (head_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (fun n j hn hj => in9 m c t n j hn hj) (fun k n j => in10 m c t k n j) 2 _ _ _ a d
    ((gcol _ 2 _ _).trans (gv_at _ _ _ a 2)) ((gcol _ 6 _ _).trans (gv_at _ _ _ a 6)) ((gcol _ 10 _ _).trans (gv_at _ _ _ a 10))).trans (block_out m c t 2 a d)

/-- What the body stores for head 3, entry by entry. -/
theorem piece3 (c : Dev nD) (t : Fin cfg0.N) (a d : Fin 128) :
    (pc3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) : S128x128.Idx → EReal) (ix2 a d) = resK m c (row (grid0.coords t) a) (colq (grid0.coords t) (hc 3 d)) :=
  (head_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (fun n j hn hj => in9 m c t n j hn hj) (fun k n j => in10 m c t k n j) 3 _ _ _ a d
    ((gcol _ 3 _ _).trans (gv_at _ _ _ a 3)) ((gcol _ 7 _ _).trans (gv_at _ _ _ a 7)) ((gcol _ 11 _ _).trans (gv_at _ _ _ a 11))).trans (block_out m c t 3 a d)

/-- What the body leaves in the staging buffer of the result. -/
theorem outs_at (c : Dev nD) (t : Fin cfg0.N) (y : S128x512.Idx) :
    (outsAt0 m c t : S128x512.Idx → EReal) y = resK m c (row (grid0.coords t) (y 0)) (colq (grid0.coords t) (y 1)) := by
  have key : ∀ (h : Fin 4) (x : S128x128.Idx), (y 0).val = (x 0).val → (y 1).val = 128 * h.val + (x 1).val →
      resK m c (row (grid0.coords t) (x 0)) (colq (grid0.coords t) (hc h (x 1))) = resK m c (row (grid0.coords t) (y 0)) (colq (grid0.coords t) (y 1)) := by
    intro h x h0 h1
    have e0 : y 0 = x 0 := Fin.ext h0
    have e1 : y 1 = hc h (x 1) := Fin.ext h1
    rw [e0, e1]
  unfold outsAt0 out0_A_11
  rw [View.read_writes_eq_canon _ _ _ (cover0_A_11 c _ _ _ _ _ _ _ _ _ _ _ _ _ _ _ _ _ _ _ _ _ _ _ _ _ _ _ _ _ _ _ _ _ _ _ _ _ _ _ _ _ _)]
  rw [run_pieces]
  canon_tiles x h
  · have hx : x = ix2 (x 0) (x 1) := by funext b; fin_cases b <;> rfl
    refine Eq.trans ?_ (key 3 x (by omega) (by show (y 1).val = 128 * 3 + (x 1).val; omega))
    rw [hx]
    exact piece3 m c t (x 0) (x 1)
  · have hx : x = ix2 (x 0) (x 1) := by funext b; fin_cases b <;> rfl
    refine Eq.trans ?_ (key 2 x (by omega) (by show (y 1).val = 128 * 2 + (x 1).val; omega))
    rw [hx]
    exact piece2 m c t (x 0) (x 1)
  · have hx : x = ix2 (x 0) (x 1) := by funext b; fin_cases b <;> rfl
    refine Eq.trans ?_ (key 1 x (by omega) (by show (y 1).val = 128 * 1 + (x 1).val; omega))
    rw [hx]
    exact piece1 m c t (x 0) (x 1)
  · have hx : x = ix2 (x 0) (x 1) := by funext b; fin_cases b <;> rfl
    refine Eq.trans ?_ (key 0 x (by omega) (by show (y 1).val = 128 * 0 + (x 1).val; omega))
    rw [hx]
    exact piece0 m c t (x 0) (x 1)

/-- The kernel's result array, entry by entry. -/
theorem result_at (c : Dev nD) :
    ((dats m 0 c).arrAt 11 cfg0.N : S8192x1024.Idx → EReal) = fun y => resK m c (y 0) (y 1) := by
  refine (dats m 0 c).arrAt_eq_of_covers 11 (fun y : S8192x1024.Idx => resK m c (y 0) (y 1)) (by decide +kernel) fun t hf y => ?_
  obtain ⟨-, -, -, -, -, -, -, -, -, -, -, e⟩ := idx t
  rw [after0_11]
  refine (outs_at m c t y).trans ?_
  congr 1
  · apply Fin.ext
    unfold row
    blk_simp [e]
    dsimp only
    omega
  · apply Fin.ext
    unfold colq
    blk_simp [e]
    dsimp only
    omega

end Cert.KernelIdeal.Body
-- ==== Proof.RefC.lean ====
module

public import proofs.«01_k».proof.Proof.Gen.ReferenceIdeal.Read
public import proofs.«01_k».proof.Proof.HeadVal
public import proofs.«01_k».proof.Proof.Masks
public import proofs.«01_k».proof.Proof.Result
public import Idealize.ShloMosaic.Lib.Pointwise

/-!
# The reference's compressed attention and its sliding window

Each array of the reference is read at its coordinates and named by the plain form it has.
-/

set_option maxRecDepth 16384

@[expose] public section

noncomputable section

namespace Cert.ReferenceIdeal.Val

open Idealize.ShloMosaic Idealize.ShloMosaic.TcCoe Idealize.ShloMosaic.WordCmp Idealize.SL.Sem Cert.ReferenceIdeal Cert.ReferenceIdeal.Read Cert.Nsa
open Cert.KernelIdeal.Body (ninf_val sel_if rowS rowS_fin soft_row add_w' mul_w' sub_toInt forced_word)
open scoped Classical

/-- The reference's scale. -/
theorem scale_rs : Ideal.rsqrt (Ideal.ofBits .f32 0x43000000#32) = scale := by
  have h : Ideal.ofBits .f32 0x43000000#32 = ((128 : ℝ) : EReal) := by
    simp [Ideal.ofBits, Ideal.ieee]
    rw [← EReal.coe_mul]
    norm_num
  rw [h, Ideal.rsqrt_coe, if_neg (by norm_num), if_neg (by norm_num)]
  rfl

/-- The difference of two words whose numbers do not cross. -/
theorem sub_w' (a b : ℕ) (h : b ≤ a) (ha : a < 4294967296) : IntOp.subi (BitVec.ofNat 32 a) (BitVec.ofNat 32 b) = BitVec.ofNat 32 (a - b) := by
  show BitVec.ofNat 32 a - BitVec.ofNat 32 b = _
  apply BitVec.eq_of_toNat_eq
  rw [BitVec.toNat_sub]
  simp only [BitVec.toNat_ofNat]
  omega

/-- Two masked scores agree when the masks and the scores do. -/
theorem ite_bot {p q : Prop} {dp : Decidable p} {dq : Decidable q} {x y : EReal} (h : p ↔ q) (e : q → x = y) :
    @ite _ p dp x ⊥ = @ite _ q dq y ⊥ := by
  by_cases hq : q
  · rw [if_pos (h.mpr hq), if_pos hq, e hq]
  · rw [if_neg (fun hp => hq (h.mp hp)), if_neg hq]

/-- A weight depends on the scores of the keys alone. -/
theorem P_congr {f f' : ℕ → EReal} {n k : ℕ} (hk : k < n) (hf : ∀ k, k < n → f k = f' k) : P f n k = P f' n k := by
  have hm : sMax f n = sMax f' n := Finset.sup_congr rfl fun k hk => hf k (Finset.mem_range.mp hk)
  have hs : sSum f n = sSum f' n := by
    unfold sSum
    exact Finset.sum_congr rfl fun k hk => by rw [hm, hf k (Finset.mem_range.mp hk)]
  unfold P
  rw [hm, hs, hf k hk]

section
variable (x0 : S8192x1024.Idx → EReal) (x1 : S4x4x128x128.Idx → EReal) (x2 : S8192x1024.Idx → EReal) (x3 : S8192x512.Idx → EReal)

/-- The queries, by row and column. -/
def qA (r : Fin 8192) (k : Fin 1024) : EReal := x0 (ix2 r k)
/-- The compressed keys and values, by batch, slot, block and lane. -/
def cA (b s : Fin 4) (n d : Fin 128) : EReal := x1 (ix4 b s n d)
/-- The keys and values, by row and column. -/
def kA (r : Fin 8192) (k : Fin 1024) : EReal := x2 (ix2 r k)
/-- The window's keys and values, by row and column. -/
def wA (r : Fin 8192) (k : Fin 512) : EReal := x3 (ix2 r k)

/-- The query of a head. -/
def qH (b : Fin 4) (g : Fin 2) (t : Fin 2048) (r : Fin 4) (d : Fin 128) : EReal := qA x0 (rowOf b t) (colOf g r d)

/-- A query of the reshaped array. -/
theorem q_at (b : Fin 4) (g : Fin 2) (r : Fin 4) (t : Fin 2048) (d : Fin 128) (h1 : b.val * 2048 + t.val < 8192) (h2 : g.val * 512 + r.val * 128 + d.val < 1024) :
    x0 (ix2 ⟨b.val * 2048 + t.val, h1⟩ ⟨g.val * 512 + r.val * 128 + d.val, h2⟩) = qH x0 b g t r d := by
  have e1 : (⟨b.val * 2048 + t.val, h1⟩ : Fin 8192) = rowOf b t := Fin.ext (by show b.val * 2048 + t.val = 2048 * b.val + t.val; omega)
  have e2 : (⟨g.val * 512 + r.val * 128 + d.val, h2⟩ : Fin 1024) = colOf g r d :=
    Fin.ext (by show g.val * 512 + r.val * 128 + d.val = 512 * g.val + (128 * r.val + d.val); omega)
  rw [e1, e2]; rfl

theorem k_at (b : Fin 4) (g : Fin 2) (s : ℕ) (hs : s ≤ 6) (t : Fin 2048) (d : Fin 128) (z : ℕ) (hz : z = 128 * s) (h1 : b.val * 2048 + t.val < 8192) (h2 : z + g.val * 128 + d.val < 1024) :
    x2 (ix2 ⟨b.val * 2048 + t.val, h1⟩ ⟨z + g.val * 128 + d.val, h2⟩) = kvRows (kA x2) b g s hs t.val d := by
  unfold kvRows
  rw [kN_fin]
  show _ = x2 (ix2 _ _)
  have e1 : (⟨b.val * 2048 + t.val, h1⟩ : Fin 8192) = rowOf b t := Fin.ext (by show b.val * 2048 + t.val = 2048 * b.val + t.val; omega)
  have e2 : (⟨z + g.val * 128 + d.val, h2⟩ : Fin 1024) = ⟨128 * (s + g.val) + d.val, by omega⟩ :=
    Fin.ext (by show z + g.val * 128 + d.val = 128 * (s + g.val) + d.val; omega)
  rw [e1, e2]

theorem w_at (b : Fin 4) (g : Fin 2) (t : Fin 2048) (d : Fin 128) (h1 : b.val * 2048 + t.val < 8192) (h2 : g.val * 128 + d.val < 512) :
    x3 (ix2 ⟨b.val * 2048 + t.val, h1⟩ ⟨g.val * 128 + d.val, h2⟩) = winRows (wA x3) b g 0 (by omega) t.val d := by
  unfold winRows
  rw [kN_fin]
  show _ = x3 (ix2 _ _)
  have e1 : (⟨b.val * 2048 + t.val, h1⟩ : Fin 8192) = rowOf b t := Fin.ext (by show b.val * 2048 + t.val = 2048 * b.val + t.val; omega)
  have e2 : (⟨g.val * 128 + d.val, h2⟩ : Fin 512) = ⟨128 * (0 + g.val) + d.val, by omega⟩ :=
    Fin.ext (by show g.val * 128 + d.val = 128 * (0 + g.val) + d.val; omega)
  rw [e1, e2]

theorem w_at2 (b : Fin 4) (g : Fin 2) (t : Fin 2048) (d : Fin 128) (h1 : b.val * 2048 + t.val < 8192) (h2 : 256 + g.val * 128 + d.val < 512) :
    x3 (ix2 ⟨b.val * 2048 + t.val, h1⟩ ⟨256 + g.val * 128 + d.val, h2⟩) = winRows (wA x3) b g 2 (by omega) t.val d := by
  unfold winRows
  rw [kN_fin]
  show _ = x3 (ix2 _ _)
  have e1 : (⟨b.val * 2048 + t.val, h1⟩ : Fin 8192) = rowOf b t := Fin.ext (by show b.val * 2048 + t.val = 2048 * b.val + t.val; omega)
  have e2 : (⟨256 + g.val * 128 + d.val, h2⟩ : Fin 512) = ⟨128 * (2 + g.val) + d.val, by omega⟩ :=
    Fin.ext (by show 256 + g.val * 128 + d.val = 128 * (2 + g.val) + d.val; omega)
  rw [e1, e2]

theorem c_at (b : Fin 4) (g : Fin 2) (n : Fin 127) (d : Fin 128) (h1 : g.val < 4) (h2 : n.val < 128) :
    x1 (ix4 b ⟨g.val, h1⟩ ⟨n.val, h2⟩ d) = cmpRows (cA x1) b g 0 (by omega) n.val d := by
  unfold cmpRows
  rw [kN_lt _ h2]
  show _ = x1 (ix4 _ _ _ _)
  have e : (⟨g.val, h1⟩ : Fin 4) = ⟨0 + g.val, by omega⟩ := Fin.ext (Nat.zero_add _).symm
  rw [e]

theorem c_at2 (b : Fin 4) (g : Fin 2) (n : Fin 127) (d : Fin 128) (h1 : 2 + g.val < 4) (h2 : n.val < 128) :
    x1 (ix4 b ⟨2 + g.val, h1⟩ ⟨n.val, h2⟩ d) = cmpRows (cA x1) b g 2 (by omega) n.val d := by
  unfold cmpRows
  rw [kN_lt _ h2]
  rfl

/-- The reference's weights of the compressed keys. -/
theorem p_cmp (b : Fin 4) (g : Fin 2) (r : Fin 4) (t : Fin 2048) (n : Fin 127) :
    (val_main_v55 (F := Ideal) x0 x1 : S4x2x4x2048x127.Idx → EReal) (ix5 b g r t n)
      = P (fC (qH x0 b g t r) (cmpRows (cA x1) b g 0 (by omega)) t.val) 127 n.val := by
  pointwise [val_main_v55, val_main_v54, val_main_v53, val_main_v52, val_main_cst_6, val_main_v51, val_main_v50, val_main_cst_5, val_main_v49, val_main_v48, val_main_cst_4, val_main_v46, val_main_v45, val_main_v44, val_main_v43, val_main_v42, val_main_cst_3, val_main_v41, val_main_v40, val_main_cst_2, val_main_v33, val_main_v32, val_main_v0, val_main_cst, val_main_v31, val_main_v30, val_main_v2, val_main_v1, val_main_v7, val_main_v6, val_main_v5, val_main_v4, val_main_v3, val_main_v39, val_main_v38, val_main_v37, val_main_v35, val_main_v22, val_main_v36, val_main_v34, val_main_v29, val_main_v28, val_main_c_1, val_main_v27, val_main_v26, val_main_c_0, val_main_v25, val_main_v24, val_main_c, val_main_v23, val_main_v47, scale_rs, ninf_val, eps_val]
  refine (soft_row (n := 127)
    (fun n => IntOp.cmpi .sle (IntOp.subi (IntOp.addi (IntOp.muli (BitVec.ofNat 32 n.val) 16#32) 32#32) 1#32) (BitVec.ofNat 32 t.val))
    (fun n => (∑ x : Fin 128, x1 (ix4 b ⟨g.val, by omega⟩ ⟨n.val, by omega⟩ x) * x0 (ix2 ⟨b.val * 2048 + t.val, by omega⟩ ⟨g.val * 512 + r.val * 128 + x.val, by omega⟩)) * scale)
    n).trans ?_
  refine P_congr n.isLt fun k hk => ?_
  refine (rowS_fin _ _ ⟨k, hk⟩).trans ?_
  unfold fC
  have ht := t.isLt
  refine ite_bot ?_ fun _ => ?_
  · have e : IntOp.subi (IntOp.addi (IntOp.muli (BitVec.ofNat 32 k) 16#32) 32#32) 1#32 = BitVec.ofNat 32 (k * 16 + 31) := by
      rw [mul_w', add_w', sub_w' _ _ (by omega) (by omega)]
      rfl
    dsimp only
    rw [e]
    have hw : IntOp.cmpi .sle (BitVec.ofNat 32 (k * 16 + 31)) (BitVec.ofNat 32 t.val) = 1#1 ↔ k * 16 + 31 ≤ t.val := by word_cmp
    rw [hw]
    exact ⟨fun h => ⟨hk, h⟩, fun h => h.2⟩
  · unfold sc
    congr 1
    exact Finset.sum_congr rfl fun d _ => by rw [q_at x0, c_at x1 b g ⟨k, hk⟩ d, mul_comm]

/-- The reference's compressed attention. -/
theorem o_cmp (b : Fin 4) (g : Fin 2) (r : Fin 4) (t : Fin 2048) (d : Fin 128) :
    (val_main_v56 (F := Ideal) x0 x1 : S4x2x4x2048x128.Idx → EReal) (ix5 b g r t d)
      = att (fC (qH x0 b g t r) (cmpRows (cA x1) b g 0 (by omega)) t.val) (fun n => cmpRows (cA x1) b g 2 (by omega) n d) 127 := by
  pointwise [val_main_v56, val_main_v9, val_main_v8, val_main_v5, val_main_v4, val_main_v3]
  unfold att
  rw [Finset.sum_range]
  exact Finset.sum_congr rfl fun n _ => by rw [p_cmp, c_at2 x1]

/-- The reference's weights of the keys of the sliding window. -/
theorem p_win (b : Fin 4) (g : Fin 2) (r : Fin 4) (t : Fin 2048) (n : Fin 2048) :
    (val_main_v202 (F := Ideal) x0 x3 : S4x2x4x2048x2048.Idx → EReal) (ix5 b g r t n)
      = P (fW (qH x0 b g t r) (winRows (wA x3) b g 0 (by omega)) t.val) 2048 n.val := by
  pointwise [val_main_v202, val_main_v201, val_main_v200, val_main_v199, val_main_cst_36, val_main_v198, val_main_v197, val_main_cst_35, val_main_v196, val_main_v195, val_main_cst_34, val_main_v193, val_main_v192, val_main_v191, val_main_v190, val_main_v189, val_main_cst_33, val_main_v188, val_main_v187, val_main_cst_32, val_main_v180, val_main_v179, val_main_v0, val_main_cst, val_main_v178, val_main_v177, val_main_v2, val_main_v1, val_main_v19, val_main_v18, val_main_v17, val_main_v16, val_main_v186, val_main_v185, val_main_v184, val_main_v183, val_main_c_31, val_main_v176, val_main_v175, val_main_v173, val_main_v22, val_main_v174, val_main_v172, val_main_v182, val_main_v181, val_main_c_30, val_main_v194, scale_rs, ninf_val, eps_val]
  refine (soft_row (n := 2048)
    (fun n => IntOp.andi (IntOp.cmpi .sge (IntOp.subi (BitVec.ofNat 32 t.val) (BitVec.ofNat 32 n.val)) 0#32)
      (IntOp.cmpi .sle (IntOp.subi (BitVec.ofNat 32 t.val) (BitVec.ofNat 32 n.val)) 512#32))
    (fun n => (∑ x : Fin 128, x3 (ix2 ⟨b.val * 2048 + n.val, by omega⟩ ⟨g.val * 128 + x.val, by omega⟩) * x0 (ix2 ⟨b.val * 2048 + t.val, by omega⟩ ⟨g.val * 512 + r.val * 128 + x.val, by omega⟩)) * scale)
    n).trans ?_
  refine P_congr n.isLt fun k hk => ?_
  refine (rowS_fin _ _ ⟨k, hk⟩).trans ?_
  unfold fW
  have ht := t.isLt
  refine ite_bot ?_ fun _ => ?_
  · dsimp only
    rw [cmpi_sge_eq, cmpi_sle_eq, sub_toInt (by omega) (by omega)]
    simp only [andi_ofBool, ofBool_eq_one_iff, Bool.and_eq_true, decide_eq_true_eq]
    rw [show (0#32).toInt = 0 from rfl, show (512#32).toInt = 512 from rfl]
    omega
  · unfold sc
    congr 1
    exact Finset.sum_congr rfl fun d _ => by rw [q_at x0, w_at x3 b g ⟨k, hk⟩ d, mul_comm]

/-- The reference's attention over the sliding window. -/
theorem o_win (b : Fin 4) (g : Fin 2) (r : Fin 4) (t : Fin 2048) (d : Fin 128) :
    (val_main_v203 (F := Ideal) x0 x3 : S4x2x4x2048x128.Idx → EReal) (ix5 b g r t d)
      = att (fW (qH x0 b g t r) (winRows (wA x3) b g 0 (by omega)) t.val) (fun n => winRows (wA x3) b g 2 (by omega) n d) 2048 := by
  pointwise [val_main_v203, val_main_v21, val_main_v20, val_main_v17, val_main_v16]
  unfold att
  rw [Finset.sum_range]
  exact Finset.sum_congr rfl fun n _ => by rw [p_win, w_at2 x3]

end

end Cert.ReferenceIdeal.Val
-- ==== Proof.RefS.lean ====
module

public import proofs.«01_k».proof.Proof.RefC
public import Idealize.ShloMosaic.Lib.Pointwise

/-!
# The reference's scores of the selection blocks

The importance of a block is the sum of the compressed weights over the blocks that overlap it.
-/

set_option maxRecDepth 16384

@[expose] public section

noncomputable section

namespace Cert.ReferenceIdeal.Val

open Idealize.ShloMosaic Idealize.ShloMosaic.TcCoe Idealize.ShloMosaic.WordCmp Idealize.SL.Sem Cert.ReferenceIdeal Cert.ReferenceIdeal.Read Cert.Nsa
open Cert.KernelIdeal.Body (ninf_val sel_if rowS rowS_fin soft_row add_w' mul_w' sub_toInt forced_word)
open scoped Classical

section
variable (x0 : S8192x1024.Idx → EReal) (x1 : S4x4x128x128.Idx → EReal)

/-- The score of a block for a query. -/
def scR (b : Fin 4) (g : Fin 2) (t : Fin 2048) : ℕ → EReal := score (imp (qH x0 b g t) (cmpRows (cA x1) b g 0 (by omega)) t.val) t.val

/-- A bit as a number. -/
theorem bit_val (b : BitVec 1) : (FloatOps.uitofp (F := Ideal) .f32 b : EReal) = if b = 1#1 then 1 else 0 := by
  have h : (FloatOps.uitofp (F := Ideal) .f32 b : EReal) = ((b.toNat : ℝ) : EReal) := rfl
  rw [h]
  rcases BitVec.eq_zero_or_eq_one b with h | h <;> subst h <;> simp

/-- The reference's importance of a block. -/
theorem imp_at (b : Fin 4) (g : Fin 2) (t : Fin 2048) (j : Fin 32) :
    (val_main_v78 (F := Ideal) x0 x1 : S4x2x2048x32.Idx → EReal) (ix4 b g t j)
      = imp (qH x0 b g t) (cmpRows (cA x1) b g 0 (by omega)) t.val j.val := by
  pointwise [val_main_v78, val_main_v76, val_main_v75, val_main_v74, val_main_v73, val_main_v64, val_main_v63, val_main_c_8, val_main_v62, val_main_v61, val_main_v72, val_main_v71, val_main_v70, val_main_c_10, val_main_v60, val_main_v59, val_main_c_7, val_main_v58, val_main_v57, val_main_v69, val_main_v68, val_main_v66, val_main_v65, val_main_c_9, val_main_v67, val_main_v77, val_main_cst_11]
  unfold imp
  rw [Finset.sum_range]
  refine Finset.sum_congr rfl fun n _ => ?_
  simp only [p_cmp]
  congr 1
  rw [bit_val]
  unfold ov
  have hn := n.isLt
  have hj := j.isLt
  rw [mul_w', mul_w', add_w', add_w']
  have h1 : IntOp.cmpi .slt (BitVec.ofNat 32 (n.val * 16)) (BitVec.ofNat 32 (j.val * 64 + 64)) = 1#1 ↔ n.val * 16 < j.val * 64 + 64 := by word_cmp
  have h2 : IntOp.cmpi .sgt (BitVec.ofNat 32 (n.val * 16 + 32)) (BitVec.ofNat 32 (j.val * 64)) = 1#1 ↔ j.val * 64 < n.val * 16 + 32 := by word_cmp
  have ha : ∀ x y : BitVec 1, IntOp.andi x y = 1#1 ↔ x = 1#1 ∧ y = 1#1 := by decide
  by_cases hc : n.val * 16 < j.val * 64 + 64 ∧ j.val * 64 < n.val * 16 + 32
  · rw [if_pos hc, if_pos ((ha _ _).mpr ⟨h1.mpr hc.1, h2.mpr hc.2⟩)]
  · rw [if_neg hc, if_neg fun h => hc ⟨h1.mp ((ha _ _).mp h).1, h2.mp ((ha _ _).mp h).2⟩]

/-- A query's block as a word. -/
theorem div_word : ∀ t : Fin 2048, IntOp.divsi .host (BitVec.ofNat 32 t.val) 64#32 = BitVec.ofNat 32 (t.val / 64) := by decide +kernel

/-- The bonus of a forced block. -/
theorem bonus_at (t : Fin 2048) (j : Fin 32) :
    (val_main_v105 (F := Ideal) : S2048x32.Idx → EReal) (ix2 t j)
      = if j.val = 0 ∨ j.val = t.val / 64 ∨ j.val + 1 = t.val / 64 then Ideal.ofBits .f32 0x49742400#32 else 0 := by
  pointwise [val_main_v105, val_main_v104, val_main_cst_17, val_main_v103, val_main_cst_16, val_main_v102, val_main_v101, val_main_v100, val_main_v98, val_main_v97, val_main_c_15, val_main_v83, val_main_v82, val_main_v81, val_main_c_12, val_main_v22, val_main_v99, val_main_v80, val_main_v79, val_main_v96, val_main_v94, val_main_v93, val_main_v92, val_main_v95, val_main_v91, val_main_v90, val_main_c_14]
  rw [div_word, sel_if]
  have h := forced_word j ⟨t.val / 64, by omega⟩
  exact if_congr h rfl rfl

/-- The reference's score of a block. -/
theorem score_at (b : Fin 4) (g : Fin 2) (t : Fin 2048) (j : Fin 32) :
    (val_main_v112 (F := Ideal) x0 x1 : S4x2x2048x32.Idx → EReal) (ix4 b g t j) = scR x0 x1 b g t j.val := by
  have he : ∀ i, (val_main_v106 (F := Ideal) : S2048x32.Idx → EReal) i = (val_main_v105 (F := Ideal) : S2048x32.Idx → EReal) i := fun _ => rfl
  pointwise [val_main_v112, val_main_v111, val_main_cst_18, val_main_v109, val_main_v108, val_main_v107, val_main_v110, val_main_v89, val_main_v88, val_main_v86, val_main_v22, val_main_v87, val_main_v85, val_main_v84, val_main_c_13, val_main_v80, val_main_v79, ninf_val, he]
  rw [bonus_at, imp_at, sel_if]
  have ht := t.isLt
  have hj := j.isLt
  have h1 : IntOp.cmpi .sle (IntOp.muli (BitVec.ofNat 32 j.val) 64#32) (BitVec.ofNat 32 t.val) = 1#1 ↔ j.val * 64 ≤ t.val := by
    rw [mul_w']; word_cmp
  unfold scR score
  exact ite_bot h1 fun _ => rfl

/-- A block has a score exactly when it starts at or before the query. -/
theorem scR_pos (b : Fin 4) (g : Fin 2) (t : Fin 2048) (j : ℕ) : ⊥ < scR x0 x1 b g t j ↔ j * 64 ≤ t.val := by
  constructor
  · intro h
    by_contra hc
    unfold scR score at h
    rw [if_neg hc] at h
    exact absurd h (lt_irrefl _)
  · intro h
    obtain ⟨r, hr⟩ := score_real (imp_real (qH x0 b g t) (cmpRows (cA x1) b g 0 (by omega)) t.val) h
    unfold scR
    rw [hr]
    exact EReal.bot_lt_coe r

end

end Cert.ReferenceIdeal.Val
-- ==== Proof.TopK.lean ====
module

public import proofs.«01_k».proof.Proof.Result
public import Idealize.ShloMosaic.Lib.SortFacts

/-!
# The sixteen chosen blocks, as a sort gives them

A stable sort by score alone puts the blocks in the order "larger score, then smaller number"; the block at place `p` of it has exactly
`p` blocks before it. The attention over the keys of the first sixteen blocks is then the attention over all keys with the others masked.
-/

@[expose] public section

noncomputable section

namespace Cert.Nsa

open Idealize.ShloMosaic
open scoped Classical

section
variable {n : ℕ} (K : Fin n → EReal)

/-- Position `a` comes before position `b`: a larger key, or the same key and an earlier position. -/
def ahead (a b : Fin n) : Bool := decide (K b < K a ∨ (K a = K b ∧ a < b))

/-- The comparison a sort by key alone makes. -/
def larger (a b : Fin n) : Bool := Ideal.cmpTotal .gt (K a) (K b) == 1#1

theorem larger_iff (a b : Fin n) : larger K a b = true ↔ K b < K a := by
  have e : ∀ b : Bool, BitVec.ofBool b = 1#1 ↔ b = true := by decide
  unfold larger Ideal.cmpTotal Ideal.cmp
  simp only [CmpDirection.ordered, beq_iff_eq, e, decide_eq_true_eq, gt_iff_lt]

theorem ahead_iff (a b : Fin n) : ahead K a b = true ↔ (K b < K a ∨ (K a = K b ∧ a < b)) := by
  unfold ahead; exact decide_eq_true_iff

/-- Inserting the positions from the last to the first keeps ties in order. -/
theorem stable_ahead (l : List (Fin n)) (hl : l.Pairwise (· < ·)) : stableSort (larger K) l = stableSort (ahead K) l := by
  induction l with
  | nil => rfl
  | cons a l ih =>
    have hl' := List.pairwise_cons.mp hl
    unfold stableSort
    rw [ih hl'.2]
    refine insertBefore_congr _ _ a _ fun b hb => ?_
    have hab : a < b := hl'.1 b ((perm_stableSort _ l).mem_iff.mp hb)
    rw [Bool.eq_iff_iff, larger_iff, ahead_iff]
    constructor
    · exact fun h => Or.inl h
    · rintro (h | ⟨_, h⟩)
      · exact h
      · exact absurd h (lt_asymm hab)

/-- The order a sort by key gives. -/
def order (p : Fin n) : Fin n := sortedFrom (larger K) p

theorem order_eq : order K = sortedFrom (ahead K) := by
  funext p
  unfold order sortedFrom
  rw [List.get_of_eq (show sortPositions n (larger K) = sortPositions n (ahead K) from
    stable_ahead K _ (List.pairwise_lt_finRange n))]
  rfl

theorem order_injective : Function.Injective (order K) := sortedFrom_injective _
theorem order_surjective : Function.Surjective (order K) := sortedFrom_surjective _

theorem ahead_asymm (a b : Fin n) (h : ahead K a b = true) : ahead K b a = false := by
  rw [Bool.eq_false_iff, Ne, ahead_iff]
  rcases (ahead_iff K a b).mp h with h1 | ⟨h1, h2⟩
  · rintro (h3 | ⟨h3, _⟩)
    · exact absurd h3 (lt_asymm h1)
    · exact absurd h1 (by rw [h3]; exact lt_irrefl _)
  · rintro (h3 | ⟨_, h3⟩)
    · exact absurd h3 (by rw [h1]; exact lt_irrefl _)
    · exact absurd h3 (lt_asymm h2)

theorem ahead_total (a b : Fin n) (h : a ≠ b) (hn : ahead K a b = false) : ahead K b a = true := by
  rw [Bool.eq_false_iff, Ne, ahead_iff] at hn
  rw [ahead_iff]
  rcases lt_trichotomy (K a) (K b) with h1 | h1 | h1
  · exact Or.inl h1
  · rcases lt_trichotomy a b with h2 | h2 | h2
    · exact absurd (Or.inr ⟨h1, h2⟩) hn
    · exact absurd h2 h
    · exact Or.inr ⟨h1.symm, h2⟩
  · exact absurd (Or.inl h1) hn

theorem ahead_negtrans (a b c : Fin n) (h1 : ahead K a b = false) (h2 : ahead K b c = false) : ahead K a c = false := by
  rw [Bool.eq_false_iff, Ne, ahead_iff, not_or, not_and, not_lt, not_lt] at *
  refine ⟨h1.1.trans h2.1, fun e => ?_⟩
  have e1 : K a = K b := le_antisymm h1.1 (h2.1.trans e.symm.le)
  have e2 : K b = K c := e1.symm.trans e
  exact (h2.2 e2).trans (h1.2 e1)

/-- An earlier place holds a position that comes before. -/
theorem order_ahead (i j : Fin n) : ahead K (order K i) (order K j) = true ↔ i < j := by
  have key : ∀ i j : Fin n, i < j → ahead K (order K i) (order K j) = true := fun i j h => by
    refine ahead_total K _ _ (fun e => absurd (order_injective K e) (ne_of_gt h)) ?_
    rw [order_eq]
    exact sortedFrom_noInversion (ahead K) (ahead K) (ahead_asymm K) (fun _ _ h => h) (ahead_negtrans K) i j h
  refine ⟨fun h => ?_, key i j⟩
  by_contra hc
  rcases lt_or_eq_of_le (not_lt.mp hc) with h1 | h1
  · have h2 := ahead_asymm K _ _ (key j i h1)
    rw [h] at h2; exact absurd h2 (by decide)
  · subst h1
    have h2 := ahead_asymm K _ _ h
    rw [h] at h2; exact absurd h2 (by decide)
end

/-- The block at place `p` has `p` blocks before it. -/
theorem rank_order (s : ℕ → EReal) (p : Fin 32) : rank s (order (fun j : Fin 32 => s j) p) = p := by
  set K : Fin 32 → EReal := fun j => s j with hK
  have e : ((Finset.range 32).filter fun i => before s i (order K p)) = (Finset.range p.val).map
      ⟨fun q => if h : q < 32 then (order K ⟨q, h⟩).val else q, fun x y hxy => by
        dsimp only at hxy
        split at hxy <;> split at hxy
        · rename_i h1 h2
          exact congrArg Fin.val (order_injective K (Fin.ext hxy))
        · rename_i h1 h2; omega
        · rename_i h1 h2; omega
        · exact hxy⟩ := by
    ext i
    simp only [Finset.mem_filter, Finset.mem_range, Finset.mem_map, Function.Embedding.coeFn_mk]
    constructor
    · rintro ⟨hi, hb⟩
      obtain ⟨q, hq⟩ := order_surjective K ⟨i, hi⟩
      refine ⟨q.val, ?_, ?_⟩
      · refine (order_ahead K q p).mp ((ahead_iff K _ _).mpr ?_)
        rw [hq]; exact hb
      · show (if h : q.val < 32 then (order K ⟨q.val, h⟩).val else q.val) = i
        rw [dif_pos q.isLt]; exact congrArg Fin.val hq
    · rintro ⟨q, hq, hi⟩
      have hq' : q < 32 := hq.trans p.isLt
      have hi' : (if h : q < 32 then (order K ⟨q, h⟩).val else q) = i := hi
      rw [dif_pos hq'] at hi'
      subst hi'
      exact ⟨(order K ⟨q, hq'⟩).isLt, (ahead_iff K _ _).mp ((order_ahead K ⟨q, hq'⟩ p).mpr hq)⟩
  unfold rank
  rw [e, Finset.card_map, Finset.card_range]

/-- The attention over a selection of keys is the attention over all of them, when the others are masked. -/
theorem att_select (f v : ℕ → EReal) (e : ℕ → ℕ) (M N : ℕ) (hlt : ∀ m, m < M → e m < N) (hinj : ∀ a b, a < M → b < M → e a = e b → a = b)
    (hbot : ∀ k, k < N → (∀ m, m < M → e m ≠ k) → f k = ⊥) :
    att (fun m => f (e m)) (fun m => v (e m)) M = att f v N := by
  have hsum : ∀ g : ℕ → EReal, (∀ k, k < N → f k = ⊥ → g k = 0) → ∑ m ∈ Finset.range M, g (e m) = ∑ k ∈ Finset.range N, g k := by
    intro g hg
    rw [← Finset.sum_image (s := Finset.range M) (g := e) (f := g) fun a ha b hb h =>
      hinj a b (Finset.mem_range.mp ha) (Finset.mem_range.mp hb) h]
    refine Finset.sum_subset (fun k hk => ?_) fun k hk hk' => ?_
    · obtain ⟨m, hm, rfl⟩ := Finset.mem_image.mp hk
      exact Finset.mem_range.mpr (hlt m (Finset.mem_range.mp hm))
    · have hk := Finset.mem_range.mp hk
      exact hg k hk (hbot k hk fun m hm h => hk' (Finset.mem_image.mpr ⟨m, Finset.mem_range.mpr hm, h⟩))
  have hmax : sMax (fun m => f (e m)) M = sMax f N := by
    refine le_antisymm (Finset.sup_le fun m hm => le_sMax f (hlt m (Finset.mem_range.mp hm))) (Finset.sup_le fun k hk => ?_)
    have hk := Finset.mem_range.mp hk
    by_cases h : ∃ m, m < M ∧ e m = k
    · obtain ⟨m, hm, rfl⟩ := h
      exact le_sMax (fun m => f (e m)) hm
    · rw [hbot k hk fun m hm e => h ⟨m, hm, e⟩]; exact bot_le
  have hs : sSum (fun m => f (e m)) M = sSum f N := by
    unfold sSum
    rw [hmax]
    exact hsum (fun k => wt (f k) (sMax f N)) fun k _ h => by rw [h, wt_bot]
  unfold att P
  rw [hmax, hs]
  exact hsum (fun k => Ideal.div (wt (f k) (sMax f N)) (max (sSum f N) (eps : EReal)) * v k) fun k _ h => by
    have h' := P_bot f N k h
    unfold P at h'
    rw [h', zero_mul]

/-- The scores of the keys of the first sixteen blocks in the sort's order, key `m % 64` of the block at place `m / 64`. -/
def fG (q : Fin 128 → EReal) (ks : ℕ → Fin 128 → EReal) (s : ℕ → EReal) (t : ℕ) (e : ℕ → ℕ) (m : ℕ) : EReal :=
  if ⊥ < s (e m / 64) ∧ e m ≤ t then sc q (ks (e m)) else ⊥

/-- The number of the key at place `m`: key `m % 64` of the block at place `m / 64` of the sort. -/
def keyAt (s : ℕ → EReal) (m : ℕ) : ℕ := if h : m / 64 < 32 then (order (fun j : Fin 32 => s j) ⟨m / 64, h⟩).val * 64 + m % 64 else 0

theorem keyAt_lt (s : ℕ → EReal) {m : ℕ} (hm : m < 1024) : keyAt s m < 2048 := by
  unfold keyAt; rw [dif_pos (by omega)]
  have := (order (fun j : Fin 32 => s j) ⟨m / 64, by omega⟩).isLt
  omega

theorem keyAt_div (s : ℕ → EReal) {m : ℕ} (hm : m < 1024) :
    keyAt s m / 64 = (order (fun j : Fin 32 => s j) ⟨m / 64, by omega⟩).val := by
  unfold keyAt; rw [dif_pos (by omega)]; omega

/-- The attention over the keys the sort selects is the attention over the keys of the chosen blocks. -/
theorem att_keyAt (q : Fin 128 → EReal) (ks : ℕ → Fin 128 → EReal) (v : ℕ → EReal) (s : ℕ → EReal) (t : ℕ)
    (hs : ∀ j, ⊥ < s j ↔ j * 64 ≤ t) :
    att (fun m => fG q ks s t (keyAt s) m) (fun m => v (keyAt s m)) 1024 = att (fS q ks (chosen s t) t) v 2048 := by
  have hr : ∀ m, m < 1024 → rank s (keyAt s m / 64) = m / 64 := fun m hm => by
    rw [keyAt_div s hm, rank_order]
  have hf : ∀ m, m < 1024 → fG q ks s t (keyAt s) m = fS q ks (chosen s t) t (keyAt s m) := fun m hm => by
    unfold fG fS chosen
    have h1 := hr m hm
    have h2 := keyAt_lt s hm
    have e : (⊥ < s (keyAt s m / 64) ∧ keyAt s m ≤ t)
        ↔ ((keyAt s m / 64 * 64 ≤ t ∧ keyAt s m / 64 < 32 ∧ rank s (keyAt s m / 64) < 16) ∧ keyAt s m ≤ t) := by
      rw [hs, h1]
      constructor
      · rintro ⟨h, h'⟩; exact ⟨⟨h, by omega, by omega⟩, h'⟩
      · rintro ⟨⟨h, _, _⟩, h'⟩; exact ⟨h, h'⟩
    by_cases hc : ⊥ < s (keyAt s m / 64) ∧ keyAt s m ≤ t
    · rw [if_pos hc, if_pos (e.mp hc)]
    · rw [if_neg hc, if_neg fun h => hc (e.mpr h)]
  rw [att_congr hf (v' := fun m => v (keyAt s m)) fun _ _ => rfl]
  refine att_select (fS q ks (chosen s t) t) v (keyAt s) 1024 2048 (fun m hm => keyAt_lt s hm) ?_ ?_
  · intro a b ha hb h
    have h1 : a / 64 = b / 64 := by rw [← hr a ha, ← hr b hb, h]
    unfold keyAt at h
    rw [dif_pos (by omega), dif_pos (by omega)] at h
    omega
  · intro k hk hne
    unfold fS
    rw [if_neg]
    rintro ⟨⟨_, h1, h2⟩, _⟩
    obtain ⟨p, hp⟩ := order_surjective (fun j : Fin 32 => s j) ⟨k / 64, h1⟩
    have h3 : rank s (k / 64) = p := by
      rw [← rank_order s p, hp]
    refine hne (p.val * 64 + k % 64) (by omega) ?_
    unfold keyAt
    have h4 : (p.val * 64 + k % 64) / 64 = p.val := by omega
    rw [dif_pos (by omega)]
    have h5 : (⟨(p.val * 64 + k % 64) / 64, by omega⟩ : Fin 32) = p := Fin.ext h4
    rw [h5, hp]
    show k / 64 * 64 + _ = k
    omega

end Cert.Nsa
-- ==== Proof.RefG.lean ====
module

public import proofs.«01_k».proof.Proof.Gen.ReferenceIdeal.Run
public import Idealize.ShloMosaic.Lib.Pointwise
public import proofs.«01_k».proof.Proof.TopK
public import proofs.«01_k».proof.Proof.Masks

/-!
# What the reference's selection and its gather read

The sort's values and indices at a place, and the row a gather reads for an index in range.
-/

set_option maxRecDepth 16384

@[expose] public section

noncomputable section

namespace Cert.ReferenceIdeal.Val

open Idealize.ShloMosaic Idealize.ShloMosaic.TcCoe Idealize.ShloMosaic.WordCmp Cert.ReferenceIdeal Cert.ReferenceIdeal.Gen Cert.Nsa

/-- The gather of rows. -/
abbrev rowsD := gather_S4x2x2048x128_S4x2x2048x1024x1_S4x2x2048x1024x128_4_2_01_01_2_4_111128

/-- A gather whose index is the number of a row reads that row. -/
theorem gather_at {α : Type} (x : S4x2x2048x128.Idx → α) (idx : IVec S4x2x2048x1024x1 32) (b : Fin 4) (g : Fin 2) (t : Fin 2048) (m : Fin 1024) (d : Fin 128)
    (k : Fin 2048) (hk : idx (ix5 b g t m 0) = BitVec.ofNat 32 k.val) :
    Host.gather rowsD x idx (ix5 b g t m d) = x (ix4 b g k d) := by
  have hsi : ∀ c, rowsD.siIdx (ix5 b g t m d) c = ix5 b g t m 0 := by
    intro c
    funext a
    match a with
    | ⟨0, _⟩ => rfl
    | ⟨1, _⟩ => rfl
    | ⟨2, _⟩ => rfl
    | ⟨3, _⟩ => rfl
    | ⟨4, _⟩ => exact Subsingleton.elim (α := Fin 1) _ _
  unfold Host.gather
  congr 1
  funext a
  apply Fin.ext
  have hk' := k.isLt
  match a with
  | ⟨0, _⟩ =>
    show rowsD.start _ idx 0 + rowsD.batchCoord _ 0 + rowsD.offCoord _ 0 = b.val
    have h1 : rowsD.start (ix5 b g t m d) idx 0 = 0 := rfl
    have h2 : rowsD.batchCoord (ix5 b g t m d) 0 = b.val := rfl
    have h3 : rowsD.offCoord (ix5 b g t m d) 0 = 0 := rfl
    omega
  | ⟨1, _⟩ =>
    show rowsD.start _ idx 1 + rowsD.batchCoord _ 1 + rowsD.offCoord _ 1 = g.val
    have h1 : rowsD.start (ix5 b g t m d) idx 1 = 0 := rfl
    have h2 : rowsD.batchCoord (ix5 b g t m d) 1 = g.val := rfl
    have h3 : rowsD.offCoord (ix5 b g t m d) 1 = 0 := rfl
    omega
  | ⟨2, _⟩ =>
    show rowsD.start _ idx 2 + rowsD.batchCoord _ 2 + rowsD.offCoord _ 2 = k.val
    have h1 : rowsD.start (ix5 b g t m d) idx 2 = k.val := by
      show min (idx (rowsD.siIdx (ix5 b g t m d) _)).toInt.toNat (2048 - 1) = k.val
      rw [hsi, hk, toInt_ofNat_of_lt (by omega)]
      omega
    have h2 : rowsD.batchCoord (ix5 b g t m d) 2 = 0 := rfl
    have h3 : rowsD.offCoord (ix5 b g t m d) 2 = 0 := rfl
    omega
  | ⟨3, _⟩ =>
    show rowsD.start _ idx 3 + rowsD.batchCoord _ 3 + rowsD.offCoord _ 3 = d.val
    have h1 : rowsD.start (ix5 b g t m d) idx 3 = 0 := rfl
    have h2 : rowsD.batchCoord (ix5 b g t m d) 3 = 0 := rfl
    have h3 : rowsD.offCoord (ix5 b g t m d) 3 = d.val := rfl
    omega

section
variable (x : S4x2x2048x32.Idx → EReal) (h : S4x2x2048x32.Slices (fun _ => 0) S4x2x2048x16) (b : Fin 4) (g : Fin 2) (t : Fin 2048) (p : Fin 16)

/-- The block at place `p` of the row's order. -/
def place : Fin 32 := order (fun j : Fin 32 => x (ix4 b g t j)) ⟨p.val, by omega⟩

theorem along_at (i : S4x2x2048x32.Idx) (k : Fin 32) (j : Fin 32) (hi : i = ix4 b g t j) : i.along 3 k = ix4 b g t k := by
  subst hi
  funext a
  match a with
  | ⟨0, _⟩ => rfl
  | ⟨1, _⟩ => rfl
  | ⟨2, _⟩ => rfl
  | ⟨3, _⟩ => rfl

theorem sort_at (j : Fin 32) (hj : j.val < 16) (y : IVec S4x2x2048x32 32) :
    (Host.sort2 S4x2x2048x32 3 (fun l r => FloatOps.cmpfTotal (F := Ideal) (φ := .f32) .gt l.1 r.1) x y).1 (ix4 b g t j) = x (ix4 b g t (place x b g t ⟨j.val, hj⟩))
      ∧ (Host.sort2 S4x2x2048x32 3 (fun l r => FloatOps.cmpfTotal (F := Ideal) (φ := .f32) .gt l.1 r.1) x y).2 (ix4 b g t j) = y (ix4 b g t (place x b g t ⟨j.val, hj⟩)) := by
  have e : sortedFrom (fun k k' : Fin 32 => FloatOps.cmpfTotal (F := Ideal) (φ := .f32) .gt (x ((ix4 b g t j : S4x2x2048x32.Idx).along 3 k)) (x ((ix4 b g t j : S4x2x2048x32.Idx).along 3 k')) == 1#1) j
      = place x b g t ⟨j.val, hj⟩ := by
    unfold place order
    congr 1
    funext k k'
    rw [along_at b g t _ k j rfl, along_at b g t _ k' j rfl]
    rfl
  unfold Host.sort2
  rw [dif_pos (by decide)]
  constructor
  · refine Eq.trans ?_ (congrArg x (along_at b g t (ix4 b g t j) _ j rfl))
    rw [← e]
    rfl
  · refine Eq.trans ?_ (congrArg y (along_at b g t (ix4 b g t j) _ j rfl))
    rw [← e]
    rfl

theorem cut_at (p : Fin 16) {α : Type} (y : S4x2x2048x32.Idx → α) : extractStridedSlice S4x2x2048x16 (fun _ => 0) y h (ix4 b g t p) = y (ix4 b g t ⟨p.val, by omega⟩) := by
  unfold extractStridedSlice
  congr 1
  funext a
  apply Fin.ext
  match a with
  | ⟨0, _⟩ => exact Nat.zero_add _
  | ⟨1, _⟩ => exact Nat.zero_add _
  | ⟨2, _⟩ => exact Nat.zero_add _
  | ⟨3, _⟩ => exact Nat.zero_add _

/-- The value at place `p` of the top sixteen. -/
theorem topk_val : (Host.topK S4x2x2048x16 3 (FloatOps.cmpfTotal (F := Ideal) (φ := .f32) .gt) x h).1 (ix4 b g t p) = x (ix4 b g t (place x b g t p)) := by
  unfold Host.topK
  exact (cut_at h b g t p _).trans (sort_at x b g t ⟨p.val, by omega⟩ p.isLt
    (fun i => if hd : 3 < S4x2x2048x32.rank then iotaInDim S4x2x2048x32 32 ⟨3, hd⟩ i else 0#32)).1

/-- The index at place `p` of the top sixteen. -/
theorem topk_idx : (Host.topK S4x2x2048x16 3 (FloatOps.cmpfTotal (F := Ideal) (φ := .f32) .gt) x h).2 (ix4 b g t p) = BitVec.ofNat 32 (place x b g t p).val := by
  unfold Host.topK
  refine (cut_at h b g t p _).trans (((sort_at x b g t ⟨p.val, by omega⟩ p.isLt
    (fun i => if hd : 3 < S4x2x2048x32.rank then iotaInDim S4x2x2048x32 32 ⟨3, hd⟩ i else 0#32)).2).trans ?_)
  rw [dif_pos (by decide)]
  rfl
end

end Cert.ReferenceIdeal.Val
-- ==== Proof.RefK.lean ====
module

public import proofs.«01_k».proof.Proof.RefS
public import proofs.«01_k».proof.Proof.RefG
public import Idealize.ShloMosaic.Lib.Pointwise

/-!
# The reference's attention over the gathered keys

The sort's first sixteen blocks are the chosen ones, the gather reads their keys, and the attention over the gathered keys is the
attention over all keys with the others masked.
-/

set_option maxRecDepth 16384

@[expose] public section

noncomputable section

namespace Cert.ReferenceIdeal.Val

open Idealize.ShloMosaic Idealize.ShloMosaic.TcCoe Idealize.ShloMosaic.WordCmp Idealize.SL.Sem Cert.ReferenceIdeal Cert.ReferenceIdeal.Read Cert.Nsa
open Cert.KernelIdeal.Body (ninf_val sel_if rowS rowS_fin soft_row add_w' mul_w' sub_toInt forced_word)
open scoped Classical

section
variable (x0 : S8192x1024.Idx → EReal) (x1 : S4x4x128x128.Idx → EReal) (x2 : S8192x1024.Idx → EReal)

/-- The block at a place of the sort. -/
theorem place_eq (b : Fin 4) (g : Fin 2) (t : Fin 2048) (p : Fin 16) (h : p.val < 32) :
    place (val_main_v112 (F := Ideal) x0 x1 : S4x2x2048x32.Idx → EReal) b g t p = order (fun j : Fin 32 => scR x0 x1 b g t j.val) ⟨p.val, h⟩ := by
  unfold place
  have e : (fun j : Fin 32 => (val_main_v112 (F := Ideal) x0 x1 : S4x2x2048x32.Idx → EReal) (ix4 b g t j)) = fun j : Fin 32 => scR x0 x1 b g t j.val :=
    funext fun j => score_at x0 x1 b g t j
  rw [e]

/-- The number of the key at a place. -/
theorem kpos_at (b : Fin 4) (g : Fin 2) (t : Fin 2048) (j : Fin 1024) :
    (val_main_v123 (F := Ideal) x0 x1 : S4x2x2048x1024.Idx → BitVec 32) (ix4 b g t j) = BitVec.ofNat 32 (keyAt (scR x0 x1 b g t) j.val) := by
  pointwise [val_main_v123, val_main_v122, val_main_v121, val_main_v119, val_main_v118, val_main_v120, val_main_v117, val_main_v116, val_main_c_20, val_main_v115]
  unfold val_main_indices
  rw [topk_idx, mul_w', add_w', place_eq x0 x1 b g t _ (by show j.val / 64 < 32; omega)]
  unfold keyAt
  rw [dif_pos (by omega)]

theorem start_at (b : Fin 4) (g : Fin 2) (t : Fin 2048) (j : Fin 1024) :
    (val_main_v130 (F := Ideal) x0 x1 : S4x2x2048x1024x1.Idx → BitVec 32) (ix5 b g t j 0) = BitVec.ofNat 32 (keyAt (scR x0 x1 b g t) j.val) := by
  pointwise [val_main_v130, val_main_v129, val_main_v128, val_main_v127, val_main_c_22, val_main_v126, val_main_v125, val_main_c_21]
  rw [kpos_at, sel_if, if_neg]
  have h := keyAt_lt (scR x0 x1 b g t) j.isLt
  have hw : IntOp.cmpi .slt (BitVec.ofNat 32 (keyAt (scR x0 x1 b g t) j.val)) (BitVec.ofNat 32 0) = 1#1 ↔ keyAt (scR x0 x1 b g t) j.val < 0 := by word_cmp
  intro hc
  exact absurd (hw.mp hc) (by omega)

theorem start_at2 (b : Fin 4) (g : Fin 2) (t : Fin 2048) (j : Fin 1024) :
    (val_main_v138 (F := Ideal) x0 x1 : S4x2x2048x1024x1.Idx → BitVec 32) (ix5 b g t j 0) = BitVec.ofNat 32 (keyAt (scR x0 x1 b g t) j.val) := by
  pointwise [val_main_v138, val_main_v137, val_main_v136, val_main_v135, val_main_c_24, val_main_v134, val_main_v133, val_main_c_23]
  rw [kpos_at, sel_if, if_neg]
  have h := keyAt_lt (scR x0 x1 b g t) j.isLt
  have hw : IntOp.cmpi .slt (BitVec.ofNat 32 (keyAt (scR x0 x1 b g t) j.val)) (BitVec.ofNat 32 0) = 1#1 ↔ keyAt (scR x0 x1 b g t) j.val < 0 := by word_cmp
  intro hc
  exact absurd (hw.mp hc) (by omega)

/-- The mask of a gathered key. -/
theorem mask_at (b : Fin 4) (g : Fin 2) (t : Fin 2048) (j : Fin 1024) :
    (val_main_v147 (F := Ideal) x0 x1 : S4x2x2048x1024.Idx → BitVec 1) (ix4 b g t j) = 1#1
      ↔ ⊥ < scR x0 x1 b g t (keyAt (scR x0 x1 b g t) j.val / 64) ∧ keyAt (scR x0 x1 b g t) j.val ≤ t.val := by
  pointwise [val_main_v147, val_main_v146, val_main_v145, val_main_v144, val_main_v143, val_main_v22, val_main_v142, val_main_v141, val_main_v140, val_main_v114, val_main_v113, val_main_cst_19, ninf_val]
  unfold val_main_values
  rw [kpos_at, topk_val, score_at, place_eq x0 x1 b g t _ (by show j.val / 64 < 32; omega)]
  have h := keyAt_lt (scR x0 x1 b g t) j.isLt
  have ht := t.isLt
  have hw : IntOp.cmpi .sle (BitVec.ofNat 32 (keyAt (scR x0 x1 b g t) j.val)) (BitVec.ofNat 32 t.val) = 1#1 ↔ keyAt (scR x0 x1 b g t) j.val ≤ t.val := by word_cmp
  have ha : ∀ x y : BitVec 1, IntOp.andi x y = 1#1 ↔ x = 1#1 ∧ y = 1#1 := by decide
  rw [ha, hw, ofBool_eq_one_iff, decide_eq_true_eq, keyAt_div _ j.isLt]

/-- A gathered key. -/
theorem key_at (b : Fin 4) (g : Fin 2) (t : Fin 2048) (j : Fin 1024) (d : Fin 128) :
    (val_main_v131 (F := Ideal) x0 x1 x2 : S4x2x2048x1024x128.Idx → EReal) (ix5 b g t j d)
      = kvRows (kA x2) b g 4 (by omega) (keyAt (scR x0 x1 b g t) j.val) d := by
  unfold val_main_v131
  rw [gather_at _ _ b g t j d ⟨keyAt (scR x0 x1 b g t) j.val, keyAt_lt _ j.isLt⟩ (start_at x0 x1 b g t j)]
  pointwise [val_main_v124, val_main_v13, val_main_v12, val_main_v11, val_main_v10]
  exact k_at x2 b g 4 (by omega) ⟨keyAt (scR x0 x1 b g t) j.val, keyAt_lt _ j.isLt⟩ d 512 rfl _ _

/-- A gathered value. -/
theorem value_at (b : Fin 4) (g : Fin 2) (t : Fin 2048) (j : Fin 1024) (d : Fin 128) :
    (val_main_v139 (F := Ideal) x0 x1 x2 : S4x2x2048x1024x128.Idx → EReal) (ix5 b g t j d)
      = kvRows (kA x2) b g 6 (by omega) (keyAt (scR x0 x1 b g t) j.val) d := by
  unfold val_main_v139
  rw [gather_at _ _ b g t j d ⟨keyAt (scR x0 x1 b g t) j.val, keyAt_lt _ j.isLt⟩ (start_at2 x0 x1 b g t j)]
  pointwise [val_main_v132, val_main_v15, val_main_v14, val_main_v11, val_main_v10]
  exact k_at x2 b g 6 (by omega) ⟨keyAt (scR x0 x1 b g t) j.val, keyAt_lt _ j.isLt⟩ d 768 rfl _ _

/-- The mask of the gathered keys, for every head. -/
theorem m153 (b : Fin 4) (g : Fin 2) (r : Fin 4) (t : Fin 2048) (n : Fin 1024) :
    (val_main_v153 (F := Ideal) x0 x1 : S4x2x4x2048x1024.Idx → BitVec 1) (ix5 b g r t n) = (val_main_v147 (F := Ideal) x0 x1 : S4x2x2048x1024.Idx → BitVec 1) (ix4 b g t n) := by
  pointwise [val_main_v153, val_main_v152]

theorem m161 (b : Fin 4) (g : Fin 2) (r : Fin 4) (t : Fin 2048) (n : Fin 1024) :
    (val_main_v161 (F := Ideal) x0 x1 : S4x2x4x2048x1024.Idx → BitVec 1) (ix5 b g r t n) = (val_main_v147 (F := Ideal) x0 x1 : S4x2x2048x1024.Idx → BitVec 1) (ix4 b g t n) := by
  pointwise [val_main_v161, val_main_v152]

/-- The scaled scores of the gathered keys. -/
theorem s151 (b : Fin 4) (g : Fin 2) (r : Fin 4) (t : Fin 2048) (n : Fin 1024) :
    (val_main_v151 (F := Ideal) x0 x1 x2 : S4x2x4x2048x1024.Idx → EReal) (ix5 b g r t n) = sc (qH x0 b g t r) (kvRows (kA x2) b g 4 (by omega) (keyAt (scR x0 x1 b g t) n.val)) := by
  pointwise [val_main_v151, val_main_v150, val_main_v0, val_main_cst, val_main_v149, val_main_v148, val_main_v2, val_main_v1, scale_rs]
  unfold sc
  congr 1
  exact Finset.sum_congr rfl fun d _ => by rw [q_at x0, key_at, mul_comm]

/-- The masked scores of the gathered keys. -/
theorem s155 (b : Fin 4) (g : Fin 2) (r : Fin 4) (t : Fin 2048) (n : Fin 1024) :
    (val_main_v155 (F := Ideal) x0 x1 x2 : S4x2x4x2048x1024.Idx → EReal) (ix5 b g r t n)
      = Scalar.select ((val_main_v147 (F := Ideal) x0 x1 : S4x2x2048x1024.Idx → BitVec 1) (ix4 b g t n)) (sc (qH x0 b g t r) (kvRows (kA x2) b g 4 (by omega) (keyAt (scR x0 x1 b g t) n.val))) ⊥ := by
  pointwise [val_main_v155, val_main_v154, val_main_cst_25, ninf_val]
  rw [m153, s151]

/-- The largest masked score of the gathered keys. -/
theorem s156 (b : Fin 4) (g : Fin 2) (r : Fin 4) (t : Fin 2048) :
    (val_main_v156 (F := Ideal) x0 x1 x2 : S4x2x4x2048.Idx → EReal) (ix4 b g r t)
      = Finset.univ.fold max ⊥ fun n : Fin 1024 => Scalar.select ((val_main_v147 (F := Ideal) x0 x1 : S4x2x2048x1024.Idx → BitVec 1) (ix4 b g t n)) (sc (qH x0 b g t r) (kvRows (kA x2) b g 4 (by omega) (keyAt (scR x0 x1 b g t) n.val))) ⊥ := by
  pointwise [val_main_v156, val_main_cst_26, ninf_val]
  simp only [s155]

/-- The unnormalised weights of the gathered keys. -/
theorem s163 (b : Fin 4) (g : Fin 2) (r : Fin 4) (t : Fin 2048) (n : Fin 1024) :
    (val_main_v163 (F := Ideal) x0 x1 x2 : S4x2x4x2048x1024.Idx → EReal) (ix5 b g r t n)
      = Scalar.select ((val_main_v147 (F := Ideal) x0 x1 : S4x2x2048x1024.Idx → BitVec 1) (ix4 b g t n))
          (Ideal.exp ((val_main_v155 (F := Ideal) x0 x1 x2 : S4x2x4x2048x1024.Idx → EReal) (ix5 b g r t n) - (val_main_v156 (F := Ideal) x0 x1 x2 : S4x2x4x2048.Idx → EReal) (ix4 b g r t))) 0 := by
  have e2 : (val_main_v162 (F := Ideal) : S4x2x4x2048x1024.Idx → EReal) (ix5 b g r t n) = 0 := by
    pointwise [val_main_v162, val_main_cst_27]
  have e8 : (val_main_v158 (F := Ideal) x0 x1 x2 : S4x2x4x2048x1024.Idx → EReal) (ix5 b g r t n) = (val_main_v156 (F := Ideal) x0 x1 x2 : S4x2x4x2048.Idx → EReal) (ix4 b g r t) := by
    pointwise [val_main_v158, val_main_v157]
  rw [val_main_v163_apply, val_main_v160_apply, val_main_v159_apply, e2, e8, m161]
  rfl

/-- The reference's weights of the gathered keys. -/
theorem p_slc (b : Fin 4) (g : Fin 2) (r : Fin 4) (t : Fin 2048) (n : Fin 1024) :
    (val_main_v169 (F := Ideal) x0 x1 x2 : S4x2x4x2048x1024.Idx → EReal) (ix5 b g r t n)
      = P (fG (qH x0 b g t r) (kvRows (kA x2) b g 4 (by omega)) (scR x0 x1 b g t) t.val (keyAt (scR x0 x1 b g t))) 1024 n.val := by
  pointwise [val_main_v169, val_main_v168, val_main_v167, val_main_v166, val_main_cst_29, val_main_v165, val_main_v164, val_main_cst_28, eps_val]
  simp only [s163, s155, s156]
  refine (soft_row (n := 1024) (fun n => (val_main_v147 (F := Ideal) x0 x1 : S4x2x2048x1024.Idx → BitVec 1) (ix4 b g t n))
    (fun n => sc (qH x0 b g t r) (kvRows (kA x2) b g 4 (by omega) (keyAt (scR x0 x1 b g t) n.val))) n).trans ?_
  refine P_congr n.isLt fun k hk => ?_
  refine (rowS_fin _ _ ⟨k, hk⟩).trans ?_
  unfold fG
  exact ite_bot (mask_at x0 x1 b g t ⟨k, hk⟩) fun _ => rfl

/-- The reference's attention over the keys of the chosen blocks. -/
theorem o_slc (b : Fin 4) (g : Fin 2) (r : Fin 4) (t : Fin 2048) (d : Fin 128) :
    (val_main_v171 (F := Ideal) x0 x1 x2 : S4x2x4x2048x128.Idx → EReal) (ix5 b g r t d)
      = att (fS (qH x0 b g t r) (kvRows (kA x2) b g 4 (by omega)) (chosen (scR x0 x1 b g t) t.val) t.val) (fun n => kvRows (kA x2) b g 6 (by omega) n d) 2048 := by
  rw [← att_keyAt (qH x0 b g t r) (kvRows (kA x2) b g 4 (by omega)) (fun n => kvRows (kA x2) b g 6 (by omega) n d) (scR x0 x1 b g t) t.val (scR_pos x0 x1 b g t)]
  pointwise [val_main_v171, val_main_v170]
  unfold att
  rw [Finset.sum_range]
  exact Finset.sum_congr rfl fun n _ => by rw [p_slc, value_at, mul_comm]

end

end Cert.ReferenceIdeal.Val
-- ==== Proof.RefO.lean ====
module

public import proofs.«01_k».proof.Proof.RefK
public import Idealize.ShloMosaic.Lib.Pointwise

/-!
# The reference's result

Every entry of the reference's result is the entry of the common plain form.
-/

set_option maxRecDepth 16384

@[expose] public section

noncomputable section

namespace Cert.ReferenceIdeal.Val

open Idealize.ShloMosaic Idealize.ShloMosaic.TcCoe Idealize.ShloMosaic.WordCmp Idealize.SL.Sem Cert.ReferenceIdeal Cert.ReferenceIdeal.Read Cert.Nsa
open Cert.KernelIdeal.Body (ninf_val sel_if rowS rowS_fin soft_row add_w' mul_w' sub_toInt forced_word)
open scoped Classical

section
variable (x0 : S8192x1024.Idx → EReal) (x1 : S4x4x128x128.Idx → EReal) (x2 : S8192x1024.Idx → EReal) (x3 : S8192x512.Idx → EReal)
  (x4 : S8192x256.Idx → EReal) (x5 : S8192x4608.Idx → EReal)

/-- The result of the reference, by row and column. -/
theorem out_at (r : Fin 8192) (k : Fin 1024) :
    (val_main_v232 (F := Ideal) x0 x1 x2 x3 x4 x5 : S8192x1024.Idx → EReal) (ix2 r k)
      = resAt (qA x0) (cA x1) (kA x2) (wA x3) (fun r k => x4 (ix2 r k)) (fun r k => x5 (ix2 r k)) r k := by
  obtain ⟨b, t, rfl⟩ : ∃ b t, r = rowOf b t := ⟨⟨r.val / 2048, by omega⟩, ⟨r.val % 2048, by omega⟩, Fin.ext (by show r.val = 2048 * (r.val / 2048) + r.val % 2048; omega)⟩
  obtain ⟨g, h, d, rfl⟩ : ∃ g h d, k = colOf g h d := ⟨⟨k.val / 512, by omega⟩, ⟨k.val / 128 % 4, by omega⟩, ⟨k.val % 128, by omega⟩,
    Fin.ext (by show k.val = 512 * (k.val / 512) + (128 * (k.val / 128 % 4) + k.val % 128); omega)⟩
  rw [resAt_eq]
  have hr : (rowOf b t).val = 2048 * b.val + t.val := rfl
  have hk : (colOf g h d).val = 512 * g.val + (128 * h.val + d.val) := rfl
  pointwise [val_main_v232, val_main_v231, val_main_v230, val_main_call0_v5, val_main_call0_v3, val_main_call0_v1, val_main_call0_v0, val_main_v229, val_main_call0_v2, val_main_call0_cst, val_main_call0_v4, val_main_call0_cst_0, val_main_v228, val_main_v227, val_main_v226, val_main_v225, val_main_v224, val_main_v223, val_main_v222, val_main_v212, val_main_v211, val_main_v209, val_main_v207, val_main_v206, val_main_v205, val_main_v204, val_main_v208, val_main_cst_37, val_main_v210, val_main_cst_38, val_main_v221, val_main_v220, val_main_v219, val_main_v218, val_main_v217, val_main_v216, val_main_v215, val_main_v214, val_main_v213]
  have e1 : ∀ p, (⟨(rowOf b t).val / 2048, p⟩ : Fin 4) = b := fun p => Fin.ext (by show (rowOf b t).val / 2048 = b.val; omega)
  have e2 : ∀ p, (⟨(rowOf b t).val % 2048, p⟩ : Fin 2048) = t := fun p => Fin.ext (by show (rowOf b t).val % 2048 = t.val; omega)
  have e3 : ∀ p, (⟨(colOf g h d).val / 512, p⟩ : Fin 2) = g := fun p => Fin.ext (by show (colOf g h d).val / 512 = g.val; omega)
  have e4 : ∀ p, (⟨(colOf g h d).val / 128 % 4, p⟩ : Fin 4) = h := fun p => Fin.ext (by show (colOf g h d).val / 128 % 4 = h.val; omega)
  have e5 : ∀ p, (⟨(colOf g h d).val % 128, p⟩ : Fin 128) = d := fun p => Fin.ext (by show (colOf g h d).val % 128 = d.val; omega)
  have g0 : ∀ p, (⟨(colOf g h d).val / 512 * 128 + (colOf g h d).val / 128 % 4, p⟩ : Fin 256) = ⟨128 * g.val + h.val, by omega⟩ := fun p =>
    Fin.ext (by show (colOf g h d).val / 512 * 128 + (colOf g h d).val / 128 % 4 = 128 * g.val + h.val; omega)
  have g1 : ∀ p, (⟨(colOf g h d).val / 512 * 128 + (4 + (colOf g h d).val / 128 % 4), p⟩ : Fin 256) = ⟨128 * g.val + (4 + h.val), by omega⟩ := fun p =>
    Fin.ext (by show (colOf g h d).val / 512 * 128 + (4 + (colOf g h d).val / 128 % 4) = 128 * g.val + (4 + h.val); omega)
  have g2 : ∀ p, (⟨(colOf g h d).val / 512 * 128 + (8 + (colOf g h d).val / 128 % 4), p⟩ : Fin 256) = ⟨128 * g.val + (8 + h.val), by omega⟩ := fun p =>
    Fin.ext (by show (colOf g h d).val / 512 * 128 + (8 + (colOf g h d).val / 128 % 4) = 128 * g.val + (8 + h.val); omega)
  simp only [e1, e2, e3, e4, e5, g0, g1, g2, o_cmp, o_slc, o_win]
  rfl

end

end Cert.ReferenceIdeal.Val
-- ==== Proof.OutSpec.lean ====
module

public import Idealize.ShloMosaic.Lib.Pointwise

/-!
# The output projection of one row

The row is the attention's half and the convolution's half; its product with the weights is normalised by its root mean square, scaled, gated
and added to the layer's input.
-/

@[expose] public section

noncomputable section

namespace Cert.Out

open Idealize.ShloMosaic

/-- The product of a row of the two halves with the weights. -/
def mix (on cv : Fin 1024 → EReal) (w : Fin 2048 → Fin 2048 → EReal) (k : Fin 2048) : EReal :=
  (∑ j : Fin 1024, on j * w ⟨j.val, by omega⟩ k) + ∑ j : Fin 1024, cv j * w ⟨1024 + j.val, by omega⟩ k

/-- The factor of the root mean square of a row. -/
def rms (x : Fin 2048 → EReal) : EReal :=
  Ideal.rsqrt (Ideal.div (∑ k, x k * x k) (Ideal.ofBits .f32 0x45000000#32) + Ideal.ofBits .f32 0x358637BD#32)

/-- The entry of the result. -/
def entry (mx : Fin 2048 → EReal) (x gate g : EReal) (k : Fin 2048) : EReal := x + gate * (mx k * rms mx * g)

/-- The whole result, by row and column: `r` is query `r % 2048` of batch `r / 2048`. -/
def res (on cv : Fin 8192 → Fin 1024 → EReal) (x : Fin 4 → Fin 2048 → Fin 2048 → EReal) (gate : Fin 4 → Fin 2048 → EReal) (g : Fin 2048 → EReal)
    (w : Fin 2048 → Fin 2048 → EReal) (r : Fin 8192) (k : Fin 2048) : EReal :=
  entry (mix (on r) (cv r) w) (x ⟨r.val / 2048, by omega⟩ ⟨r.val % 2048, by omega⟩ k) (gate ⟨r.val / 2048, by omega⟩ k) (g k) k

end Cert.Out
-- ==== Proof.OutVal.lean ====
module

public import proofs.«01_k».proof.Proof.OutSpec
public import proofs.«01_k».proof.Proof.Gen.Kernel2Ideal.Value
public import Idealize.ShloMosaic.Lib.Pipeline.ValueKit
public import Idealize.ShloMosaic.Lib.Pointwise

@[expose] public section

set_option maxRecDepth 16384

noncomputable section

/-! # The output projection's result array, entry by entry -/

namespace Cert.Kernel2Ideal.Out

open Idealize.ShloMosaic Idealize.ShloMosaic.TcCoe Idealize.SL.Sem Cert.Kernel2Ideal Cert.Kernel2Ideal.Gen Cert.Out
open Idealize.ShloMosaic.Pipeline (Dat)

variable (m : (ℓ : Loc nD τ sig) → Buf (Elt Ideal) ℓ)

/-- The stored block, from the loaded ones. -/
theorem pay_at (v0 : Vec Ideal S256x1024 .bf16) (v1 : Vec Ideal S1024x2048 .bf16) (v4 : Vec Ideal S256x1024 .bf16) (v5 : Vec Ideal S1024x2048 .bf16) (v19 : Vec Ideal S1x2048 .f32)
    (v23 : Vec Ideal S256x2048 .f32) (v25 : Vec Ideal S1x1x2048 .f32) (a : Fin 256) (k : Fin 2048) :
    (k0_pay1 v0 v1 v4 v5 v19 v23 v25 : S256x2048.Idx → EReal) (ix2 a k)
      = entry (fun k => (∑ j : Fin 1024, (v0 : S256x1024.Idx → EReal) (ix2 a j) * (v1 : S1024x2048.Idx → EReal) (ix2 j k)) + ∑ j : Fin 1024, (v4 : S256x1024.Idx → EReal) (ix2 a j) * (v5 : S1024x2048.Idx → EReal) (ix2 j k))
          ((v23 : S256x2048.Idx → EReal) (ix2 a k)) ((v25 : S1x1x2048.Idx → EReal) (ix3 0 0 k)) ((v19 : S1x2048.Idx → EReal) (ix2 0 k)) k := by
  pointwise [k0_pay1]
  rfl

/-- The stored block, from what the loaded ones hold. -/
theorem pay_of (v0 : Vec Ideal S256x1024 .bf16) (v1 : Vec Ideal S1024x2048 .bf16) (v4 : Vec Ideal S256x1024 .bf16) (v5 : Vec Ideal S1024x2048 .bf16) (v19 : Vec Ideal S1x2048 .f32)
    (v23 : Vec Ideal S256x2048 .f32) (v25 : Vec Ideal S1x1x2048 .f32) (a : Fin 256) (k : Fin 2048) (on cv : Fin 1024 → EReal) (w : Fin 2048 → Fin 2048 → EReal) (x gt g : EReal)
    (h0 : ∀ j, (v0 : S256x1024.Idx → EReal) (ix2 a j) = on j) (h4 : ∀ j, (v4 : S256x1024.Idx → EReal) (ix2 a j) = cv j)
    (h1 : ∀ j k, (v1 : S1024x2048.Idx → EReal) (ix2 j k) = w ⟨j.val, by omega⟩ k) (h5 : ∀ j k, (v5 : S1024x2048.Idx → EReal) (ix2 j k) = w ⟨1024 + j.val, by omega⟩ k)
    (hx : (v23 : S256x2048.Idx → EReal) (ix2 a k) = x) (hg : (v25 : S1x1x2048.Idx → EReal) (ix3 0 0 k) = gt) (hn : (v19 : S1x2048.Idx → EReal) (ix2 0 k) = g) :
    (k0_pay1 v0 v1 v4 v5 v19 v23 v25 : S256x2048.Idx → EReal) (ix2 a k) = entry (mix on cv w) x gt g k := by
  rw [pay_at, hx, hg, hn]
  simp only [h0, h1, h4, h5]
  rfl

/-- The row of the arrays which row `a` of the block at a grid point is. -/
def row (t : Fin cfg0.N) (a : Fin 256) : Fin 8192 := ⟨256 * t.val + a.val, by have h : t.val < 32 := t.isLt; have := a.isLt; omega⟩

/-- The blocks the windows read. -/
theorem idx : ∀ t : Fin cfg0.N,
    win0_0.index t = ![t.val, 0] ∧ win0_1.index t = ![t.val, 0] ∧ win0_2.index t = ![0, 0] ∧ win0_3.index t = ![t.val, 0]
      ∧ win0_4.index t = ![t.val / 8, 0, 0] ∧ win0_5.index t = ![0, 0] ∧ win0_6.index t = ![t.val, 0] :=
  (by decide +kernel : ∀ t : Fin grid0.N, _)

/-- The argument arrays, by their coordinates. -/
def a0 (c : Dev nD) (r : Fin 8192) (k : Fin 1024) : EReal := (m ((c : Thread nD τ).loc main_arg0) : S8192x1024.Idx → EReal) (ix2 r k)
def a1 (c : Dev nD) (r : Fin 8192) (k : Fin 1024) : EReal := (m ((c : Thread nD τ).loc main_arg1) : S8192x1024.Idx → EReal) (ix2 r k)
def a2 (c : Dev nD) (b : Fin 4) (n k : Fin 2048) : EReal := (m ((c : Thread nD τ).loc main_arg2) : S4x2048x2048.Idx → EReal) (ix3 b n k)
def a3 (c : Dev nD) (b : Fin 4) (k : Fin 2048) : EReal := (m ((c : Thread nD τ).loc main_arg3) : S4x2048.Idx → EReal) (ix2 b k)
def a4 (c : Dev nD) (k : Fin 2048) : EReal := (m ((c : Thread nD τ).loc main_arg4) : S1x2048.Idx → EReal) (ix2 0 k)
def a5 (c : Dev nD) (j k : Fin 2048) : EReal := (m ((c : Thread nD τ).loc main_arg5) : S1x2048x2048.Idx → EReal) (ix3 0 j k)

/-- The weights, as the host casts them. -/
theorem v1_at (c : Dev nD) (j k : Fin 2048) : (V m c main_v1 : S2048x2048.Idx → EReal) (ix2 j k) = a5 m c j k := by
  simp only [V, hostOps0, List.flatten_cons, List.flatten_nil, List.append_nil, List.cons_append, List.nil_append, StableHlo.after_cons, StableHlo.after_nil]
  after_results_simp
  pointwise
  rfl

/-- The scale of the norm, as the host lays it out. -/
theorem v3_at (c : Dev nD) (k : Fin 2048) : (V m c main_v3 : S1x2048.Idx → EReal) (ix2 0 k) = a4 m c k := by
  simp only [V, hostOps0, List.flatten_cons, List.flatten_nil, List.append_nil, List.cons_append, List.nil_append, StableHlo.after_cons, StableHlo.after_nil]
  after_results_simp
  pointwise
  rfl

/-- The layer's input, as the host lays it out. -/
theorem v4_at (c : Dev nD) (r : Fin 8192) (k : Fin 2048) : (V m c main_v4 : S8192x2048.Idx → EReal) (ix2 r k) = a2 m c ⟨r.val / 2048, by omega⟩ ⟨r.val % 2048, by omega⟩ k := by
  simp only [V, hostOps0, List.flatten_cons, List.flatten_nil, List.append_nil, List.cons_append, List.nil_append, StableHlo.after_cons, StableHlo.after_nil]
  after_results_simp
  pointwise
  rfl

/-- The gate, as the host lays it out. -/
theorem v5_at (c : Dev nD) (b : Fin 4) (k : Fin 2048) : (V m c main_v5 : S4x1x2048.Idx → EReal) (ix3 b 0 k) = a3 m c b k := by
  simp only [V, hostOps0, List.flatten_cons, List.flatten_nil, List.append_nil, List.cons_append, List.nil_append, StableHlo.after_cons, StableHlo.after_nil]
  after_results_simp
  pointwise
  rfl

theorem in0 (c : Dev nD) (t : Fin cfg0.N) (a : Fin 256) (j : Fin 1024) : (iblk m c 0 t : S256x1024.Idx → EReal) (ix2 a j) = a0 m c (row t a) j := by
  obtain ⟨e, -⟩ := idx t
  unfold a0 row
  blk_point [iblk, V, e]

theorem in1 (c : Dev nD) (t : Fin cfg0.N) (a : Fin 256) (j : Fin 1024) : (iblk m c 1 t : S256x1024.Idx → EReal) (ix2 a j) = a1 m c (row t a) j := by
  obtain ⟨-, e, -⟩ := idx t
  unfold a1 row
  blk_point [iblk, V, e]

theorem in2 (c : Dev nD) (t : Fin cfg0.N) (j k : Fin 2048) : (iblk m c 2 t : S2048x2048.Idx → EReal) (ix2 j k) = a5 m c j k := by
  obtain ⟨-, -, e, -⟩ := idx t
  refine Eq.trans ?_ (v1_at m c j k)
  generalize hw : V m c main_v1 = w
  show V m c main_v1 _ = _
  rw [hw]
  congr 1
  blk_ext [e]

theorem in3 (c : Dev nD) (t : Fin cfg0.N) (a : Fin 256) (k : Fin 2048) : (iblk m c 3 t : S256x2048.Idx → EReal) (ix2 a k) = a2 m c ⟨(row t a).val / 2048, by have := (row t a).isLt; omega⟩ ⟨(row t a).val % 2048, by omega⟩ k := by
  obtain ⟨-, -, -, e, -⟩ := idx t
  refine Eq.trans ?_ (v4_at m c (row t a) k)
  unfold row
  generalize hw : V m c main_v4 = w
  show V m c main_v4 _ = _
  rw [hw]
  congr 1
  blk_ext [e]

theorem in4 (c : Dev nD) (t : Fin cfg0.N) (a : Fin 256) (k : Fin 2048) : (iblk m c 4 t : S1x1x2048.Idx → EReal) (ix3 0 0 k) = a3 m c ⟨(row t a).val / 2048, by have := (row t a).isLt; omega⟩ k := by
  obtain ⟨-, -, -, -, e, -⟩ := idx t
  have ht : t.val < 32 := t.isLt
  have hb : (⟨(row t a).val / 2048, by have := (row t a).isLt; omega⟩ : Fin 4) = ⟨t.val / 8, by omega⟩ := Fin.ext (by show (256 * t.val + a.val) / 2048 = t.val / 8; omega)
  rw [hb]
  refine Eq.trans ?_ (v5_at m c ⟨t.val / 8, by omega⟩ k)
  generalize hw : V m c main_v5 = w
  show V m c main_v5 _ = _
  rw [hw]
  congr 1
  blk_ext [e]

theorem in5 (c : Dev nD) (t : Fin cfg0.N) (k : Fin 2048) : (iblk m c 5 t : S1x2048.Idx → EReal) (ix2 0 k) = a4 m c k := by
  obtain ⟨-, -, -, -, -, e, -⟩ := idx t
  refine Eq.trans ?_ (v3_at m c k)
  generalize hw : V m c main_v3 = w
  show V m c main_v3 _ = _
  rw [hw]
  congr 1
  blk_ext [e]

/-- The result array of the kernel's program as a function of its argument arrays. -/
def resK (c : Dev nD) (r : Fin 8192) (k : Fin 2048) : EReal := res (a0 m c) (a1 m c) (a2 m c) (a3 m c) (a4 m c) (a5 m c) r k

/-- What the body leaves in the staging buffer of the result. -/
theorem outs_at (c : Dev nD) (t : Fin cfg0.N) (y : S256x2048.Idx) :
    (out0_6 (iblk m c 0 t) (iblk m c 1 t) (iblk m c 2 t) (iblk m c 3 t) (iblk m c 4 t) (iblk m c 5 t) : S256x2048.Idx → EReal) y = resK m c (row t (y 0)) (y 1) := by
  have hy : y = ix2 (y 0) (y 1) := by funext b; fin_cases b <;> rfl
  generalize y 0 = a at hy
  generalize y 1 = k at hy
  subst hy
  unfold out0_6
  rw [View.canon_cons_unit_lit _ _ _ (by intro b; fin_cases b <;> rfl)]
  exact pay_of _ _ _ _ _ _ _ a k (a0 m c (row t a)) (a1 m c (row t a)) (a5 m c) _ _ _
    (fun j => (congrFun (View.ld_unit_lit _ (iblk m c 0 t) (by intro b; fin_cases b <;> rfl)) _).trans (in0 m c t a j))
    (fun j => (congrFun (View.ld_unit_lit _ (iblk m c 1 t) (by intro b; fin_cases b <;> rfl)) _).trans (in1 m c t a j))
    (fun j k => (View.ld_unit_apply_of _ _ _ _ _ (ix2 (⟨j.val, by omega⟩ : Fin 2048) k) (by intro b; fin_cases b <;> simp [ix2])).trans (in2 m c t ⟨j.val, by omega⟩ k))
    (fun j k => (View.ld_unit_apply_of _ _ _ _ _ (ix2 (⟨1024 + j.val, by omega⟩ : Fin 2048) k) (by intro b; fin_cases b <;> simp [ix2])).trans (in2 m c t ⟨1024 + j.val, by omega⟩ k))
    ((congrFun (View.ld_unit_lit _ (iblk m c 3 t) (by intro b; fin_cases b <;> rfl)) _).trans (in3 m c t a k))
    ((congrFun (View.ld_unit_lit _ (iblk m c 4 t) (by intro b; fin_cases b <;> rfl)) _).trans (in4 m c t a k))
    ((congrFun (View.ld_unit_lit _ (iblk m c 5 t) (by intro b; fin_cases b <;> rfl)) _).trans (in5 m c t k))

/-- The kernel's result array, entry by entry. -/
theorem result_at (c : Dev nD) :
    ((dats m 0 c).arrAt 6 cfg0.N : S8192x2048.Idx → EReal) = fun y => resK m c (y 0) (y 1) := by
  refine (dats m 0 c).arrAt_eq_of_covers 6 (fun y : S8192x2048.Idx => resK m c (y 0) (y 1)) (by decide +kernel) fun t hf y => ?_
  rw [after0_6, outs_at m c t y]
  obtain ⟨-, -, -, -, -, -, e⟩ := idx t
  refine congrArg₂ (resK m c) (Fin.ext ?_) (Fin.ext ?_)
  · unfold row
    blk_simp [e]
    dsimp only
    omega
  · blk_simp [e]

end Cert.Kernel2Ideal.Out
-- ==== Proof.OutRef.lean ====
module

public import proofs.«01_k».proof.Proof.OutSpec
public import proofs.«01_k».proof.Proof.Gen.Reference2Ideal.Read
public import Idealize.ShloMosaic.Lib.Pointwise

@[expose] public section

set_option maxRecDepth 16384

noncomputable section

/-! # The output projection's reference, entry by entry -/

namespace Cert.Reference2Ideal.Out

open Idealize.ShloMosaic Idealize.ShloMosaic.TcCoe Idealize.SL.Sem Cert.Reference2Ideal Cert.Reference2Ideal.Read Cert.Out

variable (x0 x1 : S8192x1024.Idx → EReal) (x2 : S4x2048x2048.Idx → EReal) (x3 : S4x2048.Idx → EReal) (x4 : S1x2048.Idx → EReal) (x5 : S1x2048x2048.Idx → EReal)

/-- The two halves side by side. -/
theorem cat_at (b : Fin 4) (t j : Fin 2048) :
    (val_main_v4 (F := Ideal) x0 x1 : S4x2048x2048.Idx → EReal) (ix3 b t j)
      = if h : j.val < 1024 then x0 (ix2 ⟨b.val * 2048 + t.val, by omega⟩ ⟨j.val, h⟩) else x1 (ix2 ⟨b.val * 2048 + t.val, by omega⟩ ⟨j.val - 1024, by omega⟩) := by
  pointwise [val_main_v4, val_main_v3, val_main_v2, val_main_v1, val_main_v0]

/-- The reference's product with the weights. -/
theorem mix_at (b : Fin 4) (t k : Fin 2048) :
    (val_main_v6 (F := Ideal) x0 x1 x5 : S4x2048x2048.Idx → EReal) (ix3 b t k)
      = mix (fun j => x0 (ix2 ⟨b.val * 2048 + t.val, by omega⟩ j)) (fun j => x1 (ix2 ⟨b.val * 2048 + t.val, by omega⟩ j)) (fun j k => x5 (ix3 0 j k)) k := by
  pointwise [val_main_v6, val_main_v5]
  refine (Fin.sum_univ_add (a := 1024) (b := 1024) (fun x : Fin 2048 => (val_main_v4 (F := Ideal) x0 x1 : S4x2048x2048.Idx → EReal) (ix3 b t x) * x5 (ix3 0 x k))).trans ?_
  unfold mix
  congr 1
  · refine Finset.sum_congr rfl fun j _ => ?_
    rw [cat_at, dif_pos (show (Fin.castAdd 1024 j).val < 1024 from j.isLt)]
    rfl
  · refine Finset.sum_congr rfl fun j _ => ?_
    rw [cat_at, dif_neg (show ¬ (Fin.natAdd 1024 j).val < 1024 by show ¬ 1024 + j.val < 1024; omega)]
    congr 3
    apply Fin.ext
    show 1024 + j.val - 1024 = j.val
    omega

/-- The result of the reference. -/
theorem out_at (r : Fin 8192) (k : Fin 2048) :
    (val_main_v25 (F := Ideal) x0 x1 x2 x3 x4 x5 : S8192x2048.Idx → EReal) (ix2 r k)
      = res (fun r j => x0 (ix2 r j)) (fun r j => x1 (ix2 r j)) (fun b n k => x2 (ix3 b n k)) (fun b k => x3 (ix2 b k)) (fun k => x4 (ix2 0 k)) (fun j k => x5 (ix3 0 j k)) r k := by
  pointwise [val_main_v25, val_main_v24, val_main_v23, val_main_v20, val_main_v19, val_main_v18, val_main_v17, val_main_v16, val_main_v15, val_main_v14, val_main_v13, val_main_v12, val_main_cst_1, val_main_v11, val_main_v10, val_main_cst_0, val_main_v9, val_main_v8, val_main_cst, val_main_v7, val_main_v22, val_main_v21]
  have hm : ∀ k : Fin 2048, (val_main_v6 (F := Ideal) x0 x1 x5 : S4x2048x2048.Idx → EReal) (ix3 ⟨r.val / 2048, by omega⟩ ⟨r.val % 2048, by omega⟩ k)
      = mix (fun j => x0 (ix2 r j)) (fun j => x1 (ix2 r j)) (fun j k => x5 (ix3 0 j k)) k := fun k => by
    rw [mix_at]
    have hr : ∀ h, (⟨r.val / 2048 * 2048 + r.val % 2048, h⟩ : Fin 8192) = r := fun h => Fin.ext (by show r.val / 2048 * 2048 + r.val % 2048 = r.val; omega)
    simp only [hr]
  simp only [hm]
  rfl

end Cert.Reference2Ideal.Out
-- ==== Proof.ProjBody.lean ====
module

public import proofs.«01_k».proof.Proof.Gen.Kernel3Ideal.Frame
public import proofs.«01_k».proof.Proof.Gen.Kernel3Ideal.Skeleton
public import Idealize.ShloMosaic.Lib.Pipeline.ValueKit

@[expose] public section

set_option maxRecDepth 16384

noncomputable section

/-! # One step of the input projection's kernel

The grid walks 16 blocks of 512 rows and, for each, 13 blocks of 512 columns of the weights. At a row block's first
step the kernel normalizes and modulates the rows into a scratch buffer; at every step it multiplies the scratch by the
step's columns and stores the product into the one result (queries, keys and values, or the rest) those columns belong to. -/

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

/-- What can be said of the machine while the kernel runs. -/
abbrev Says (F : FTy → Type) := sProp (MT nD τ sig Unit (Elt F) ℕ (UR sig nD τ) ℕ)

/-- Which of the five guarded parts of the body run at a point: `a` first column block, `b` the queries' columns,
    `k` the keys' and values', `r` the rest's, `z` the last column block. -/
structure Mode (i : grid0.Coords) (a b k r z : Prop) : Prop where
  first : (k0_cond1 i = 1#1) = a
  query : (k0_cond2 i = 1#1) = b
  keys : (k0_cond3 i = 1#1) = k
  rest : (k0_cond4 i = 1#1) = r
  last : (k0_cond5 i = 1#1) = z

/-- At every point the parts that run are those of one of five kinds of step. -/
theorem modes (i : grid0.Coords) : Mode i True True False False False ∨ Mode i False True False False False
    ∨ Mode i False False True False False ∨ Mode i False False False True False ∨ Mode i False False False True True := by
  have h : ∀ j : Fin 13, ∀ i : grid0.Coords, i 1 = j →
      ((k0_cond1 i = 1#1 ∧ k0_cond2 i = 1#1 ∧ ¬ k0_cond3 i = 1#1 ∧ ¬ k0_cond4 i = 1#1 ∧ ¬ k0_cond5 i = 1#1)
      ∨ (¬ k0_cond1 i = 1#1 ∧ k0_cond2 i = 1#1 ∧ ¬ k0_cond3 i = 1#1 ∧ ¬ k0_cond4 i = 1#1 ∧ ¬ k0_cond5 i = 1#1)
      ∨ (¬ k0_cond1 i = 1#1 ∧ ¬ k0_cond2 i = 1#1 ∧ k0_cond3 i = 1#1 ∧ ¬ k0_cond4 i = 1#1 ∧ ¬ k0_cond5 i = 1#1)
      ∨ (¬ k0_cond1 i = 1#1 ∧ ¬ k0_cond2 i = 1#1 ∧ ¬ k0_cond3 i = 1#1 ∧ k0_cond4 i = 1#1 ∧ ¬ k0_cond5 i = 1#1)
      ∨ (¬ k0_cond1 i = 1#1 ∧ ¬ k0_cond2 i = 1#1 ∧ ¬ k0_cond3 i = 1#1 ∧ k0_cond4 i = 1#1 ∧ k0_cond5 i = 1#1)) := by
    intro j i hj
    unfold k0_cond1 k0_cond2 k0_cond3 k0_cond4 k0_cond5
    rw [hj]; clear hj; revert j
    decide
  rcases h (i 1) i rfl with ⟨a, b, k, r, z⟩ | ⟨a, b, k, r, z⟩ | ⟨a, b, k, r, z⟩ | ⟨a, b, k, r, z⟩ | ⟨a, b, k, r, z⟩
  · exact .inl ⟨eq_true a, eq_true b, eq_false k, eq_false r, eq_false z⟩
  · exact .inr (.inl ⟨eq_false a, eq_true b, eq_false k, eq_false r, eq_false z⟩)
  · exact .inr (.inr (.inl ⟨eq_false a, eq_false b, eq_true k, eq_false r, eq_false z⟩))
  · exact .inr (.inr (.inr (.inl ⟨eq_false a, eq_false b, eq_false k, eq_true r, eq_false z⟩)))
  · exact .inr (.inr (.inr (.inr ⟨eq_false a, eq_false b, eq_false k, eq_true r, eq_true z⟩)))

/-- The scratch buffer once the first guarded part has or has not run. -/
def rows (i : grid0.Coords) (x0 : Vec F S512x2048 .f32) (x1 : Vec F S1x2048 .f32) (x2 x3 : Vec F S1x1x2048 .f32) (h : Vec F S512x2048 .bf16) :
    Vec F S512x2048 .bf16 := if k0_cond1 i = 1#1 then k0_pay2 x0 x1 x2 x3 else h

/-- A store over all of a buffer leaves what it stored. -/
theorem stored {S : Shape} {e : EltTy} {κ : Kind} {sp : Space} (v : View sig κ sp S e) (f : v.ty.Contents (Elt F)) {off : Fin S.rank → Nat}
    (inb : ∀ a, off a + S.size a ≤ S.size a) (w : S.Idx → Elt F e) (h : ∀ a, off a = 0) :
    v.read (Elt F) (v.writes (Elt F) f [⟨Rect.unit off S.size inb, w⟩]) = w := by
  rw [View.read_writes_eq_canon _ _ _ (fun y => ⟨_, List.mem_cons_self, ?_⟩), View.canon_cons_unit_lit inb w [] h]
  have : off = fun _ => 0 := funext h
  subst this
  exact (Rect.set_whole S).symm ▸ Finset.mem_univ y

/-- A load of all of a buffer reads what it holds. -/
theorem loaded {S : Shape} {e : EltTy} {κ : Kind} {sp : Space} (v : View sig κ sp S e) (f : v.ty.Contents (Elt F)) {off : Fin S.rank → Nat}
    (inb : ∀ a, off a + S.size a ≤ S.size a) (h : ∀ a, off a = 0) :
    v.readAt (Elt F) (Rect.unit off S.size inb).toLoadRect f = v.read (Elt F) f :=
  (View.readAt_eq_ld v f _).trans (View.ld_unit_lit inb _ h)

/-- An offset of zeros, in two coordinates and in three. -/
theorem zero2 : ∀ a : Fin 2, (![0, 0] : Fin 2 → Nat) a = 0 := by decide
theorem zero3 : ∀ a : Fin 3, (![0, 0, 0] : Fin 3 → Nat) a = 0 := by decide

/-- The rows prepared from loads of the whole buffers are those prepared from the buffers. -/
theorem prepared {κ : Kind} {sp : Space} (v2 : View sig κ sp S512x2048 .f32) (v3 : View sig κ sp S1x2048 .f32) (v4 v5 : View sig κ sp S1x1x2048 .f32)
    (f2 : v2.ty.Contents (Elt F)) (f3 : v3.ty.Contents (Elt F)) (f4 : v4.ty.Contents (Elt F)) (f5 : v5.ty.Contents (Elt F)) :
    k0_pay2 (v2.readAt (Elt F) (Rect.unit (s := S512x2048) ![0, 0] S512x2048.size inb_S512x2048_S512x2048_0_0).toLoadRect f2)
      (v3.readAt (Elt F) (Rect.unit (s := S1x2048) ![0, 0] S1x2048.size inb_S1x2048_S1x2048_0_0).toLoadRect f3)
      (v4.readAt (Elt F) (Rect.unit (s := S1x1x2048) ![0, 0, 0] S1x1x2048.size inb_S1x1x2048_S1x1x2048_0_0_0).toLoadRect f4)
      (v5.readAt (Elt F) (Rect.unit (s := S1x1x2048) ![0, 0, 0] S1x1x2048.size inb_S1x1x2048_S1x1x2048_0_0_0).toLoadRect f5)
      = k0_pay2 (v2.read (Elt F) f2) (v3.read (Elt F) f3) (v4.read (Elt F) f4) (v5.read (Elt F) f5) := by
  rw [loaded v2 f2 _ zero2, loaded v3 f3 _ zero2, loaded v4 f4 _ zero3, loaded v5 f5 _ zero3]

/-- The same of the gates. -/
theorem gated {κ : Kind} {sp : Space} (v2 : View sig κ sp S512x2048 .f32) (v3 : View sig κ sp S1x2048 .f32) (v4 v5 : View sig κ sp S1x1x2048 .f32) (v7 : View sig κ sp S2048x256 .bf16)
    (f2 : v2.ty.Contents (Elt F)) (f3 : v3.ty.Contents (Elt F)) (f4 : v4.ty.Contents (Elt F)) (f5 : v5.ty.Contents (Elt F)) (f7 : v7.ty.Contents (Elt F)) :
    k0_pay3 (v2.readAt (Elt F) (Rect.unit (s := S512x2048) ![0, 0] S512x2048.size inb_S512x2048_S512x2048_0_0).toLoadRect f2)
      (v3.readAt (Elt F) (Rect.unit (s := S1x2048) ![0, 0] S1x2048.size inb_S1x2048_S1x2048_0_0).toLoadRect f3)
      (v4.readAt (Elt F) (Rect.unit (s := S1x1x2048) ![0, 0, 0] S1x1x2048.size inb_S1x1x2048_S1x1x2048_0_0_0).toLoadRect f4)
      (v5.readAt (Elt F) (Rect.unit (s := S1x1x2048) ![0, 0, 0] S1x1x2048.size inb_S1x1x2048_S1x1x2048_0_0_0).toLoadRect f5)
      (v7.readAt (Elt F) (Rect.unit (s := S2048x256) ![0, 0] S2048x256.size inb_S2048x256_S2048x256_0_0).toLoadRect f7)
      = k0_pay3 (v2.read (Elt F) f2) (v3.read (Elt F) f3) (v4.read (Elt F) f4) (v5.read (Elt F) f5) (v7.read (Elt F) f7) := by
  rw [loaded v2 f2 _ zero2, loaded v3 f3 _ zero2, loaded v4 f4 _ zero3, loaded v5 f5 _ zero3, loaded v7 f7 _ zero2]

set_option maxHeartbeats 4000000 in
/-- The kernel's body on whole buffers: the inputs stay, the scratch holds the prepared rows, and each result's buffer holds
    the product of the prepared rows and the step's columns if the step is one of its own, else what it held. -/
theorem step (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole)
    (arg6 : Memref sig .tc .vmem S2048x512 .bf16) (harg6 : arg6.IsWhole) (arg7 : Memref sig .tc .vmem S2048x256 .bf16) (harg7 : arg7.IsWhole)
    (arg8 : Memref sig .tc .vmem S512x512 .bf16) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .f32) (harg11 : arg11.IsWhole)
    (arg12 : Memref sig .tc .vmem S512x512 .bf16) (harg12 : arg12.IsWhole) (arg13 : Memref sig .tc .vmem S512x256 .f32) (harg13 : arg13.IsWhole) (arg14 : Memref sig .tc .vmem S512x2048 .bf16) (harg14 : arg14.IsWhole)
    (x0 : Vec F S512x2048 .f32) (x1 : Vec F S1x2048 .f32) (x2 x3 : Vec F S1x1x2048 .f32) (x4 : Vec F S2048x512 .bf16) (x5 : Vec F S2048x256 .bf16)
    (y6 : Vec F S512x512 .bf16) (y7 : Vec F S512x512 .f32) (y8 : Vec F S512x512 .bf16) (y9 : Vec F S512x512 .f32) (y10 : Vec F S512x512 .bf16) (y11 : Vec F S512x256 .f32) (h : Vec F S512x2048 .bf16) (K : PUnit → Says F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11
        ∗ owns (c : Thread nD τ) arg14 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
          ∗ owns (c : Thread nD τ) arg8 fullShare (if k0_cond2 i = 1#1 then k0_pay5 (rows i x0 x1 x2 x3 h) x4 else y6)
          ∗ owns (c : Thread nD τ) arg9 fullShare (if k0_cond3 i = 1#1 then k0_pay4 (rows i x0 x1 x2 x3 h) x4 else y7)
          ∗ owns (c : Thread nD τ) arg10 fullShare (if k0_cond3 i = 1#1 then k0_pay6 (rows i x0 x1 x2 x3 h) x4 else y8)
          ∗ owns (c : Thread nD τ) arg11 fullShare (if k0_cond4 i = 1#1 then k0_pay4 (rows i x0 x1 x2 x3 h) x4 else y9)
          ∗ owns (c : Thread nD τ) arg12 fullShare (if k0_cond5 i = 1#1 then k0_pay7 (rows i x0 x1 x2 x3 h) x4 else y10)
          ∗ owns (c : Thread nD τ) arg13 fullShare (if k0_cond1 i = 1#1 then k0_pay3 x0 x1 x2 x3 x5 else y11)
          ∗ owns (c : Thread nD τ) arg14 fullShare (rows i x0 x1 x2 x3 h)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
  simp only [cc0_inproj_eq_skeleton]; unfold cc0_inproj_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  subst e2 e3 e4 e5 e6 e7 e8 e9 e10 e11 e12 e13 e14
  rcases modes i with ⟨g1, g2, g3, g4, g5⟩ | ⟨g1, g2, g3, g4, g5⟩ | ⟨g1, g2, g3, g4, g5⟩ | ⟨g1, g2, g3, g4, g5⟩ | ⟨g1, g2, g3, g4, g5⟩
  all_goals
    unfold rows
    simp only [g1, g2, g3, g4, g5, if_true, if_false, ite_true, ite_false]
    simp only [eq_true_eq_id, id_eq, eq_iff_iff, iff_true, iff_false] at g1 g2 g3 g4 g5
    sl_exec
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]
    · iexists _; isplitr
      swap; · iexact H8
      ipureintro
      first
      | rfl
      | exact (stored _ _ _ _ zero2).trans (congrArg₂ _ (loaded _ _ _ zero2) (loaded _ _ _ zero2))
      | exact (stored _ _ _ _ zero2).trans (congrArg₂ _ ((View.readCov_unit_lit _ _ _ zero2).trans (prepared _ _ _ _ _ _ _ _)) (loaded _ _ _ zero2))
    isplitl [H9]
    · iexists _; isplitr
      swap; · iexact H9
      ipureintro
      first
      | rfl
      | exact (stored _ _ _ _ zero2).trans (congrArg₂ _ (loaded _ _ _ zero2) (loaded _ _ _ zero2))
      | exact (stored _ _ _ _ zero2).trans (congrArg₂ _ ((View.readCov_unit_lit _ _ _ zero2).trans (prepared _ _ _ _ _ _ _ _)) (loaded _ _ _ zero2))
    isplitl [H10]
    · iexists _; isplitr
      swap; · iexact H10
      ipureintro
      first
      | rfl
      | exact (stored _ _ _ _ zero2).trans (congrArg₂ _ (loaded _ _ _ zero2) (loaded _ _ _ zero2))
      | exact (stored _ _ _ _ zero2).trans (congrArg₂ _ ((View.readCov_unit_lit _ _ _ zero2).trans (prepared _ _ _ _ _ _ _ _)) (loaded _ _ _ zero2))
    isplitl [H11]
    · iexists _; isplitr
      swap; · iexact H11
      ipureintro
      first
      | rfl
      | exact (stored _ _ _ _ zero2).trans (congrArg₂ _ (loaded _ _ _ zero2) (loaded _ _ _ zero2))
      | exact (stored _ _ _ _ zero2).trans (congrArg₂ _ ((View.readCov_unit_lit _ _ _ zero2).trans (prepared _ _ _ _ _ _ _ _)) (loaded _ _ _ zero2))
    isplitl [H12]
    · iexists _; isplitr
      swap; · iexact H12
      ipureintro
      first
      | rfl
      | exact (stored _ _ _ _ zero2).trans (congrArg₂ _ (loaded _ _ _ zero2) (loaded _ _ _ zero2))
      | exact (stored _ _ _ _ zero2).trans (congrArg₂ _ ((View.readCov_unit_lit _ _ _ zero2).trans (prepared _ _ _ _ _ _ _ _)) (loaded _ _ _ zero2))
    isplitl [H13]
    · iexists _; isplitr
      swap; · iexact H13
      ipureintro
      first
      | rfl
      | exact (stored _ _ _ _ zero2).trans (gated _ _ _ _ _ _ _ _ _ _)
    iexists _; isplitr
    swap; · iexact H14
    ipureintro
    first
    | rfl
    | exact (stored _ _ _ _ zero2).trans (prepared _ _ _ _ _ _ _ _)

end Cert.Kernel3Ideal.Proj

end
-- ==== Proof.ProjRun.lean ====
module

public import proofs.«01_k».proof.Proof.ProjBody

@[expose] public section

set_option maxRecDepth 16384

noncomputable section

/-! # The input projection's launch

What the scratch buffer and the six results' buffers hold after each step, and from it the whole run: a result's
buffer keeps its last block while the steps belong to other results, and is written out once more at the end of the rows. -/

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

variable (m : (ℓ : Loc nD τ sig) → Buf (Elt F) ℓ) (ρ : Dev nD → PrngReg)

/-- The step before a step. -/
def pre (t : Fin cfg0.N) : Fin cfg0.N := ⟨t.val - 1, Nat.lt_of_le_of_lt (Nat.sub_le _ _) t.isLt⟩

/-- The last step of the same rows whose column block is at most `n`, at a step past it; else the step itself. -/
def stay (n : ℕ) (t : Fin cfg0.N) : Fin cfg0.N :=
  ⟨13 * (t.val / 13) + min (t.val % 13) n, Nat.lt_of_le_of_lt (by omega) t.isLt⟩

theorem stay_self {n : ℕ} {t : Fin cfg0.N} (h : t.val % 13 ≤ n) : stay n t = t := by
  apply Fin.ext; unfold stay; dsimp only; omega

theorem stay_pre {n : ℕ} {t : Fin cfg0.N} (h : n < t.val % 13) : stay n (pre t) = stay n t := by
  apply Fin.ext; unfold stay pre; dsimp only; omega

/-- The prepared rows of the row block a step works on. -/
def prep (c : Dev nD) (t : Fin cfg0.N) : Vec F S512x2048 .bf16 :=
  k0_pay2 (iblk m c 0 t) (iblk m c 1 t) (iblk m c 2 t) (iblk m c 3 t)

/-- What each step leaves in every buffer, and that the scratch holds the prepared rows of the step just run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay5 (prep m c (stay 1 t)) (iblk m c 4 (stay 1 t))
    | ⟨7, _⟩ => k0_pay4 (prep m c (stay 3 t)) (iblk m c 4 (stay 3 t))
    | ⟨8, _⟩ => k0_pay6 (prep m c (stay 3 t)) (iblk m c 4 (stay 3 t))
    | ⟨9, _⟩ => k0_pay4 (prep m c t) (iblk m c 4 t)
    | ⟨10, _⟩ => k0_pay7 (prep m c t) (iblk m c 4 t)
    | ⟨11, _⟩ => k0_pay3 (iblk m c 0 (stay 0 t)) (iblk m c 1 (stay 0 t)) (iblk m c 2 (stay 0 t)) (iblk m c 3 (stay 0 t)) (iblk m c 5 (stay 0 t))
  Φ t := iprop((∃ h, ⌜∀ s : Fin cfg0.N, s.val + 1 = t.val → h = prep m c s⌝ ∗ owns (c : Thread nD τ) (Memref.whole cc0_scratch0) fullShare h) ∗ ∃ r, prngReg c r)
  q _ := fullShare
  owed _ := 0

theorem A_eq (c : Dev nD) (w : Fin cfg0.W) : (dats m 0 c).A w = V m c (Pipeline.arrRef spec0 w) := by
  dsimp only [dats]

/-! ## What the buffers hold after a step -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay5 (prep m c (stay 1 t)) (iblk m c 4 (stay 1 t)) := by dsimp only [dats]
theorem after0_7 (c : Dev nD) (t : Fin cfg0.N) : (dats m 0 c).after 7 t = k0_pay4 (prep m c (stay 3 t)) (iblk m c 4 (stay 3 t)) := by dsimp only [dats]
theorem after0_8 (c : Dev nD) (t : Fin cfg0.N) : (dats m 0 c).after 8 t = k0_pay6 (prep m c (stay 3 t)) (iblk m c 4 (stay 3 t)) := by dsimp only [dats]
theorem after0_9 (c : Dev nD) (t : Fin cfg0.N) : (dats m 0 c).after 9 t = k0_pay4 (prep m c t) (iblk m c 4 t) := by dsimp only [dats]
theorem after0_10 (c : Dev nD) (t : Fin cfg0.N) : (dats m 0 c).after 10 t = k0_pay7 (prep m c t) (iblk m c 4 t) := by dsimp only [dats]
theorem after0_11 (c : Dev nD) (t : Fin cfg0.N) : (dats m 0 c).after 11 t = k0_pay3 (iblk m c 0 (stay 0 t)) (iblk m c 1 (stay 0 t)) (iblk m c 2 (stay 0 t)) (iblk m c 3 (stay 0 t)) (iblk m c 5 (stay 0 t)) := by dsimp only [dats]

/-! ## The schedule -/

/-- Which steps run which guarded part. -/
theorem sched : ∀ t : Fin grid0.N, (k0_cond1 (grid0.coords t) = 1#1 ↔ t.val % 13 = 0) ∧ (k0_cond2 (grid0.coords t) = 1#1 ↔ t.val % 13 ≤ 1)
    ∧ (k0_cond3 (grid0.coords t) = 1#1 ↔ 2 ≤ t.val % 13 ∧ t.val % 13 ≤ 3) ∧ (k0_cond4 (grid0.coords t) = 1#1 ↔ 4 ≤ t.val % 13)
    ∧ (k0_cond5 (grid0.coords t) = 1#1 ↔ t.val % 13 = 12) := by decide +kernel

/-- When the results' buffers are written out. -/
theorem flush6 : ∀ t : Fin grid0.N, win0_6.flush t = true ↔ t.val % 13 = 0 ∨ t.val % 13 = 12 := by decide +kernel
theorem flush7 : ∀ t : Fin grid0.N, win0_7.flush t = true ↔ t.val % 13 = 2 ∨ t.val % 13 = 12 := by decide +kernel
theorem flush8 : ∀ t : Fin grid0.N, win0_8.flush t = true ↔ t.val % 13 = 2 ∨ t.val % 13 = 12 := by decide +kernel
theorem flush9 : ∀ t : Fin grid0.N, win0_9.flush t = true ↔ 4 ≤ t.val % 13 := by decide +kernel

/-- The rows and the modulation's vectors are the same at a step and the step before, within a row block. -/
theorem index_pre : ∀ t : Fin grid0.N, t.val % 13 ≠ 0 →
    win0_0.index t = win0_0.index ⟨t.val - 1, Nat.lt_of_le_of_lt (Nat.sub_le _ _) t.isLt⟩ ∧ win0_1.index t = win0_1.index ⟨t.val - 1, Nat.lt_of_le_of_lt (Nat.sub_le _ _) t.isLt⟩
    ∧ win0_2.index t = win0_2.index ⟨t.val - 1, Nat.lt_of_le_of_lt (Nat.sub_le _ _) t.isLt⟩ ∧ win0_3.index t = win0_3.index ⟨t.val - 1, Nat.lt_of_le_of_lt (Nat.sub_le _ _) t.isLt⟩ := by decide +kernel

theorem prep_pre (c : Dev nD) (t : Fin cfg0.N) (h : t.val % 13 ≠ 0) : prep m c (pre t) = prep m c t := by
  obtain ⟨h0, h1, h2, h3⟩ := index_pre t h
  have e0 : iblk m c 0 (pre t) = iblk m c 0 t := by
    have := (dats m 0 c).fetched_congr 0 (t := t) (t' := pre t) h0 rfl (iblk m c 0 t)
    exact this.symm
  have e1 : iblk m c 1 (pre t) = iblk m c 1 t := by
    have := (dats m 0 c).fetched_congr 1 (t := t) (t' := pre t) h1 rfl (iblk m c 1 t)
    exact this.symm
  have e2 : iblk m c 2 (pre t) = iblk m c 2 t := by
    have := (dats m 0 c).fetched_congr 2 (t := t) (t' := pre t) h2 rfl (iblk m c 2 t)
    exact this.symm
  have e3 : iblk m c 3 (pre t) = iblk m c 3 t := by
    have := (dats m 0 c).fetched_congr 3 (t := t) (t' := pre t) h3 rfl (iblk m c 3 t)
    exact this.symm
  unfold prep; rw [e0, e1, e2, e3]

/-- What the scratch holds after a step: the rows it prepared, or the ones it found. -/
theorem rows_eq (c : Dev nD) (t : Fin cfg0.N) (h : Vec F S512x2048 .bf16) (hh : ∀ s : Fin cfg0.N, s.val + 1 = t.val → h = prep m c s) :
    rows (grid0.coords t) (iblk m c 0 t) (iblk m c 1 t) (iblk m c 2 t) (iblk m c 3 t) h = prep m c t := by
  unfold rows
  by_cases h0 : t.val % 13 = 0
  · rw [if_pos ((sched t).1.2 h0)]; rfl
  · rw [if_neg fun e => h0 ((sched t).1.1 e), hh (pre t) (by unfold pre; dsimp only; omega), prep_pre m c t h0]

/-! ## Blocks that stay -/

/-- A result whose last column block is the `n`-th keeps that block in its buffer up to the end of the rows. -/
theorem held {c : Dev nD} (dat : Dat τ (Elt F) Unit ℕ (UR sig nD τ) ℕ cfg0 c) (w : Fin cfg0.W) (n : ℕ)
    (hfetch : ∀ t, (cfg0.win w).fetch t = false) (hkept : ∀ t d, dat.kept w t d = dat.after w t)
    (hidle : ∀ t : Fin cfg0.N, n < t.val % 13 → cfg0.idle w (cfg0.grid.coords t) = true)
    (hlive : ∀ t : Fin cfg0.N, t.val % 13 = n → cfg0.idle w (cfg0.grid.coords t) = false)
    (hflush : ∀ t : Fin cfg0.N, n ≤ t.val % 13 → t.val % 13 < 12 → (cfg0.win w).flush t = false)
    (hafter : ∀ t : Fin cfg0.N, n < t.val % 13 → dat.after w (pre t) = dat.after w t) :
    ∀ (k : ℕ) (t : Fin cfg0.N), t.val = k → n < t.val % 13 → ∀ d, dat.before w t d = dat.after w t := by
  intro k
  induction k with
  | zero => intro t ht hn; omega
  | succ k ih =>
    intro t ht hn d
    have hp : (pre t).val = k := by unfold pre; dsimp only; omega
    rw [dat.before_of_pos w t (by omega) (hfetch t) d, show (⟨t.val - 1, Nat.lt_of_le_of_lt (Nat.sub_le _ _) t.isLt⟩ : Fin cfg0.N) = pre t from rfl,
      hflush (pre t) (by omega) (by omega), if_neg Bool.false_ne_true, ← hafter t hn]
    unfold Dat.left
    by_cases h : (pre t).val % 13 = n
    · rw [hlive (pre t) h]; exact hkept _ _
    · rw [hidle (pre t) (by omega)]; exact ih (pre t) hp (by omega) d

/-- A buffer left as its step says: at the block it stores, or, where it stores nothing, at what it found, which is the
    block that stays if the buffer is written out. -/
theorem leave {c : Dev nD} (dat : Dat τ (Elt F) Unit ℕ (UR sig nD τ) ℕ cfg0 c) (w : Fin cfg0.W) (t : Fin cfg0.N) (d)
    (X : (cfg0.win w).block.Idx → Elt F (cfg0.win w).elt)
    (hl : cfg0.idle w (cfg0.grid.coords t) = false → X = dat.after w t)
    (hi : cfg0.idle w (cfg0.grid.coords t) = true → X = dat.before w t d)
    (hf : cfg0.idle w (cfg0.grid.coords t) = true → (cfg0.win w).flush t = true → dat.before w t d = dat.after w t) :
    owns (c : Thread nD τ) ((cfg0.win w).stage (cfg0.slots t w)) fullShare X ⊢ (dat.leavesExact w t : Says F) := by
  unfold Dat.leavesExact
  cases hidle : cfg0.idle w (cfg0.grid.coords t) with
  | false => rw [hl hidle]
  | true =>
    cases hflush : (cfg0.win w).flush t with
    | false => rw [hi hidle]; iintro H; iexists d; iexact H
    | true => rw [hi hidle, hf hidle hflush]

/-- A guard that is a one-bit word, as the schedule tests it. -/
theorem idle_false {a : BitVec 1} : (!(a == 1#1)) = false ↔ a = 1#1 := by simp
theorem idle_true {a : BitVec 1} : (!(a == 1#1)) = true ↔ ¬ a = 1#1 := by simp

/-- The queries' buffer after a step. -/
theorem leave6 (c : Dev nD) (t : Fin cfg0.N) (d) :
    owns (c : Thread nD τ) (st0_6 t) fullShare (if k0_cond2 (grid0.coords t) = 1#1 then k0_pay5 (prep m c t) (iblk m c 4 t) else (dats m 0 c).before 6 t d)
      ⊢ ((dats m 0 c).leavesExact 6 t : Says F) := by
  refine leave (dats m 0 c) 6 t d _ (fun h => ?_) (fun h => ?_) (fun h hf => ?_)
  · have h := idle_false.1 h
    rw [if_pos h, after0_6, stay_self ((sched t).2.1.1 h)]
  · rw [if_neg (idle_true.1 h)]
  · have h := mt (sched t).2.1.2 (idle_true.1 h)
    exact held (dats m 0 c) 6 1 (fun _ => rfl) (fun _ _ => rfl) (fun t h => idle_true.2 fun e => by have := (sched t).2.1.1 e; omega)
      (fun t h => idle_false.2 ((sched t).2.1.2 (by omega))) (fun t h h' => Bool.eq_false_iff.2 fun e => by have := (flush6 t).1 e; omega)
      (fun t h => by rw [after0_6, after0_6, stay_pre h]) _ t rfl (by omega) d

/-- The keys' and values' buffer after a step. -/
theorem leave7 (c : Dev nD) (t : Fin cfg0.N) (d) :
    owns (c : Thread nD τ) (st0_7 t) fullShare (if k0_cond3 (grid0.coords t) = 1#1 then k0_pay4 (prep m c t) (iblk m c 4 t) else (dats m 0 c).before 7 t d)
      ⊢ ((dats m 0 c).leavesExact 7 t : Says F) := by
  refine leave (dats m 0 c) 7 t d _ (fun h => ?_) (fun h => ?_) (fun h hf => ?_)
  · have h := idle_false.1 h
    rw [if_pos h, after0_7, stay_self ((sched t).2.2.1.1 h).2]
  · rw [if_neg (idle_true.1 h)]
  · have h := mt (sched t).2.2.1.2 (idle_true.1 h)
    have hf := (flush7 t).1 hf
    exact held (dats m 0 c) 7 3 (fun _ => rfl) (fun _ _ => rfl) (fun t h => idle_true.2 fun e => by have := (sched t).2.2.1.1 e; omega)
      (fun t h => idle_false.2 ((sched t).2.2.1.2 (by omega))) (fun t h h' => Bool.eq_false_iff.2 fun e => by have := (flush7 t).1 e; omega)
      (fun t h => by rw [after0_7, after0_7, stay_pre h]) _ t rfl (by omega) d

/-- The rounded keys' and values' buffer after a step. -/
theorem leave8 (c : Dev nD) (t : Fin cfg0.N) (d) :
    owns (c : Thread nD τ) (st0_8 t) fullShare (if k0_cond3 (grid0.coords t) = 1#1 then k0_pay6 (prep m c t) (iblk m c 4 t) else (dats m 0 c).before 8 t d)
      ⊢ ((dats m 0 c).leavesExact 8 t : Says F) := by
  refine leave (dats m 0 c) 8 t d _ (fun h => ?_) (fun h => ?_) (fun h hf => ?_)
  · have h := idle_false.1 h
    rw [if_pos h, after0_8, stay_self ((sched t).2.2.1.1 h).2]
  · rw [if_neg (idle_true.1 h)]
  · have h := mt (sched t).2.2.1.2 (idle_true.1 h)
    have hf := (flush8 t).1 hf
    exact held (dats m 0 c) 8 3 (fun _ => rfl) (fun _ _ => rfl) (fun t h => idle_true.2 fun e => by have := (sched t).2.2.1.1 e; omega)
      (fun t h => idle_false.2 ((sched t).2.2.1.2 (by omega))) (fun t h h' => Bool.eq_false_iff.2 fun e => by have := (flush8 t).1 e; omega)
      (fun t h => by rw [after0_8, after0_8, stay_pre h]) _ t rfl (by omega) d

/-- The rest's buffer after a step. -/
theorem leave9 (c : Dev nD) (t : Fin cfg0.N) (d) :
    owns (c : Thread nD τ) (st0_9 t) fullShare (if k0_cond4 (grid0.coords t) = 1#1 then k0_pay4 (prep m c t) (iblk m c 4 t) else (dats m 0 c).before 9 t d)
      ⊢ ((dats m 0 c).leavesExact 9 t : Says F) := by
  refine leave (dats m 0 c) 9 t d _ (fun h => ?_) (fun h => ?_) (fun h hf => ?_)
  · rw [if_pos (idle_false.1 h), after0_9]
  · rw [if_neg (idle_true.1 h)]
  · exact absurd ((sched t).2.2.2.1.2 ((flush9 t).1 hf)) (idle_true.1 h)

/-- The window columns' buffer after a step. -/
theorem leave10 (c : Dev nD) (t : Fin cfg0.N) (d) :
    owns (c : Thread nD τ) (st0_10 t) fullShare (if k0_cond5 (grid0.coords t) = 1#1 then k0_pay7 (prep m c t) (iblk m c 4 t) else (dats m 0 c).before 10 t d)
      ⊢ ((dats m 0 c).leavesExact 10 t : Says F) := by
  refine leave (dats m 0 c) 10 t d _ (fun h => ?_) (fun h => ?_) (fun h hf => ?_)
  · rw [if_pos (idle_false.1 h), after0_10]
  · rw [if_neg (idle_true.1 h)]
  · exact absurd ((sched t).2.2.2.2.2 ((flush0_10 t).1 hf)) (idle_true.1 h)

/-- The gates' buffer after a step. -/
theorem leave11 (c : Dev nD) (t : Fin cfg0.N) (d) :
    owns (c : Thread nD τ) (st0_11 t) fullShare (if k0_cond1 (grid0.coords t) = 1#1 then k0_pay3 (iblk m c 0 t) (iblk m c 1 t) (iblk m c 2 t) (iblk m c 3 t) (iblk m c 5 t) else (dats m 0 c).before 11 t d)
      ⊢ ((dats m 0 c).leavesExact 11 t : Says F) := by
  refine leave (dats m 0 c) 11 t d _ (fun h => ?_) (fun h => ?_) (fun h hf => ?_)
  · have h := idle_false.1 h
    rw [if_pos h, after0_11, stay_self (Nat.le_of_eq ((sched t).1.1 h))]
  · rw [if_neg (idle_true.1 h)]
  · have h := mt (sched t).1.2 (idle_true.1 h)
    exact held (dats m 0 c) 11 0 (fun _ => rfl) (fun _ _ => rfl) (fun t h => idle_true.2 fun e => by have := (sched t).1.1 e; omega)
      (fun t h => idle_false.2 ((sched t).1.2 (by omega))) (fun t h h' => Bool.eq_false_iff.2 fun e => by have := (flush0_11 t).1 e; omega)
      (fun t h => by rw [after0_11, after0_11, stay_pre h]) _ t rfl (by omega) d

/-! ## The step within the launch -/

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- What a step starts from. -/
def given (c : Dev nD) (t : Fin cfg0.N) : Says F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it ends with. -/
def returned (c : Dev nD) (t : Fin cfg0.N) : Says F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t ∗ (dats m 0 c).leavesExact 8 t
    ∗ (dats m 0 c).leavesExact 9 t ∗ (dats m 0 c).leavesExact 10 t ∗ (dats m 0 c).leavesExact 11 t)

theorem launch_step (c : Dev nD) (t : Fin cfg0.N) :
    given m c t ⊢ wp frame (wpE (defs₀ (F := F)) Variants.none c none) Set.univ (bodyAt0 t) (fun _ => returned m c t) := by
  unfold given returned bodyAt0
  simp only [before0_0, before0_1, before0_2, before0_3, before0_4, before0_5]
  rw [show (dats m 0 c).owesAt () t.succ = (dats m 0 c).owesAt () t.castSucc from rfl,
    show (dats m 0 c).Φ t.castSucc = iprop((∃ h, ⌜∀ s : Fin cfg0.N, s.val + 1 = t.val → h = prep m c s⌝ ∗ owns (c : Thread nD τ) (Memref.whole cc0_scratch0) fullShare h) ∗ ∃ r, prngReg c r) from rfl,
    show (dats m 0 c).Φ t.succ = iprop((∃ h, ⌜∀ s : Fin cfg0.N, s.val + 1 = t.val + 1 → h = prep m c s⌝ ∗ owns (c : Thread nD τ) (Memref.whole cc0_scratch0) fullShare h) ∗ ∃ r, prngReg c r) from rfl,
    after0_0, after0_1, after0_2, after0_3, after0_4, after0_5]
  iintro ⟨⟨⟨%h, %hh, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (step c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) ((dats m 0 c).before 8 t d8) ((dats m 0 c).before 9 t d9) ((dats m 0 c).before 10 t d10) ((dats m 0 c).before 11 t d11) h _)
  rw [rows_eq m c t h hh]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hs]; · iexact Hs
  iintro ⟨H0, H1, H2, H3, H4, H5, H6, H7, H8, H9, H10, H11, Hs⟩
  isplitl [Hs Hr]
  · isplitl [Hs]
    · iexists prep m c t; isplitr
      · ipureintro; intro s hs; exact congrArg (prep m c) (Fin.ext (by omega))
      · iexact Hs
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leave6 m c t d6); iexact H6
  isplitl [H7]; · iapply (leave7 m c t d7); iexact H7
  isplitl [H8]; · iapply (leave8 m c t d8); iexact H8
  isplitl [H9]; · iapply (leave9 m c t d9); iexact H9
  isplitl [H10]; · iapply (leave10 m c t d10); iexact H10
  iapply (leave11 m c t d11); iexact H11

/-- The kernel the launch runs at a step is the body on that step's buffers. -/
theorem row (t : Fin cfg0.N) : defs₀ (F := F) .tc cfg0.body (cfg0.bodyArgs t (cfg0.slots t)) = bodyAt0 t := by
  unfold defs₀; rw [Defs.onTc_tc]

theorem every_step (c : Dev nD) : BodyObligation (dats (F := F) m 0 c) (defs₀ (F := F)) Variants.none () Set.univ := fun t => by
  rw [bigSep_W0, bigSep_W0, row]
  exact triple_restated (launch_step m c t) rfl .rfl fun _ => .rfl

/-! ## The launch -/

/-- Before the first step the scratch may hold anything. -/
theorem enter (c : Dev nD) : Pipeline.ΦA (U := UR sig nD τ) (Val := Elt F) spec0 c ⊢ (dats m 0 c).Φ 0 := by
  unfold Pipeline.ΦA
  rw [scopedRest0_eq, show (dats m 0 c).Φ 0 = iprop((∃ h, ⌜∀ s : Fin cfg0.N, s.val + 1 = 0 → h = prep m c s⌝ ∗ owns (c : Thread nD τ) (Memref.whole cc0_scratch0) fullShare h) ∗ ∃ r, prngReg c r) from rfl]
  iintro ⟨⟨%f, H⟩, Hr⟩
  isplitl [H]
  · iexists f; isplitr
    · ipureintro; intro s hs; omega
    · rw [owns_whole]; iexact H
  · iexact Hr

/-- After the last step it is given up. -/
theorem exit (c : Dev nD) : (dats m 0 c).Φ (Fin.last cfg0.N) ⊢ Pipeline.ΦA (U := UR sig nD τ) (Val := Elt F) spec0 c := by
  unfold Pipeline.ΦA
  rw [scopedRest0_eq, show (dats m 0 c).Φ (Fin.last cfg0.N) = iprop((∃ h, ⌜∀ s : Fin cfg0.N, s.val + 1 = cfg0.N → h = prep m c s⌝ ∗ owns (c : Thread nD τ) (Memref.whole cc0_scratch0) fullShare h) ∗ ∃ r, prngReg c r) from rfl]
  iintro ⟨⟨%h, -, H⟩, Hr⟩
  isplitl [H]
  · iexists h; rw [← owns_whole (c : Thread nD τ) cc0_scratch0 fullShare h]; iexact H
  · iexact Hr

set_option backward.isDefEq.respectTransparency.types false in
set_option maxHeartbeats 800000 in
/-- Every run ends, with each result's array as the steps' blocks make it, the other arrays as before and no signal pending. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (every_step m c).loose) (hshare := fun c => (dats m 0 c).share_full fun _ => rfl)
    (howed := fun _ _ => rfl) (V := V m) (hmain := hmain m Variants.none) (hA := A_eq m) (hin := enter m) (hout := exit m)

theorem run_main : θ_run defs (onTc (τ := τ) (main (F := F))) (s₀ m ρ) (Pipeline.FramePost cfgs (dats m) 0 (V m)) :=
  (θ_run defs _ _).mono (fun _ h => h.1) (run_quiet m ρ)

/-- The arguments end as they were, and no signal is pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Kernel3Ideal.Proj

end
-- ==== Proof.ProjSame.lean ====
module

public import proofs.«01_k».proof.Proof.ProjRun
public import proofs.«01_k».proof.Proof.Gen.Kernel3.Frame

@[expose] public section

/-! # The input projection's kernel and ideal kernel are one text

Nothing of the kernel is rewritten, so the run proved for the ideal kernel, at any reading of the floats, is the kernel's. -/

namespace Cert.Kernel3.Proj

open Idealize.ShloMosaic Idealize.SL.Sem Cert.Kernel3

theorem bodies : Cert.Kernel3.defs₀ (F := Bits) = Cert.Kernel3Ideal.defs₀ (F := Bits) :=
  congrArg Defs.onTc (funext fun l => funext fun a => by
    match l, a with
    | 0, (t, s) => rfl)

theorem tables : Cert.Kernel3.defs (F := Bits) = Cert.Kernel3Ideal.defs (F := Bits) :=
  congrArg (Pipeline.defs Cert.Kernel3.pcfgs) bodies

/-- The arguments end as they were, and no signal is pending. -/
theorem frame (m : (ℓ : Loc nD τ sig) → Buf (Elt Bits) ℓ) (ρ : Dev nD → PrngReg) : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [tables]
  exact Cert.Kernel3Ideal.Proj.frame (F := Bits) m ρ

end Cert.Kernel3.Proj
-- ==== Proof.ProjSpec.lean ====
module

public import proofs.«01_k».proof.Proof.OutSpec

/-!
# The input projection of one row

The row is normalised by its root mean square, scaled, modulated and multiplied with the weights. The weights' columns are, in the order the
layer states them, the queries', the keys' and values', the window's, the gates' and the rest's.
-/

@[expose] public section

noncomputable section

namespace Cert.In

open Idealize.ShloMosaic

/-- The normalised and modulated row. -/
def modulated (x g scale shift : Fin 2048 → EReal) (k : Fin 2048) : EReal :=
  x k * Cert.Out.rms x * g k * (1 + scale k) + shift k

/-- The product of row `r` with a column: `r` is query `r % 2048` of batch `r / 2048`. -/
def entry (x : Fin 4 → Fin 2048 → Fin 2048 → EReal) (scale shift : Fin 4 → Fin 2048 → EReal) (g : Fin 2048 → EReal) (r : Fin 8192) (col : Fin 2048 → EReal) : EReal :=
  ∑ k, modulated (x ⟨r.val / 2048, by omega⟩ ⟨r.val % 2048, by omega⟩) g (scale ⟨r.val / 2048, by omega⟩) (shift ⟨r.val / 2048, by omega⟩) k * col k

/-- The column of the weights which is the `j`-th of all but the gates', the window's last. -/
def col (w : Fin 2048 → Fin 6680 → EReal) (j : Fin 6656) (k : Fin 2048) : EReal :=
  if h : j.val < 2048 then w k ⟨j.val, by omega⟩
  else if h' : j.val < 6144 then w k ⟨j.val + 536, by omega⟩
  else w k ⟨j.val - 4096, by omega⟩

/-- The gates' columns: of each of two groups the twelve of three branches and four heads, then zeros up to 128. -/
def gateCol (w : Fin 2048 → Fin 6680 → EReal) (j : Fin 256) (k : Fin 2048) : EReal :=
  if h : j.val % 128 < 12 then w k ⟨2560 + (j.val % 128 / 4 * 8 + j.val / 128 * 4 + j.val % 128 % 4), by omega⟩ else 0

end Cert.In
-- ==== Proof.ProjVal.lean ====
module

public import proofs.«01_k».proof.Proof.ProjSpec
public import proofs.«01_k».proof.Proof.ProjRun
public import Idealize.ShloMosaic.Lib.Pipeline.ValueKit
public import Idealize.ShloMosaic.Lib.Pointwise

@[expose] public section

set_option maxRecDepth 16384

noncomputable section

/-! # The input projection's result arrays, entry by entry -/

namespace Cert.Kernel3Ideal.Proj

open Idealize.ShloMosaic Idealize.ShloMosaic.TcCoe Idealize.SL.Sem Cert.Kernel3Ideal Cert.Kernel3Ideal.Gen Cert.In
open Idealize.ShloMosaic.Pipeline (Dat)

variable (m : (ℓ : Loc nD τ sig) → Buf (Elt Ideal) ℓ)

/-- The prepared rows, from the loaded blocks. -/
theorem pay2_at (v0 : Vec Ideal S512x2048 .f32) (v1 : Vec Ideal S1x2048 .f32) (v2 v3 : Vec Ideal S1x1x2048 .f32) (a : Fin 512) (k : Fin 2048) :
    (k0_pay2 v0 v1 v2 v3 : S512x2048.Idx → EReal) (ix2 a k)
      = modulated (fun k => (v0 : S512x2048.Idx → EReal) (ix2 a k)) (fun k => (v1 : S1x2048.Idx → EReal) (ix2 0 k)) (fun k => (v2 : S1x1x2048.Idx → EReal) (ix3 0 0 k))
          (fun k => (v3 : S1x1x2048.Idx → EReal) (ix3 0 0 k)) k := by
  pointwise [k0_pay2, k0_pay1]
  rfl

/-- The gates' product is that of the prepared rows. -/
theorem pay3_at (v0 : Vec Ideal S512x2048 .f32) (v1 : Vec Ideal S1x2048 .f32) (v2 v3 : Vec Ideal S1x1x2048 .f32) (v5 : Vec Ideal S2048x256 .bf16) (a : Fin 512) (b : Fin 256) :
    (k0_pay3 v0 v1 v2 v3 v5 : S512x256.Idx → EReal) (ix2 a b) = ∑ k : Fin 2048, (k0_pay2 v0 v1 v2 v3 : S512x2048.Idx → EReal) (ix2 a k) * (v5 : S2048x256.Idx → EReal) (ix2 k b) := by
  have e : k0_pay2 v0 v1 v2 v3 = k0_pay1 v0 v1 v2 v3 := by
    funext y
    unfold k0_pay2
    pointwise
  rw [e]
  unfold k0_pay3
  generalize k0_pay1 v0 v1 v2 v3 = h
  pointwise

/-- A step's product. -/
theorem pay4_at (h : Vec Ideal S512x2048 .bf16) (w : Vec Ideal S2048x512 .bf16) (a b : Fin 512) :
    (k0_pay4 h w : S512x512.Idx → EReal) (ix2 a b) = ∑ k : Fin 2048, (h : S512x2048.Idx → EReal) (ix2 a k) * (w : S2048x512.Idx → EReal) (ix2 k b) := by
  pointwise [k0_pay4]

/-- The row of the arrays which row `a` of the block at a step is. -/
def rowOf (t : Fin cfg0.N) (a : Fin 512) : Fin 8192 := ⟨512 * (t.val / 13) + a.val, by have h : t.val < 208 := t.isLt; have := a.isLt; omega⟩

/-- The column which column `b` of the block at a step is. -/
def colOf (t : Fin cfg0.N) (b : Fin 512) : Fin 6656 := ⟨512 * (t.val % 13) + b.val, by have := b.isLt; omega⟩

/-- The blocks the windows are on. -/
theorem idx : ∀ t : Fin cfg0.N,
    win0_0.index t = ![t.val / 13, 0] ∧ win0_1.index t = ![0, 0] ∧ win0_2.index t = ![t.val / 52, 0, 0] ∧ win0_3.index t = ![t.val / 52, 0, 0]
      ∧ win0_4.index t = ![0, t.val % 13] ∧ win0_5.index t = ![0, 0] :=
  (by decide +kernel : ∀ t : Fin grid0.N, _)

theorem idx_out : ∀ t : Fin cfg0.N,
    win0_6.index t = ![t.val / 13, min (t.val % 13) 1] ∧ win0_7.index t = ![t.val / 13, min (t.val % 13) 3 - 2] ∧ win0_8.index t = ![t.val / 13, min (t.val % 13) 3 - 2]
      ∧ win0_9.index t = ![t.val / 13, t.val % 13 - 4] ∧ win0_10.index t = ![t.val / 13, 0] ∧ win0_11.index t = ![t.val / 13, 0] :=
  (by decide +kernel : ∀ t : Fin grid0.N, _)

/-- The argument arrays, by their coordinates. -/
def a0 (c : Dev nD) (b : Fin 4) (n k : Fin 2048) : EReal := (m ((c : Thread nD τ).loc main_arg0) : S4x2048x2048.Idx → EReal) (ix3 b n k)
def a1 (c : Dev nD) (b : Fin 4) (k : Fin 2048) : EReal := (m ((c : Thread nD τ).loc main_arg1) : S4x2048.Idx → EReal) (ix2 b k)
def a2 (c : Dev nD) (b : Fin 4) (k : Fin 2048) : EReal := (m ((c : Thread nD τ).loc main_arg2) : S4x2048.Idx → EReal) (ix2 b k)
def a3 (c : Dev nD) (k : Fin 2048) : EReal := (m ((c : Thread nD τ).loc main_arg3) : S1x2048.Idx → EReal) (ix2 0 k)
def a4 (c : Dev nD) (k : Fin 2048) (n : Fin 6680) : EReal := (m ((c : Thread nD τ).loc main_arg4) : S1x2048x6680.Idx → EReal) (ix3 0 k n)

/-- The layer's input, as the host lays it out. -/
theorem v15_at (c : Dev nD) (r : Fin 8192) (k : Fin 2048) : (V m c main_v15 : S8192x2048.Idx → EReal) (ix2 r k) = a0 m c ⟨r.val / 2048, by omega⟩ ⟨r.val % 2048, by omega⟩ k := by
  simp only [V, hostOps0, hostOps0_1, hostOps0_2, List.flatten_cons, List.flatten_nil, List.append_nil, List.cons_append, List.nil_append, StableHlo.after_cons, StableHlo.after_nil]
  after_results_simp
  pointwise
  rfl

/-- The norm's scale, as the host lays it out. -/
theorem v14_at (c : Dev nD) (k : Fin 2048) : (V m c main_v14 : S1x2048.Idx → EReal) (ix2 0 k) = a3 m c k := by
  simp only [V, hostOps0, hostOps0_1, hostOps0_2, List.flatten_cons, List.flatten_nil, List.append_nil, List.cons_append, List.nil_append, StableHlo.after_cons, StableHlo.after_nil]
  after_results_simp
  pointwise
  rfl

/-- The modulation's vectors, as the host lays them out. -/
theorem v16_at (c : Dev nD) (b : Fin 4) (k : Fin 2048) : (V m c main_v16 : S4x1x2048.Idx → EReal) (ix3 b 0 k) = a1 m c b k := by
  simp only [V, hostOps0, hostOps0_1, hostOps0_2, List.flatten_cons, List.flatten_nil, List.append_nil, List.cons_append, List.nil_append, StableHlo.after_cons, StableHlo.after_nil]
  after_results_simp
  pointwise
  rfl

theorem v17_at (c : Dev nD) (b : Fin 4) (k : Fin 2048) : (V m c main_v17 : S4x1x2048.Idx → EReal) (ix3 b 0 k) = a2 m c b k := by
  simp only [V, hostOps0, hostOps0_1, hostOps0_2, List.flatten_cons, List.flatten_nil, List.append_nil, List.cons_append, List.nil_append, StableHlo.after_cons, StableHlo.after_nil]
  after_results_simp
  pointwise
  rfl

/-- The weights but the gates', as the host reorders and casts them. -/
theorem v5_at (c : Dev nD) (k : Fin 2048) (j : Fin 6656) : (V m c main_v5 : S2048x6656.Idx → EReal) (ix2 k j) = col (a4 m c) j k := by
  simp only [V, hostOps0, hostOps0_1, hostOps0_2, List.flatten_cons, List.flatten_nil, List.append_nil, List.cons_append, List.nil_append, StableHlo.after_cons, StableHlo.after_nil]
  after_results_simp
  pointwise
  unfold col a4
  split
  · after_results_simp
    pointwise
  · split
    · rename_i h h'
      rw [dif_pos (show j.val < 6144 by omega)]
      after_results_simp
      pointwise
      exact congrArg (fun n => (m ((c : Thread nD τ).loc main_arg4) : S1x2048x6680.Idx → EReal) (ix3 0 k n)) (Fin.ext (by dsimp only; omega))
    · rename_i h h'
      rw [dif_neg (show ¬ j.val < 6144 by omega)]
      after_results_simp
      pointwise
      exact congrArg (fun n => (m ((c : Thread nD τ).loc main_arg4) : S1x2048x6680.Idx → EReal) (ix3 0 k n)) (Fin.ext (by dsimp only; omega))

/-- The gates' weights, as the host lays them out. -/
theorem v12_at (c : Dev nD) (k : Fin 2048) (j : Fin 256) : (V m c main_v12 : S2048x256.Idx → EReal) (ix2 k j) = gateCol (a4 m c) j k := by
  simp only [V, hostOps0, hostOps0_1, hostOps0_2, List.flatten_cons, List.flatten_nil, List.append_nil, List.cons_append, List.nil_append, StableHlo.after_cons, StableHlo.after_nil]
  after_results_simp
  simp only [StableHlo.TRef.toBuf, StableHlo.TRef.ofBuf, cast_eq]
  pointwise
  unfold gateCol
  by_cases h : j.val % 128 < 12
  · refine (dif_pos (⟨by omega, h⟩ : j.val / 128 < 2 ∧ j.val % 128 < 12)).trans ?_
    refine Eq.trans ?_ (dif_pos h).symm
    unfold a4
    rfl
  · refine (dif_neg (fun e : j.val / 128 < 2 ∧ j.val % 128 < 12 => h e.2)).trans ?_
    refine Eq.trans ?_ (dif_neg h).symm
    show (((0#32 : BitVec 32).toInt : ℝ) : EReal) = 0
    simp

/-- What the inputs' blocks hold. -/
theorem in0 (c : Dev nD) (t : Fin cfg0.N) (a : Fin 512) (k : Fin 2048) : (iblk m c 0 t : S512x2048.Idx → EReal) (ix2 a k) = a0 m c ⟨(rowOf t a).val / 2048, by have := (rowOf t a).isLt; omega⟩ ⟨(rowOf t a).val % 2048, by omega⟩ k := by
  obtain ⟨e, -⟩ := idx t
  refine Eq.trans ?_ (v15_at m c (rowOf t a) k)
  unfold rowOf
  generalize hw : V m c main_v15 = w
  show V m c main_v15 _ = _
  rw [hw]
  congr 1
  blk_ext [e]

theorem in1 (c : Dev nD) (t : Fin cfg0.N) (k : Fin 2048) : (iblk m c 1 t : S1x2048.Idx → EReal) (ix2 0 k) = a3 m c k := by
  obtain ⟨-, e, -⟩ := idx t
  refine Eq.trans ?_ (v14_at m c k)
  generalize hw : V m c main_v14 = w
  show V m c main_v14 _ = _
  rw [hw]
  congr 1
  blk_ext [e]

theorem batch (t : Fin cfg0.N) (a : Fin 512) : (⟨(rowOf t a).val / 2048, by have := (rowOf t a).isLt; omega⟩ : Fin 4) = ⟨t.val / 52, by have h : t.val < 208 := t.isLt; omega⟩ :=
  Fin.ext (by unfold rowOf; dsimp only; omega)

theorem in2 (c : Dev nD) (t : Fin cfg0.N) (a : Fin 512) (k : Fin 2048) : (iblk m c 2 t : S1x1x2048.Idx → EReal) (ix3 0 0 k) = a1 m c ⟨(rowOf t a).val / 2048, by have := (rowOf t a).isLt; omega⟩ k := by
  obtain ⟨-, -, e, -⟩ := idx t
  have ht : t.val < 208 := t.isLt
  rw [batch]
  refine Eq.trans ?_ (v16_at m c ⟨t.val / 52, by omega⟩ k)
  generalize hw : V m c main_v16 = w
  show V m c main_v16 _ = _
  rw [hw]
  congr 1
  blk_ext [e]

theorem in3 (c : Dev nD) (t : Fin cfg0.N) (a : Fin 512) (k : Fin 2048) : (iblk m c 3 t : S1x1x2048.Idx → EReal) (ix3 0 0 k) = a2 m c ⟨(rowOf t a).val / 2048, by have := (rowOf t a).isLt; omega⟩ k := by
  obtain ⟨-, -, -, e, -⟩ := idx t
  have ht : t.val < 208 := t.isLt
  rw [batch]
  refine Eq.trans ?_ (v17_at m c ⟨t.val / 52, by omega⟩ k)
  generalize hw : V m c main_v17 = w
  show V m c main_v17 _ = _
  rw [hw]
  congr 1
  blk_ext [e]

theorem in4 (c : Dev nD) (t : Fin cfg0.N) (k : Fin 2048) (b : Fin 512) : (iblk m c 4 t : S2048x512.Idx → EReal) (ix2 k b) = col (a4 m c) (colOf t b) k := by
  obtain ⟨-, -, -, -, e, -⟩ := idx t
  refine Eq.trans ?_ (v5_at m c k (colOf t b))
  unfold colOf
  generalize hw : V m c main_v5 = w
  show V m c main_v5 _ = _
  rw [hw]
  congr 1
  blk_ext [e]

theorem in5 (c : Dev nD) (t : Fin cfg0.N) (k : Fin 2048) (b : Fin 256) : (iblk m c 5 t : S2048x256.Idx → EReal) (ix2 k b) = gateCol (a4 m c) b k := by
  obtain ⟨-, -, -, -, -, e⟩ := idx t
  refine Eq.trans ?_ (v12_at m c k b)
  generalize hw : V m c main_v12 = w
  show V m c main_v12 _ = _
  rw [hw]
  congr 1
  blk_ext [e]

/-! ## What the steps store -/

/-- Row `r` of the prepared rows times a column. -/
def resK (c : Dev nD) (r : Fin 8192) (w : Fin 2048 → EReal) : EReal := entry (a0 m c) (a1 m c) (a2 m c) (a3 m c) r w

theorem prep_at (c : Dev nD) (t : Fin cfg0.N) (a : Fin 512) (k : Fin 2048) :
    (prep m c t : S512x2048.Idx → EReal) (ix2 a k)
      = modulated (a0 m c ⟨(rowOf t a).val / 2048, by have := (rowOf t a).isLt; omega⟩ ⟨(rowOf t a).val % 2048, by omega⟩) (a3 m c)
          (a1 m c ⟨(rowOf t a).val / 2048, by have := (rowOf t a).isLt; omega⟩) (a2 m c ⟨(rowOf t a).val / 2048, by have := (rowOf t a).isLt; omega⟩) k := by
  unfold prep
  rw [pay2_at]
  simp only [in0, in1, in2 m c t a, in3 m c t a]

/-- A step's product, by the rows and columns of the arrays. -/
theorem out4_at (c : Dev nD) (t : Fin cfg0.N) (y : S512x512.Idx) :
    (k0_pay4 (prep m c t) (iblk m c 4 t) : S512x512.Idx → EReal) y = resK m c (rowOf t (y 0)) (col (a4 m c) (colOf t (y 1))) := by
  obtain ⟨a, b, rfl⟩ : ∃ a b, y = ix2 a b := ⟨y 0, y 1, by funext b; fin_cases b <;> rfl⟩
  rw [pay4_at]
  exact Finset.sum_congr rfl fun k _ => congrArg₂ _ (prep_at m c t a k) (in4 m c t k b)

/-- Its rounded copies hold the same. -/
theorem out5_at (c : Dev nD) (t : Fin cfg0.N) (y : S512x512.Idx) :
    (k0_pay5 (prep m c t) (iblk m c 4 t) : S512x512.Idx → EReal) y = resK m c (rowOf t (y 0)) (col (a4 m c) (colOf t (y 1))) := out4_at m c t y
theorem out6_at (c : Dev nD) (t : Fin cfg0.N) (y : S512x512.Idx) :
    (k0_pay6 (prep m c t) (iblk m c 4 t) : S512x512.Idx → EReal) y = resK m c (rowOf t (y 0)) (col (a4 m c) (colOf t (y 1))) := out4_at m c t y
theorem out7_at (c : Dev nD) (t : Fin cfg0.N) (y : S512x512.Idx) :
    (k0_pay7 (prep m c t) (iblk m c 4 t) : S512x512.Idx → EReal) y = resK m c (rowOf t (y 0)) (col (a4 m c) (colOf t (y 1))) := out4_at m c t y

/-- The gates' product. -/
theorem out3_at (c : Dev nD) (t : Fin cfg0.N) (y : S512x256.Idx) :
    (k0_pay3 (iblk m c 0 t) (iblk m c 1 t) (iblk m c 2 t) (iblk m c 3 t) (iblk m c 5 t) : S512x256.Idx → EReal) y = resK m c (rowOf t (y 0)) (gateCol (a4 m c) (y 1)) := by
  obtain ⟨a, b, rfl⟩ : ∃ a b, y = ix2 a b := ⟨y 0, y 1, by funext b; fin_cases b <;> rfl⟩
  rw [pay3_at]
  exact Finset.sum_congr rfl fun k _ => congrArg₂ _ (prep_at m c t a k) (in5 m c t k b)

/-! ## The result arrays -/

/-- A column of the product, counted from where a result's columns start. -/
theorem at_first {w : ℕ} {u : Fin 6656} (h : w ≤ 6656) (x : Fin w) (e : u.val = x.val) : u = Fin.castLE h x := Fin.ext e
theorem at_col {w : ℕ} {u : Fin 6656} (off : ℕ) (h : off + w ≤ 6656) (x : Fin w) (e : u.val = off + x.val) : u = Fin.castLE h (Fin.natAdd off x) := Fin.ext e

theorem result6 (c : Dev nD) : ((dats m 0 c).arrAt 6 cfg0.N : S8192x1024.Idx → EReal)
    = fun y => resK m c (y 0) (col (a4 m c) (Fin.castLE (by decide : 1024 ≤ 6656) (y 1))) := by
  refine (dats m 0 c).arrAt_eq_of_covers 6 (fun y : S8192x1024.Idx => resK m c (y 0) (col (a4 m c) (Fin.castLE (by decide : 1024 ≤ 6656) (y 1)))) (by decide +kernel) fun t hf y => ?_
  rw [after0_6, out5_at m c (stay 1 t) y]
  obtain ⟨e, -⟩ := idx_out t
  refine congrArg₂ (fun r j => resK m c r (col (a4 m c) j)) (Fin.ext ?_) (at_first _ _ ?_)
  · unfold rowOf stay; blk_simp [e]; dsimp only; omega
  · unfold colOf stay; blk_simp [e]; dsimp only; omega

theorem result7 (c : Dev nD) : ((dats m 0 c).arrAt 7 cfg0.N : S8192x1024.Idx → EReal)
    = fun y => resK m c (y 0) (col (a4 m c) (Fin.castLE (by decide : 2048 ≤ 6656) (Fin.natAdd 1024 (y 1)))) := by
  refine (dats m 0 c).arrAt_eq_of_covers 7 (fun y : S8192x1024.Idx => resK m c (y 0) (col (a4 m c) (Fin.castLE (by decide : 2048 ≤ 6656) (Fin.natAdd 1024 (y 1))))) (by decide +kernel) fun t hf y => ?_
  have hm := (flush7 t).mp hf
  rw [after0_7, out4_at m c (stay 3 t) y]
  obtain ⟨-, e, -⟩ := idx_out t
  refine congrArg₂ (fun r j => resK m c r (col (a4 m c) j)) (Fin.ext ?_) (at_col 1024 _ _ ?_)
  · unfold rowOf stay; blk_simp [e]; dsimp only; omega
  · unfold colOf stay; blk_simp [e]; dsimp only; omega

theorem result8 (c : Dev nD) : ((dats m 0 c).arrAt 8 cfg0.N : S8192x1024.Idx → EReal)
    = fun y => resK m c (y 0) (col (a4 m c) (Fin.castLE (by decide : 2048 ≤ 6656) (Fin.natAdd 1024 (y 1)))) := by
  refine (dats m 0 c).arrAt_eq_of_covers 8 (fun y : S8192x1024.Idx => resK m c (y 0) (col (a4 m c) (Fin.castLE (by decide : 2048 ≤ 6656) (Fin.natAdd 1024 (y 1))))) (by decide +kernel) fun t hf y => ?_
  have hm := (flush8 t).mp hf
  rw [after0_8, out6_at m c (stay 3 t) y]
  obtain ⟨-, -, e, -⟩ := idx_out t
  refine congrArg₂ (fun r j => resK m c r (col (a4 m c) j)) (Fin.ext ?_) (at_col 1024 _ _ ?_)
  · unfold rowOf stay; blk_simp [e]; dsimp only; omega
  · unfold colOf stay; blk_simp [e]; dsimp only; omega

theorem result9 (c : Dev nD) : ((dats m 0 c).arrAt 9 cfg0.N : S8192x4608.Idx → EReal)
    = fun y => resK m c (y 0) (col (a4 m c) (Fin.castLE (by decide : 6656 ≤ 6656) (Fin.natAdd 2048 (y 1)))) := by
  refine (dats m 0 c).arrAt_eq_of_covers 9 (fun y : S8192x4608.Idx => resK m c (y 0) (col (a4 m c) (Fin.castLE (by decide : 6656 ≤ 6656) (Fin.natAdd 2048 (y 1))))) (by decide +kernel) fun t hf y => ?_
  have hm := (flush9 t).mp hf
  rw [after0_9, out4_at m c t y]
  obtain ⟨-, -, -, e, -⟩ := idx_out t
  refine congrArg₂ (fun r j => resK m c r (col (a4 m c) j)) (Fin.ext ?_) (at_col 2048 _ _ ?_)
  · unfold rowOf; blk_simp [e]; dsimp only; omega
  · unfold colOf; blk_simp [e]; dsimp only; omega

theorem result10 (c : Dev nD) : ((dats m 0 c).arrAt 10 cfg0.N : S8192x512.Idx → EReal)
    = fun y => resK m c (y 0) (col (a4 m c) (Fin.castLE (by decide : 6656 ≤ 6656) (Fin.natAdd 6144 (y 1)))) := by
  refine (dats m 0 c).arrAt_eq_of_covers 10 (fun y : S8192x512.Idx => resK m c (y 0) (col (a4 m c) (Fin.castLE (by decide : 6656 ≤ 6656) (Fin.natAdd 6144 (y 1))))) (by decide +kernel) fun t hf y => ?_
  have hm := (flush0_10 t).mp hf
  rw [after0_10, out7_at m c t y]
  obtain ⟨-, -, -, -, e, -⟩ := idx_out t
  refine congrArg₂ (fun r j => resK m c r (col (a4 m c) j)) (Fin.ext ?_) (at_col 6144 _ _ ?_)
  · unfold rowOf; blk_simp [e]; dsimp only; omega
  · unfold colOf; blk_simp [e]; dsimp only; omega

theorem result11 (c : Dev nD) : ((dats m 0 c).arrAt 11 cfg0.N : S8192x256.Idx → EReal) = fun y => resK m c (y 0) (gateCol (a4 m c) (y 1)) := by
  refine (dats m 0 c).arrAt_eq_of_covers 11 (fun y : S8192x256.Idx => resK m c (y 0) (gateCol (a4 m c) (y 1))) (by decide +kernel) fun t hf y => ?_
  rw [after0_11, out3_at m c (stay 0 t) y]
  obtain ⟨-, -, -, -, -, e⟩ := idx_out t
  refine congrArg₂ (fun r j => resK m c r (gateCol (a4 m c) j)) (Fin.ext ?_) (Fin.ext ?_)
  · unfold rowOf stay; blk_simp [e]; dsimp only; omega
  · blk_simp [e]

end Cert.Kernel3Ideal.Proj
-- ==== Proof.ProjRef.lean ====
module

public import proofs.«01_k».proof.Proof.ProjSpec
public import proofs.«01_k».proof.Proof.Gen.Reference3Ideal.Read
public import Idealize.ShloMosaic.Lib.Pointwise

@[expose] public section

set_option maxRecDepth 16384

noncomputable section

/-! # The input projection's reference, entry by entry -/

namespace Cert.Reference3Ideal.Proj

open Idealize.ShloMosaic Idealize.ShloMosaic.TcCoe Idealize.SL.Sem Cert.Reference3Ideal Cert.Reference3Ideal.Read Cert.In

variable (x0 : S4x2048x2048.Idx → EReal) (x1 x2 : S4x2048.Idx → EReal) (x3 : S1x2048.Idx → EReal) (x4 : S1x2048x6680.Idx → EReal)

/-- Row `r` of the normalised and modulated input times a column. -/
def resR (r : Fin 8192) (w : Fin 2048 → EReal) : EReal :=
  entry (fun b n k => x0 (ix3 b n k)) (fun b k => x1 (ix2 b k)) (fun b k => x2 (ix2 b k)) (fun k => x3 (ix2 0 k)) r w

/-- The weights by row and column. -/
def wt (k : Fin 2048) (n : Fin 6680) : EReal := x4 (ix3 0 k n)

/-- The normalised and modulated input. -/
theorem row_at (b : Fin 4) (n k : Fin 2048) : (val_main_v21 (F := Ideal) x0 x1 x2 x3 : S4x2048x2048.Idx → EReal) (ix3 b n k)
    = modulated (fun k => x0 (ix3 b n k)) (fun k => x3 (ix2 0 k)) (fun k => x1 (ix2 b k)) (fun k => x2 (ix2 b k)) k := by
  pointwise [val_main_v21, val_main_v20, val_main_v19, val_main_v18, val_main_v17, val_main_v16, val_main_v15, val_main_cst_2, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The whole product. -/
theorem prod_at (r : Fin 8192) (n : Fin 6680) : (val_main_v24 (F := Ideal) x0 x1 x2 x3 x4 : S8192x6680.Idx → EReal) (ix2 r n)
    = resR x0 x1 x2 x3 r (fun k => wt x4 k n) := by
  pointwise [val_main_v24, val_main_v23, val_main_v22]
  exact Finset.sum_congr rfl fun k _ => congrArg (· * _) (row_at x0 x1 x2 x3 _ _ k)

/-- The product cut into the results. -/
theorem q_at (r : Fin 8192) (j : Fin 1024) : (val_main_v35 (F := Ideal) x0 x1 x2 x3 x4 : S8192x1024.Idx → EReal) (ix2 r j)
    = resR x0 x1 x2 x3 r (col (wt x4) (Fin.castLE (by decide : 1024 ≤ 6656) j)) := by
  pointwise [val_main_v35, val_main_v25]
  refine (prod_at x0 x1 x2 x3 x4 r _).trans (congrArg _ (funext fun k => ?_))
  unfold col
  rw [dif_pos (by simp only [Fin.val_castLE]; omega)]
  rfl

theorem kv_at (r : Fin 8192) (j : Fin 1024) : (val_main_v26 (F := Ideal) x0 x1 x2 x3 x4 : S8192x1024.Idx → EReal) (ix2 r j)
    = resR x0 x1 x2 x3 r (col (wt x4) (Fin.castLE (by decide : 2048 ≤ 6656) (Fin.natAdd 1024 j))) := by
  pointwise [val_main_v26]
  refine (prod_at x0 x1 x2 x3 x4 r _).trans (congrArg _ (funext fun k => ?_))
  unfold col
  rw [dif_pos (by simp only [Fin.val_castLE, Fin.val_natAdd]; omega)]
  rfl

theorem win_at (r : Fin 8192) (j : Fin 512) : (val_main_v27 (F := Ideal) x0 x1 x2 x3 x4 : S8192x512.Idx → EReal) (ix2 r j)
    = resR x0 x1 x2 x3 r (col (wt x4) (Fin.castLE (by decide : 6656 ≤ 6656) (Fin.natAdd 6144 j))) := by
  pointwise [val_main_v27]
  refine (prod_at x0 x1 x2 x3 x4 r _).trans (congrArg _ (funext fun k => ?_))
  unfold col
  rw [dif_neg (by simp only [Fin.val_castLE, Fin.val_natAdd]; omega), dif_neg (by simp only [Fin.val_castLE, Fin.val_natAdd]; omega)]
  exact congrArg (wt x4 k) (Fin.ext (by simp only [Fin.val_castLE, Fin.val_natAdd]; omega))

theorem rest_at (r : Fin 8192) (j : Fin 4096) : (val_main_v29 (F := Ideal) x0 x1 x2 x3 x4 : S8192x4096.Idx → EReal) (ix2 r j)
    = resR x0 x1 x2 x3 r (col (wt x4) (Fin.castLE (by decide : 6144 ≤ 6656) (Fin.natAdd 2048 j))) := by
  pointwise [val_main_v29]
  refine (prod_at x0 x1 x2 x3 x4 r _).trans (congrArg _ (funext fun k => ?_))
  unfold col
  rw [dif_neg (by simp only [Fin.val_castLE, Fin.val_natAdd]; omega), dif_pos (by simp only [Fin.val_castLE, Fin.val_natAdd]; omega)]
  exact congrArg (wt x4 k) (Fin.ext (by simp only [Fin.val_castLE, Fin.val_natAdd]; omega))

/-- The rest and the window side by side. -/
theorem restwin_at (r : Fin 8192) (j : Fin 4608) : (val_main_v37 (F := Ideal) x0 x1 x2 x3 x4 : S8192x4608.Idx → EReal) (ix2 r j)
    = resR x0 x1 x2 x3 r (col (wt x4) (Fin.castLE (by decide : 6656 ≤ 6656) (Fin.natAdd 2048 j))) := by
  pointwise [val_main_v37]
  by_cases h : j.val < 4096
  · refine (dif_pos h).trans ?_
    exact rest_at x0 x1 x2 x3 x4 r ⟨j.val, h⟩
  · refine (dif_neg h).trans ?_
    refine (win_at x0 x1 x2 x3 x4 r _).trans ?_
    exact congrArg (fun j => resR x0 x1 x2 x3 r (col (wt x4) j)) (Fin.ext (by simp only [Fin.val_castLE, Fin.val_natAdd]; omega))

theorem raw_at (r : Fin 8192) (j : Fin 24) : (val_main_v28 (F := Ideal) x0 x1 x2 x3 x4 : S8192x24.Idx → EReal) (ix2 r j)
    = resR x0 x1 x2 x3 r (fun k => wt x4 k ⟨2560 + j.val, by omega⟩) := by
  pointwise [val_main_v28]
  exact prod_at x0 x1 x2 x3 x4 r _

/-- The gates, a group's twelve before zeros. -/
theorem gate_at (r : Fin 8192) (j : Fin 256) : (val_main_v34 (F := Ideal) x0 x1 x2 x3 x4 : S8192x256.Idx → EReal) (ix2 r j)
    = resR x0 x1 x2 x3 r (gateCol (wt x4) j) := by
  pointwise [val_main_v34, val_main_v33, val_main_v32, val_main_v31, val_main_v30, val_main_call0_v0, val_main_c]
  by_cases h : j.val % 128 < 12
  · refine (dif_pos (⟨by omega, h⟩ : j.val / 128 < 2 ∧ j.val % 128 < 12)).trans ?_
    refine (raw_at x0 x1 x2 x3 x4 r _).trans (congrArg _ (funext fun k => ?_))
    unfold gateCol
    rw [dif_pos h]
  · refine (dif_neg (fun e : j.val / 128 < 2 ∧ j.val % 128 < 12 => h e.2)).trans ?_
    have hz : gateCol (wt x4) j = fun _ => 0 := funext fun k => dif_neg h
    rw [hz]
    unfold resR entry
    simp only [mul_zero, Finset.sum_const_zero]
    show (((0#32 : BitVec 32).toInt : ℝ) : EReal) = 0
    simp

/-- The rounded copies hold the same numbers. -/
theorem kv16_at (r : Fin 8192) (j : Fin 1024) : (val_main_v36 (F := Ideal) x0 x1 x2 x3 x4 : S8192x1024.Idx → EReal) (ix2 r j)
    = resR x0 x1 x2 x3 r (col (wt x4) (Fin.castLE (by decide : 2048 ≤ 6656) (Fin.natAdd 1024 j))) := by
  pointwise [val_main_v36]
  exact kv_at x0 x1 x2 x3 x4 r j

theorem win16_at (r : Fin 8192) (j : Fin 512) : (val_main_v38 (F := Ideal) x0 x1 x2 x3 x4 : S8192x512.Idx → EReal) (ix2 r j)
    = resR x0 x1 x2 x3 r (col (wt x4) (Fin.castLE (by decide : 6656 ≤ 6656) (Fin.natAdd 6144 j))) := by
  pointwise [val_main_v38]
  exact win_at x0 x1 x2 x3 x4 r j

/-- The result arrays. -/
theorem q_all : (val_main_v35 (F := Ideal) x0 x1 x2 x3 x4 : S8192x1024.Idx → EReal) = fun y => resR x0 x1 x2 x3 (y 0) (col (wt x4) (Fin.castLE (by decide : 1024 ≤ 6656) (y 1))) := by
  funext y
  have hy : y = ix2 (y 0) (y 1) := by funext b; fin_cases b <;> rfl
  refine (congrArg _ hy).trans ?_
  exact q_at x0 x1 x2 x3 x4 (y 0) (y 1)

theorem kv_all : (val_main_v26 (F := Ideal) x0 x1 x2 x3 x4 : S8192x1024.Idx → EReal) = fun y => resR x0 x1 x2 x3 (y 0) (col (wt x4) (Fin.castLE (by decide : 2048 ≤ 6656) (Fin.natAdd 1024 (y 1)))) := by
  funext y
  have hy : y = ix2 (y 0) (y 1) := by funext b; fin_cases b <;> rfl
  refine (congrArg _ hy).trans ?_
  exact kv_at x0 x1 x2 x3 x4 (y 0) (y 1)

theorem kv16_all : (val_main_v36 (F := Ideal) x0 x1 x2 x3 x4 : S8192x1024.Idx → EReal) = fun y => resR x0 x1 x2 x3 (y 0) (col (wt x4) (Fin.castLE (by decide : 2048 ≤ 6656) (Fin.natAdd 1024 (y 1)))) := by
  funext y
  have hy : y = ix2 (y 0) (y 1) := by funext b; fin_cases b <;> rfl
  refine (congrArg _ hy).trans ?_
  exact kv16_at x0 x1 x2 x3 x4 (y 0) (y 1)

theorem restwin_all : (val_main_v37 (F := Ideal) x0 x1 x2 x3 x4 : S8192x4608.Idx → EReal) = fun y => resR x0 x1 x2 x3 (y 0) (col (wt x4) (Fin.castLE (by decide : 6656 ≤ 6656) (Fin.natAdd 2048 (y 1)))) := by
  funext y
  have hy : y = ix2 (y 0) (y 1) := by funext b; fin_cases b <;> rfl
  refine (congrArg _ hy).trans ?_
  exact restwin_at x0 x1 x2 x3 x4 (y 0) (y 1)

theorem win16_all : (val_main_v38 (F := Ideal) x0 x1 x2 x3 x4 : S8192x512.Idx → EReal) = fun y => resR x0 x1 x2 x3 (y 0) (col (wt x4) (Fin.castLE (by decide : 6656 ≤ 6656) (Fin.natAdd 6144 (y 1)))) := by
  funext y
  have hy : y = ix2 (y 0) (y 1) := by funext b; fin_cases b <;> rfl
  refine (congrArg _ hy).trans ?_
  exact win16_at x0 x1 x2 x3 x4 (y 0) (y 1)

theorem gate_all : (val_main_v34 (F := Ideal) x0 x1 x2 x3 x4 : S8192x256.Idx → EReal) = fun y => resR x0 x1 x2 x3 (y 0) (gateCol (wt x4) (y 1)) := by
  funext y
  have hy : y = ix2 (y 0) (y 1) := by funext b; fin_cases b <;> rfl
  refine (congrArg _ hy).trans ?_
  exact gate_at x0 x1 x2 x3 x4 (y 0) (y 1)

end Cert.Reference3Ideal.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelVal
public import proofs.«01_k».proof.Proof.RefO
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.OutVal
public import proofs.«01_k».proof.Proof.OutRef
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.ProjSame
public import proofs.«01_k».proof.Proof.ProjVal
public import proofs.«01_k».proof.Proof.ProjRef
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.SL.Sem Cert.Nsa

/-- The six arrays the two launches share, at their types. -/
private theorem result_ref (m : (ℓ : Loc Cert.ReferenceIdeal.nD Cert.ReferenceIdeal.τ Cert.ReferenceIdeal.sig) → Buf (Elt Ideal) ℓ) (c : Dev Cert.ReferenceIdeal.nD) :
    (Cert.ReferenceIdeal.Read.val_main_v232 (F := Ideal)
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5)) : Cert.ReferenceIdeal.S8192x1024.Idx → EReal)
      = fun y => resAt (Cert.ReferenceIdeal.Val.qA (m ((c.tc : Thread Cert.ReferenceIdeal.nD Cert.ReferenceIdeal.τ).loc Cert.ReferenceIdeal.main_arg0)))
          (Cert.ReferenceIdeal.Val.cA (m ((c.tc : Thread Cert.ReferenceIdeal.nD Cert.ReferenceIdeal.τ).loc Cert.ReferenceIdeal.main_arg1)))
          (Cert.ReferenceIdeal.Val.kA (m ((c.tc : Thread Cert.ReferenceIdeal.nD Cert.ReferenceIdeal.τ).loc Cert.ReferenceIdeal.main_arg2)))
          (Cert.ReferenceIdeal.Val.wA (m ((c.tc : Thread Cert.ReferenceIdeal.nD Cert.ReferenceIdeal.τ).loc Cert.ReferenceIdeal.main_arg3)))
          (fun r k => (m ((c.tc : Thread Cert.ReferenceIdeal.nD Cert.ReferenceIdeal.τ).loc Cert.ReferenceIdeal.main_arg4) : Cert.ReferenceIdeal.S8192x256.Idx → EReal) (ix2 r k))
          (fun r k => (m ((c.tc : Thread Cert.ReferenceIdeal.nD Cert.ReferenceIdeal.τ).loc Cert.ReferenceIdeal.main_arg5) : Cert.ReferenceIdeal.S8192x4608.Idx → EReal) (ix2 r k)) (y 0) (y 1) := by
  funext y
  have hy : y = ix2 (y 0) (y 1) := by funext b; fin_cases b <;> rfl
  conv_lhs => rw [hy]
  exact Cert.ReferenceIdeal.Val.out_at _ _ _ _ _ _ (y 0) (y 1)

/-- The output projection's reference, from the arrays of its launch. -/
private theorem result_ref2 (m : (ℓ : Loc Cert.Reference2Ideal.nD Cert.Reference2Ideal.τ Cert.Reference2Ideal.sig) → Buf (Elt Ideal) ℓ) (c : Dev Cert.Reference2Ideal.nD) :
    (Cert.Reference2Ideal.Read.val_main_v25 (F := Ideal)
      (m ((c.tc : Thread Cert.Reference2Ideal.nD Cert.Reference2Ideal.τ).loc Cert.Reference2Ideal.main_arg0))
      (m ((c.tc : Thread Cert.Reference2Ideal.nD Cert.Reference2Ideal.τ).loc Cert.Reference2Ideal.main_arg1))
      (m ((c.tc : Thread Cert.Reference2Ideal.nD Cert.Reference2Ideal.τ).loc Cert.Reference2Ideal.main_arg2))
      (m ((c.tc : Thread Cert.Reference2Ideal.nD Cert.Reference2Ideal.τ).loc Cert.Reference2Ideal.main_arg3))
      (m ((c.tc : Thread Cert.Reference2Ideal.nD Cert.Reference2Ideal.τ).loc Cert.Reference2Ideal.main_arg4))
      (m ((c.tc : Thread Cert.Reference2Ideal.nD Cert.Reference2Ideal.τ).loc Cert.Reference2Ideal.main_arg5)) : Cert.Reference2Ideal.S8192x2048.Idx → EReal)
      = fun y => Cert.Out.res (fun r j => ((m ((c.tc : Thread Cert.Reference2Ideal.nD Cert.Reference2Ideal.τ).loc Cert.Reference2Ideal.main_arg0)) : Cert.Reference2Ideal.S8192x1024.Idx → EReal) (ix2 r j))
          (fun r j => ((m ((c.tc : Thread Cert.Reference2Ideal.nD Cert.Reference2Ideal.τ).loc Cert.Reference2Ideal.main_arg1)) : Cert.Reference2Ideal.S8192x1024.Idx → EReal) (ix2 r j))
          (fun b n k => ((m ((c.tc : Thread Cert.Reference2Ideal.nD Cert.Reference2Ideal.τ).loc Cert.Reference2Ideal.main_arg2)) : Cert.Reference2Ideal.S4x2048x2048.Idx → EReal) (ix3 b n k))
          (fun b k => ((m ((c.tc : Thread Cert.Reference2Ideal.nD Cert.Reference2Ideal.τ).loc Cert.Reference2Ideal.main_arg3)) : Cert.Reference2Ideal.S4x2048.Idx → EReal) (ix2 b k))
          (fun k => ((m ((c.tc : Thread Cert.Reference2Ideal.nD Cert.Reference2Ideal.τ).loc Cert.Reference2Ideal.main_arg4)) : Cert.Reference2Ideal.S1x2048.Idx → EReal) (ix2 0 k))
          (fun j k => ((m ((c.tc : Thread Cert.Reference2Ideal.nD Cert.Reference2Ideal.τ).loc Cert.Reference2Ideal.main_arg5)) : Cert.Reference2Ideal.S1x2048x2048.Idx → EReal) (ix3 0 j k)) (y 0) (y 1) := by
  funext y
  have hy : y = ix2 (y 0) (y 1) := by funext b; fin_cases b <;> rfl
  refine (congrArg _ hy).trans ?_
  exact Cert.Reference2Ideal.Out.out_at _ _ _ _ _ _ (y 0) (y 1)

/-- The input projection's rows, and its weights, are the same read from either launch. -/
private theorem same3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : (m' ((c.tc : Thread Cert.Reference3Ideal.nD Cert.Reference3Ideal.τ).loc Cert.Reference3Ideal.main_arg0)) = (m ((c.tc : Thread Cert.Kernel3Ideal.nD Cert.Kernel3Ideal.τ).loc Cert.Kernel3Ideal.main_arg0)))
    (h1 : (m' ((c.tc : Thread Cert.Reference3Ideal.nD Cert.Reference3Ideal.τ).loc Cert.Reference3Ideal.main_arg1)) = (m ((c.tc : Thread Cert.Kernel3Ideal.nD Cert.Kernel3Ideal.τ).loc Cert.Kernel3Ideal.main_arg1)))
    (h2 : (m' ((c.tc : Thread Cert.Reference3Ideal.nD Cert.Reference3Ideal.τ).loc Cert.Reference3Ideal.main_arg2)) = (m ((c.tc : Thread Cert.Kernel3Ideal.nD Cert.Kernel3Ideal.τ).loc Cert.Kernel3Ideal.main_arg2)))
    (h3 : (m' ((c.tc : Thread Cert.Reference3Ideal.nD Cert.Reference3Ideal.τ).loc Cert.Reference3Ideal.main_arg3)) = (m ((c.tc : Thread Cert.Kernel3Ideal.nD Cert.Kernel3Ideal.τ).loc Cert.Kernel3Ideal.main_arg3))) (r : Fin 8192) (w : Fin 2048 → EReal) :
    Cert.Reference3Ideal.Proj.resR (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3)) r w = Cert.Kernel3Ideal.Proj.resK m c r w := by
  rw [h0, h1, h2, h3]
  rfl

private theorem wt3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h4 : (m' ((c.tc : Thread Cert.Reference3Ideal.nD Cert.Reference3Ideal.τ).loc Cert.Reference3Ideal.main_arg4)) = (m ((c.tc : Thread Cert.Kernel3Ideal.nD Cert.Kernel3Ideal.τ).loc Cert.Kernel3Ideal.main_arg4))) :
    Cert.Reference3Ideal.Proj.wt (m' ((c.tc : Thread Cert.Reference3Ideal.nD Cert.Reference3Ideal.τ).loc Cert.Reference3Ideal.main_arg4)) = Cert.Kernel3Ideal.Proj.a4 m c := by
  rw [h4]
  rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, Idealize.ShloMosaic.sem_eq_zero_of_no_sems (by decide) r.2⟩)
    (Cert.Reference2Ideal.Value.run (F := Ideal) m ρ),
  fun m ρ _ => Cert.Kernel3.Proj.frame m ρ,
  fun m ρ _ => Cert.Kernel3Ideal.Proj.frame m ρ,
  fun m ρ _ => (θ_run Cert.Reference3Ideal.defs _ _).mono (fun r h => ⟨fun c => (h c).2.2.2.2.2.2, Idealize.ShloMosaic.sem_eq_zero_of_no_sems (by decide) r.2⟩)
    (Cert.Reference3Ideal.Value.run (F := Ideal) m ρ),
  ⟨IdealRules.named_const.statement Cert.KernelIdeal.κ "scale" .f32 0x3DB504F3#32 _ rfl,
    IdealRules.named_const.statement Cert.KernelIdeal.κ "mask" .f32 0xF149F2CA#32 _ rfl⟩,
  by
  intro m ρ m' ρ' _ hag
  refine ⟨fun c => (fun y => Cert.KernelIdeal.Body.resK m c (y 0) (y 1)), ?_, ?_⟩
  · exact (θ_run Cert.KernelIdeal.defs _ _).mono (fun _ h c => ⟨(h c).1.trans (Cert.KernelIdeal.Body.result_at m c), (h c).2⟩)
      (Cert.KernelIdeal.Value.run_blocks m ρ)
  · refine (θ_run Cert.ReferenceIdeal.defs _ _).mono (fun _ h c => ⟨(h c).1.trans ?_, (h c).2⟩) (Cert.ReferenceIdeal.Value.run (F := Ideal) m' ρ')
    refine (Cert.ReferenceIdeal.Read.val_main_v232_eq (F := Ideal) (StableHlo.launchContents m' c)).trans ?_
    refine (result_ref m' c).trans ?_
    obtain ⟨h0, h1, h2, h3, h4, h5⟩ := hag c
    rw [h0, h1, h2, h3, h4, h5]
    rfl, trivial, by
  intro m ρ m' ρ' _ hag
  refine ⟨fun c => (fun y => Cert.Kernel2Ideal.Out.resK m c (y 0) (y 1)), ?_, ?_⟩
  · exact (θ_run Cert.Kernel2Ideal.defs _ _).mono (fun _ h c => ⟨(h c).1.trans (Cert.Kernel2Ideal.Out.result_at m c), (h c).2⟩)
      (Cert.Kernel2Ideal.Value.run_blocks m ρ)
  · refine (θ_run Cert.Reference2Ideal.defs _ _).mono (fun _ h c => ⟨(h c).1.trans ?_, (h c).2⟩) (Cert.Reference2Ideal.Value.run (F := Ideal) m' ρ')
    refine (Cert.Reference2Ideal.Read.val_main_v25_eq (F := Ideal) _ _ _ _ _ _).trans ?_
    refine (result_ref2 m' c).trans ?_
    obtain ⟨h0, h1, h2, h3, h4, h5⟩ := hag c
    rw [h0, h1, h2, h3, h4, h5]
    rfl, trivial, by
  intro m ρ m' ρ' _ hag
  refine ⟨fun c => (Cert.Kernel3Ideal.Proj.dats m 0 c).arrAt 6 Cert.Kernel3Ideal.cfg0.N, fun c => (Cert.Kernel3Ideal.Proj.dats m 0 c).arrAt 7 Cert.Kernel3Ideal.cfg0.N,
    fun c => (Cert.Kernel3Ideal.Proj.dats m 0 c).arrAt 8 Cert.Kernel3Ideal.cfg0.N, fun c => (Cert.Kernel3Ideal.Proj.dats m 0 c).arrAt 9 Cert.Kernel3Ideal.cfg0.N,
    fun c => (Cert.Kernel3Ideal.Proj.dats m 0 c).arrAt 10 Cert.Kernel3Ideal.cfg0.N, fun c => (Cert.Kernel3Ideal.Proj.dats m 0 c).arrAt 11 Cert.Kernel3Ideal.cfg0.N, ?_, ?_⟩
  · exact (θ_run Cert.Kernel3Ideal.defs _ _).mono (fun _ h c => ⟨(h.1 c).1 6, (h.1 c).1 7, (h.1 c).1 8, (h.1 c).1 9, (h.1 c).1 10, (h.1 c).1 11, h.2.1 c⟩)
      (θ_run_and (Cert.Kernel3Ideal.Proj.run_main m ρ) (Cert.Kernel3Ideal.Proj.frame m ρ))
  · refine (θ_run Cert.Reference3Ideal.defs _ _).mono (fun _ h c => ?_) (Cert.Reference3Ideal.Value.run (F := Ideal) m' ρ')
    obtain ⟨h0, h1, h2, h3, h4⟩ := hag c
    have hR := same3 m m' c h0 h1 h2 h3
    have hW := wt3 m m' c h4
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · refine (Cert.Reference3Ideal.Read.val_main_v35_eq (F := Ideal) _ _ _ _ _).trans ?_
      refine (Cert.Reference3Ideal.Proj.q_all _ _ _ _ _).trans ?_
      refine Eq.trans (funext fun y => ?_) (Cert.Kernel3Ideal.Proj.result6 m c).symm
      exact (hR _ _).trans (by rw [hW])
    · refine (Cert.Reference3Ideal.Read.val_main_v26_eq (F := Ideal) _ _ _ _ _).trans ?_
      refine (Cert.Reference3Ideal.Proj.kv_all _ _ _ _ _).trans ?_
      refine Eq.trans (funext fun y => ?_) (Cert.Kernel3Ideal.Proj.result7 m c).symm
      exact (hR _ _).trans (by rw [hW])
    · refine (Cert.Reference3Ideal.Read.val_main_v36_eq (F := Ideal) _ _ _ _ _).trans ?_
      refine (Cert.Reference3Ideal.Proj.kv16_all _ _ _ _ _).trans ?_
      refine Eq.trans (funext fun y => ?_) (Cert.Kernel3Ideal.Proj.result8 m c).symm
      exact (hR _ _).trans (by rw [hW])
    · refine (Cert.Reference3Ideal.Read.val_main_v37_eq (F := Ideal) _ _ _ _ _).trans ?_
      refine (Cert.Reference3Ideal.Proj.restwin_all _ _ _ _ _).trans ?_
      refine Eq.trans (funext fun y => ?_) (Cert.Kernel3Ideal.Proj.result9 m c).symm
      exact (hR _ _).trans (by rw [hW])
    · refine (Cert.Reference3Ideal.Read.val_main_v38_eq (F := Ideal) _ _ _ _ _).trans ?_
      refine (Cert.Reference3Ideal.Proj.win16_all _ _ _ _ _).trans ?_
      refine Eq.trans (funext fun y => ?_) (Cert.Kernel3Ideal.Proj.result10 m c).symm
      exact (hR _ _).trans (by rw [hW])
    · refine (Cert.Reference3Ideal.Read.val_main_v34_eq (F := Ideal) _ _ _ _ _).trans ?_
      refine (Cert.Reference3Ideal.Proj.gate_all _ _ _ _ _).trans ?_
      refine Eq.trans (funext fun y => ?_) (Cert.Kernel3Ideal.Proj.result11 m c).symm
      exact (hR (y 0) (Cert.In.gateCol _ (y 1))).trans (congrArg (fun w => Cert.Kernel3Ideal.Proj.resK m c (y 0) (Cert.In.gateCol w (y 1))) hW)⟩

end Cert.Proof

end
